-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_ctx_finite [hPre_ctx_finite : Cert.Pre_ctx_finite.Facts] (m : (ℓ : Loc Cert.CtxIdeal.nD Cert.CtxIdeal.τ Cert.CtxIdeal.sig) → Buf (Elt Ideal) ℓ) : Prop :=
  ∀ c : Dev Cert.CtxIdeal.nD,
    (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_ctx_finite [hPre_ctx_finite : Cert.Pre_ctx_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6))) = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxIdeal_pre_ctx_finite [hCtxIdeal : Cert.CtxIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_ctx_finite m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def quiescent_CtxRefIdeal_pre_ctx_finite [hCtxRefIdeal : Cert.CtxRefIdeal.Facts] [hPre_ctx_finite : Cert.Pre_ctx_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_ctx_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def preserves_Diff_DiffIdeal : Prop :=
  IdealRules.named_const.Statement Cert.DiffIdeal.κ "score_scale" .f32 0x3E8293EE#32 (((11863283 / 67108864) * (Real.log 2)⁻¹ : ℝ) : EReal)
  ∧ IdealRules.shift_out.By16TwiceStatement Cert.DiffIdeal.S8x128

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)) →
    ∃ (v0 : (c : Dev Cert.DiffIdeal.nD) → Buf (Elt Ideal) ((c.tc : Thread Cert.DiffIdeal.nD Cert.DiffIdeal.τ).loc Cert.DiffIdeal.main_v13)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v13) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v86) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v45) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v19) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Ctx_CtxIdeal : Prop :=
  True

def algebraic_CtxIdeal_CtxRefIdeal_pre_ctx_finite [hCtxIdeal : Cert.CtxIdeal.Facts] [hCtxRefIdeal : Cert.CtxRefIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_ctx_finite m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)) →
    ∃ (v0 : (c : Dev Cert.CtxIdeal.nD) → Buf (Elt Ideal) ((c.tc : Thread Cert.CtxIdeal.nD Cert.CtxIdeal.τ).loc Cert.CtxIdeal.main_v20_0)) (v1 : (c : Dev Cert.CtxIdeal.nD) → Buf (Elt Ideal) ((c.tc : Thread Cert.CtxIdeal.nD Cert.CtxIdeal.τ).loc Cert.CtxIdeal.main_v20_1)) (v2 : (c : Dev Cert.CtxIdeal.nD) → Buf (Elt Ideal) ((c.tc : Thread Cert.CtxIdeal.nD Cert.CtxIdeal.τ).loc Cert.CtxIdeal.main_v20_2)) (v3 : (c : Dev Cert.CtxIdeal.nD) → Buf (Elt Ideal) ((c.tc : Thread Cert.CtxIdeal.nD Cert.CtxIdeal.τ).loc Cert.CtxIdeal.main_v20_3)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v20_0) = v0 c
          ∧ r.2.mem ((c.tc : Thread Cert.CtxIdeal.nD Cert.CtxIdeal.τ).loc Cert.CtxIdeal.main_v20_1) = v1 c
          ∧ r.2.mem ((c.tc : Thread Cert.CtxIdeal.nD Cert.CtxIdeal.τ).loc Cert.CtxIdeal.main_v20_2) = v2 c
          ∧ r.2.mem ((c.tc : Thread Cert.CtxIdeal.nD Cert.CtxIdeal.τ).loc Cert.CtxIdeal.main_v20_3) = v3 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v172) = v0 c
          ∧ r.2.mem ((c.tc : Thread Cert.CtxRefIdeal.nD Cert.CtxRefIdeal.τ).loc Cert.CtxRefIdeal.main_v174) = v1 c
          ∧ r.2.mem ((c.tc : Thread Cert.CtxRefIdeal.nD Cert.CtxRefIdeal.τ).loc Cert.CtxRefIdeal.main_v45) = v2 c
          ∧ r.2.mem ((c.tc : Thread Cert.CtxRefIdeal.nD Cert.CtxRefIdeal.τ).loc Cert.CtxRefIdeal.main_v49) = v3 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6))

def Claim : Prop :=
  ∃ (hDiff : Cert.Diff.Facts) (hDiffIdeal : Cert.DiffIdeal.Facts) (hDiffRefIdeal : Cert.DiffRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hCtx : Cert.Ctx.Facts) (hCtxIdeal : Cert.CtxIdeal.Facts) (hCtxRefIdeal : Cert.CtxRefIdeal.Facts) (hPre_diff_finite : Cert.Pre_diff_finite.Facts) (hPre_ctx_finite : Cert.Pre_ctx_finite.Facts),
    quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ctx (hCtx := hCtx)
    ∧ quiescent_CtxIdeal (hCtxIdeal := hCtxIdeal)
    ∧ quiescent_CtxIdeal_pre_ctx_finite (hCtxIdeal := hCtxIdeal) (hPre_ctx_finite := hPre_ctx_finite)
    ∧ quiescent_CtxRefIdeal (hCtxRefIdeal := hCtxRefIdeal)
    ∧ quiescent_CtxRefIdeal_pre_ctx_finite (hCtxRefIdeal := hCtxRefIdeal) (hPre_ctx_finite := hPre_ctx_finite)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ctx_CtxIdeal
    ∧ algebraic_CtxIdeal_CtxRefIdeal_pre_ctx_finite (hCtxIdeal := hCtxIdeal) (hCtxRefIdeal := hCtxRefIdeal) (hPre_ctx_finite := hPre_ctx_finite)
-- ==== Pre_ctx_finite.lean ====
abbrev S16384x2560 : Shape := ⟨2, ![16384, 2560]⟩
abbrev S64 : Shape := ⟨1, ![64]⟩
abbrev S32 : Shape := ⟨1, ![32]⟩
abbrev S4x32 : Shape := ⟨2, ![4, 32]⟩
abbrev S8192x512 : Shape := ⟨2, ![8192, 512]⟩
abbrev S_ : Shape := ⟨0, ![]⟩
abbrev S8192x768 : Shape := ⟨2, ![8192, 768]⟩

class Facts : Prop where
  slices_S16384x2560_S8192x512_0_512 : S16384x2560.Slices ![0, 512] S8192x512
  bcast_S_S8192x512 : S_.BroadcastsInDim S8192x512 (![] : Fin 0 → Fin S8192x512.rank)
  reducesTo_S8192x512_S_d0_1 : S8192x512.ReducesTo [0, 1] S_
  h_S_ : 0 < S_.numel
  slices_S16384x2560_S8192x768_0_1280 : S16384x2560.Slices ![0, 1280] S8192x768
  bcast_S_S8192x768 : S_.BroadcastsInDim S8192x768 (![] : Fin 0 → Fin S8192x768.rank)
  reducesTo_S8192x768_S_d0_1 : S8192x768.ReducesTo [0, 1] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_
  bcast_S_S4x32 : S_.BroadcastsInDim S4x32 (![] : Fin 0 → Fin S4x32.rank)
  reducesTo_S4x32_S_d0_1 : S4x32.ReducesTo [0, 1] S_

variable [Facts]

def fn_part2 {F : FTy → Type} [FloatOps F] (main_v30 : IVec S_ 1) (main_v33 : IVec S4x32 1) (main_c_11 : IVec S_ 1) : IVec S_ 1 :=
  let main_v34 : IVec S_ 1 := (fun x v => Host.reduce IntOp.andi x v reducesTo_S4x32_S_d0_1 h_S_) main_v33 main_c_11
  let main_v35 : IVec S_ 1 := andi main_v30 main_v34
  main_v35

def fn_part1 {F : FTy → Type} [FloatOps F] (main_arg3 : FVec F S32 .f32) (main_arg4 : FVec F S32 .f32) (main_arg6 : FVec F S4x32 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S32 .f32 := Host.absf main_arg3
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_c_7 : IVec S_ 1 := constantI S_ 1 1#1
  let main_v24 : IVec S_ 1 := (fun x v => Host.reduce IntOp.andi x v reducesTo_S32_S_d0 h_S_) main_v23 main_c_7
  let main_v25 : IVec S_ 1 := andi main_v20 main_v24
  let main_v26 : FVec F S32 .f32 := Host.absf main_arg4
  let main_cst_8 : FVec F S_ .f32 := constant S_ .f32 0x7F800000#32
  let main_v27 : FVec F S32 .f32 := broadcastInDim S32 ![] bcast_S_S32 main_cst_8
  let main_v28 : IVec S32 1 := cmpf .olt main_v26 main_v27
  let main_c_9 : IVec S_ 1 := constantI S_ 1 1#1
  let main_v29 : IVec S_ 1 := (fun x v => Host.reduce IntOp.andi x v reducesTo_S32_S_d0 h_S_) main_v28 main_c_9
  let main_v30 : IVec S_ 1 := andi main_v25 main_v29
  let main_v31 : FVec F S4x32 .f32 := Host.absf main_arg6
  let main_cst_10 : FVec F S_ .f32 := constant S_ .f32 0x7F800000#32
  let main_v32 : FVec F S4x32 .f32 := broadcastInDim S4x32 ![] bcast_S_S4x32 main_cst_10
  let main_v33 : IVec S4x32 1 := cmpf .olt main_v31 main_v32
  let main_c_11 : IVec S_ 1 := constantI S_ 1 1#1
  fn_part2 (F := F) main_v30 main_v33 main_c_11

def fn {F : FTy → Type} [FloatOps F] (main_arg0 : FVec F S16384x2560 .f32) (main_arg1 : FVec F S64 .f32) (main_arg2 : FVec F S64 .f32) (main_arg3 : FVec F S32 .f32) (main_arg4 : FVec F S32 .f32) (main_arg5 : FVec F S64 .f32) (main_arg6 : FVec F S4x32 .f32) : IVec S_ 1 :=
  let main_v0 : FVec F S8192x512 .f32 := (extractStridedSlice S8192x512 ![0, 512] · slices_S16384x2560_S8192x512_0_512) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x768 .f32 := (extractStridedSlice S8192x768 ![0, 1280] · slices_S16384x2560_S8192x768_0_1280) main_arg0
  let main_v6 : FVec F S8192x768 .f32 := Host.absf main_v5
  let main_cst_0 : FVec F S_ .f32 := constant S_ .f32 0x7F800000#32
  let main_v7 : FVec F S8192x768 .f32 := broadcastInDim S8192x768 ![] bcast_S_S8192x768 main_cst_0
  let main_v8 : IVec S8192x768 1 := cmpf .olt main_v6 main_v7
  let main_c_1 : IVec S_ 1 := constantI S_ 1 1#1
  let main_v9 : IVec S_ 1 := (fun x v => Host.reduce IntOp.andi x v reducesTo_S8192x768_S_d0_1 h_S_) main_v8 main_c_1
  let main_v10 : IVec S_ 1 := andi main_v4 main_v9
  let main_v11 : FVec F S64 .f32 := Host.absf main_arg1
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg2
  let main_cst_4 : FVec F S_ .f32 := constant S_ .f32 0x7F800000#32
  fn_part1 (F := F) main_arg3 main_arg4 main_arg6 main_v15 main_v16 main_cst_4
-- ==== Pre_diff_finite.lean ====
abbrev S8192x256 : Shape := ⟨2, ![8192, 256]⟩
abbrev S2x4x256x64 : Shape := ⟨4, ![2, 4, 256, 64]⟩
abbrev S64 : Shape := ⟨1, ![64]⟩
abbrev S4x32 : Shape := ⟨2, ![4, 32]⟩
abbrev S_ : Shape := ⟨0, ![]⟩

class Facts : Prop where
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2x4x256x64 : S_.BroadcastsInDim S2x4x256x64 (![] : Fin 0 → Fin S2x4x256x64.rank)
  reducesTo_S2x4x256x64_S_d0_1_2_3 : S2x4x256x64.ReducesTo [0, 1, 2, 3] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_arg4 : FVec F S2x4x256x64 .f32) (main_arg6 : FVec F S4x32 .f32) (main_v16 : IVec S_ 1) (main_v17 : FVec F S2x4x256x64 .f32) : IVec S_ 1 :=
  let main_cst_4 : FVec F S_ .f32 := constant S_ .f32 0x7F800000#32
  let main_v18 : FVec F S2x4x256x64 .f32 := broadcastInDim S2x4x256x64 ![] bcast_S_S2x4x256x64 main_cst_4
  let main_v19 : IVec S2x4x256x64 1 := cmpf .olt main_v17 main_v18
  let main_c_5 : IVec S_ 1 := constantI S_ 1 1#1
  let main_v20 : IVec S_ 1 := (fun x v => Host.reduce IntOp.andi x v reducesTo_S2x4x256x64_S_d0_1_2_3 h_S_) main_v19 main_c_5
  let main_v21 : IVec S_ 1 := andi main_v16 main_v20
  let main_v22 : FVec F S2x4x256x64 .f32 := Host.absf main_arg4
  let main_cst_6 : FVec F S_ .f32 := constant S_ .f32 0x7F800000#32
  let main_v23 : FVec F S2x4x256x64 .f32 := broadcastInDim S2x4x256x64 ![] bcast_S_S2x4x256x64 main_cst_6
  let main_v24 : IVec S2x4x256x64 1 := cmpf .olt main_v22 main_v23
  let main_c_7 : IVec S_ 1 := constantI S_ 1 1#1
  let main_v25 : IVec S_ 1 := (fun x v => Host.reduce IntOp.andi x v reducesTo_S2x4x256x64_S_d0_1_2_3 h_S_) main_v24 main_c_7
  let main_v26 : IVec S_ 1 := andi main_v21 main_v25
  let main_v27 : FVec F S4x32 .f32 := Host.absf main_arg6
  let main_cst_8 : FVec F S_ .f32 := constant S_ .f32 0x7F800000#32
  let main_v28 : FVec F S4x32 .f32 := broadcastInDim S4x32 ![] bcast_S_S4x32 main_cst_8
  let main_v29 : IVec S4x32 1 := cmpf .olt main_v27 main_v28
  let main_c_9 : IVec S_ 1 := constantI S_ 1 1#1
  let main_v30 : IVec S_ 1 := (fun x v => Host.reduce IntOp.andi x v reducesTo_S4x32_S_d0_1 h_S_) main_v29 main_c_9
  let main_v31 : IVec S_ 1 := andi main_v26 main_v30
  main_v31

def fn {F : FTy → Type} [FloatOps F] (main_arg0 : FVec F S8192x256 .bf16) (main_arg1 : FVec F S8192x256 .bf16) (main_arg2 : FVec F S8192x256 .bf16) (main_arg3 : FVec F S2x4x256x64 .f32) (main_arg4 : FVec F S2x4x256x64 .f32) (main_arg5 : FVec F S64 .f32) (main_arg6 : FVec F S4x32 .f32) : IVec S_ 1 :=
  let main_v0 : FVec F S8192x256 .f32 := (extf .f32 · bitsLt_bf16_f32) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_c : IVec S_ 1 := constantI S_ 1 1#1
  let main_v4 : IVec S_ 1 := (fun x v => Host.reduce IntOp.andi x v reducesTo_S8192x256_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S8192x256 .f32 := (extf .f32 · bitsLt_bf16_f32) main_arg2
  let main_v12 : FVec F S8192x256 .f32 := Host.absf main_v11
  let main_cst_2 : FVec F S_ .f32 := constant S_ .f32 0x7F800000#32
  let main_v13 : FVec F S8192x256 .f32 := broadcastInDim S8192x256 ![] bcast_S_S8192x256 main_cst_2
  let main_v14 : IVec S8192x256 1 := cmpf .olt main_v12 main_v13
  let main_c_3 : IVec S_ 1 := constantI S_ 1 1#1
  let main_v15 : IVec S_ 1 := (fun x v => Host.reduce IntOp.andi x v reducesTo_S8192x256_S_d0_1 h_S_) main_v14 main_c_3
  let main_v16 : IVec S_ 1 := andi main_v10 main_v15
  let main_v17 : FVec F S2x4x256x64 .f32 := Host.absf main_arg3
  fn_part1 (F := F) main_arg4 main_arg6 main_v16 main_v17
-- ==== Diff.lean ====
abbrev S8192x256 : Shape := ⟨2, ![8192, 256]⟩
abbrev S2x4x256x64 : Shape := ⟨4, ![2, 4, 256, 64]⟩
abbrev S64 : Shape := ⟨1, ![64]⟩
abbrev S4x32 : Shape := ⟨2, ![4, 32]⟩
abbrev S2x4096x256 : Shape := ⟨3, ![2, 4096, 256]⟩
abbrev S2x256x4096 : Shape := ⟨3, ![2, 256, 4096]⟩
abbrev S2x256x4x64 : Shape := ⟨4, ![2, 256, 4, 64]⟩
abbrev S2x256x256 : Shape := ⟨3, ![2, 256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S128x256 : Shape := ⟨2, ![128, 256]⟩
abbrev S1x256x4096 : Shape := ⟨3, ![1, 256, 4096]⟩
abbrev S4096x256 : Shape := ⟨2, ![4096, 256]⟩
abbrev S1x256x256 : Shape := ⟨3, ![1, 256, 256]⟩
abbrev S8x1024x512 : Shape := ⟨3, ![8, 1024, 512]⟩
abbrev S1024x256 : Shape := ⟨2, ![1024, 256]⟩
abbrev S1x32 : Shape := ⟨2, ![1, 32]⟩
abbrev S1 : Shape := ⟨1, ![1]⟩
abbrev S1x1 : Shape := ⟨2, ![1, 1]⟩
abbrev S1024x128 : Shape := ⟨2, ![1024, 128]⟩
abbrev S1x256x512 : Shape := ⟨3, ![1, 256, 512]⟩
abbrev S256x512 : Shape := ⟨2, ![256, 512]⟩
abbrev S1024x512 : Shape := ⟨2, ![1024, 512]⟩
abbrev S1x1024x512 : Shape := ⟨3, ![1, 1024, 512]⟩
abbrev S256x256 : Shape := ⟨2, ![256, 256]⟩
abbrev S1024 : Shape := ⟨1, ![1024]⟩
abbrev S1024x1 : Shape := ⟨2, ![1024, 1]⟩
abbrev S512x256 : Shape := ⟨2, ![512, 256]⟩
abbrev S512x512 : Shape := ⟨2, ![512, 512]⟩
abbrev S8x128 : Shape := ⟨2, ![8, 128]⟩

abbrev nBuf : Space → Nat
  | .hbm => 21
  | .vmem => 16
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S2x4x256x64, .f32⟩
  | .hbm, ⟨4, _⟩ => ⟨S2x4x256x64, .f32⟩
  | .hbm, ⟨5, _⟩ => ⟨S64, .f32⟩
  | .hbm, ⟨6, _⟩ => ⟨S4x32, .f32⟩
  | .hbm, ⟨7, _⟩ => ⟨S2x4096x256, .bf16⟩
  | .hbm, ⟨8, _⟩ => ⟨S2x256x4096, .bf16⟩
  | .hbm, ⟨9, _⟩ => ⟨S2x256x4x64, .f32⟩
  | .hbm, ⟨10, _⟩ => ⟨S2x256x256, .f32⟩
  | .hbm, ⟨11, _⟩ => ⟨S2x256x256, .bf16⟩
  | .hbm, ⟨12, _⟩ => ⟨S2x256x256, .bf16⟩
  | .hbm, ⟨13, _⟩ => ⟨S2x256x4x64, .f32⟩
  | .hbm, ⟨14, _⟩ => ⟨S2x256x256, .f32⟩
  | .hbm, ⟨15, _⟩ => ⟨S2x256x256, .bf16⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S1x256, .f32⟩
  | .hbm, ⟨20, _⟩ => ⟨S8192x256, .f32⟩
  | .local _ .vmem, ⟨0, _⟩ => ⟨S128x256, .bf16⟩
  | .local _ .vmem, ⟨1, _⟩ => ⟨S128x256, .bf16⟩
  | .local _ .vmem, ⟨2, _⟩ => ⟨S1x256x4096, .bf16⟩
  | .local _ .vmem, ⟨3, _⟩ => ⟨S1x256x4096, .bf16⟩
  | .local _ .vmem, ⟨4, _⟩ => ⟨S4096x256, .bf16⟩
  | .local _ .vmem, ⟨5, _⟩ => ⟨S4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256, .f32⟩
  | .local _ .vmem, ⟨11, _⟩ => ⟨S4x32, .f32⟩
  | .local _ .vmem, ⟨12, _⟩ => ⟨S128x256, .f32⟩
  | .local _ .vmem, ⟨13, _⟩ => ⟨S128x256, .f32⟩
  | .local _ .vmem, ⟨14, _⟩ => ⟨S8x1024x512, .f32⟩
  | .local _ .vmem, ⟨15, _⟩ => ⟨S1024x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨2, ![2, 32], ![false, false]⟩

def k0_off1 (i : grid0.Coords) (c0_i32_24 : BitVec 32) : Fin 3 → Nat :=
  let arg1 : BitVec 32 := BitVec.ofNat 32 (i 1).val
  let v95 : BitVec 32 := Scalar.addi c0_i32_24 arg1
  let c8_i32 : BitVec 32 := 8#32
  let c0_i32_25 : BitVec 32 := 0#32
  let v96 : BitVec 1 := Scalar.cmpi .eq c8_i32 c0_i32_25
  let c1_i32_26 : BitVec 32 := 1#32
  let v97 : BitVec 32 := Scalar.select v96 c1_i32_26 c8_i32
  let v98 : BitVec 32 := Scalar.remsi v95 v97
  let c0_i32_28 : BitVec 32 := 0#32
  let v100 : BitVec 1 := Scalar.cmpi .slt v98 c0_i32_28
  let c0_i32_29 : BitVec 32 := 0#32
  let v101 : BitVec 1 := Scalar.cmpi .slt v97 c0_i32_29
  let v102 : BitVec 1 := Scalar.xori v100 v101
  let c0_i32_27 : BitVec 32 := 0#32
  let v99 : BitVec 1 := Scalar.cmpi .ne v98 c0_i32_27
  let v103 : BitVec 1 := Scalar.andi v102 v99
  let v104 : BitVec 32 := Scalar.addi v98 v97
  let v105 : BitVec 32 := Scalar.select v103 v104 v98
  let v106 : Index := Scalar.indexCast v105
  let c0_30 : Index := 0#32
  let c0_31 : Index := 0#32
  ![v106.toNat, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DiffIdeal.lean ====
variable {F : FTy → Type} [FloatOps F] [Named F]
def κ : String → Option EReal := fun
  | "score_scale" => some (((11863283 / 67108864) * (Real.log 2)⁻¹ : ℝ) : EReal)
  | _ => none
-- ==== DiffRefIdeal.lean ====
abbrev S8192x256 : Shape := ⟨2, ![8192, 256]⟩
abbrev S2x4x256x64 : Shape := ⟨4, ![2, 4, 256, 64]⟩
abbrev S64 : Shape := ⟨1, ![64]⟩
abbrev S4x32 : Shape := ⟨2, ![4, 32]⟩
abbrev S2x4096x4x2x32 : Shape := ⟨5, ![2, 4096, 4, 2, 32]⟩
abbrev S2x4x2x4096x32 : Shape := ⟨5, ![2, 4, 2, 4096, 32]⟩
abbrev S2x4096x4x64 : Shape := ⟨4, ![2, 4096, 4, 64]⟩
abbrev S2x4x4096x64 : Shape := ⟨4, ![2, 4, 4096, 64]⟩
abbrev S2x4x1x4096x32 : Shape := ⟨5, ![2, 4, 1, 4096, 32]⟩
abbrev S2x4x4096x32 : Shape := ⟨4, ![2, 4, 4096, 32]⟩
abbrev S2x4x256x32 : Shape := ⟨4, ![2, 4, 256, 32]⟩
abbrev S2x4x4352x32 : Shape := ⟨4, ![2, 4, 4352, 32]⟩
abbrev S2x4x4352x64 : Shape := ⟨4, ![2, 4, 4352, 64]⟩
abbrev S1x32 : Shape := ⟨2, ![1, 32]⟩
abbrev S32 : Shape := ⟨1, ![32]⟩
abbrev S_ : Shape := ⟨0, ![]⟩
abbrev S2x4x4096x4352 : Shape := ⟨4, ![2, 4, 4096, 4352]⟩
abbrev S2x4x4096 : Shape := ⟨3, ![2, 4, 4096]⟩
abbrev S2x4x4096x1 : Shape := ⟨4, ![2, 4, 4096, 1]⟩
abbrev S1x1x1x64 : Shape := ⟨4, ![1, 1, 1, 64]⟩

abbrev nBuf : Space → Nat
  | .hbm => 109
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S2x4x256x64, .f32⟩
  | .hbm, ⟨4, _⟩ => ⟨S2x4x256x64, .f32⟩
  | .hbm, ⟨5, _⟩ => ⟨S64, .f32⟩
  | .hbm, ⟨6, _⟩ => ⟨S4x32, .f32⟩
  | .hbm, ⟨7, _⟩ => ⟨S8192x256, .f32⟩
  | .hbm, ⟨8, _⟩ => ⟨S2x4096x4x2x32, .f32⟩
  | .hbm, ⟨9, _⟩ => ⟨S2x4x2x4096x32, .f32⟩
  | .hbm, ⟨10, _⟩ => ⟨S8192x256, .f32⟩
  | .hbm, ⟨11, _⟩ => ⟨S2x4096x4x2x32, .f32⟩
  | .hbm, ⟨12, _⟩ => ⟨S2x4x2x4096x32, .f32⟩
  | .hbm, ⟨13, _⟩ => ⟨S8192x256, .f32⟩
  | .hbm, ⟨14, _⟩ => ⟨S2x4096x4x64, .f32⟩
  | .hbm, ⟨15, _⟩ => ⟨S2x4x4096x64, .f32⟩
  | .hbm, ⟨16, _⟩ => ⟨S2x4x1x4096x32, .f32⟩
  | .hbm, ⟨17, _⟩ => ⟨S2x4x4096x32, .f32⟩
  | .hbm, ⟨18, _⟩ => ⟨S2x4x256x32, .f32⟩
  | .hbm, ⟨19, _⟩ => ⟨S2x4x4352x32, .f32⟩
  | .hbm, ⟨20, _⟩ => ⟨S2x4x1x4096x32, .f32⟩
  | .hbm, ⟨21, _⟩ => ⟨S2x4x4096x32, .f32⟩
  | .hbm, ⟨22, _⟩ => ⟨S2x4x256x32, .f32⟩
  | .hbm, ⟨23, _⟩ => ⟨S2x4x4352x32, .f32⟩
  | .hbm, ⟨24, _⟩ => ⟨S2x4x4352x64, .f32⟩
  | .hbm, ⟨25, _⟩ => ⟨S1x32, .f32⟩
  | .hbm, ⟨26, _⟩ => ⟨S32, .f32⟩
  | .hbm, ⟨27, _⟩ => ⟨S1x32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x32, .f32⟩
  | .hbm, ⟨34, _⟩ => ⟨S32, .f32⟩
  | .hbm, ⟨35, _⟩ => ⟨S1x32, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x4x1x4096x32, .f32⟩
  | .hbm, ⟨45, _⟩ => ⟨S2x4x4096x32, .f32⟩
  | .hbm, ⟨46, _⟩ => ⟨S2x4x4096x4352, .f32⟩
  | .hbm, ⟨47, _⟩ => ⟨S_, .f32⟩
  | .hbm, ⟨48, _⟩ => ⟨S2x4x4096x4352, .f32⟩
  | .hbm, ⟨49, _⟩ => ⟨S2x4x4096x4352, .f32⟩
  | .hbm, ⟨50, _⟩ => ⟨S2x4x1x4096x32, .f32⟩
  | .hbm, ⟨51, _⟩ => ⟨S2x4x4096x32, .f32⟩
  | .hbm, ⟨52, _⟩ => ⟨S2x4x4096x4352, .f32⟩
  | .hbm, ⟨53, _⟩ => ⟨S_, .f32⟩
  | .hbm, ⟨54, _⟩ => ⟨S2x4x4096x4352, .f32⟩
  | .hbm, ⟨55, _⟩ => ⟨S2x4x4096x4352, .f32⟩
  | .hbm, ⟨56, _⟩ => ⟨S_, .f32⟩
  | .hbm, ⟨57, _⟩ => ⟨S2x4x4096, .f32⟩
  | .hbm, ⟨58, _⟩ => ⟨S_, .f32⟩
  | .hbm, ⟨59, _⟩ => ⟨S2x4x4096, .f32⟩
  | .hbm, ⟨60, _⟩ => ⟨S2x4x4096, .f32⟩
  | .hbm, ⟨61, _⟩ => ⟨S2x4x4096x1, .f32⟩
  | .hbm, ⟨62, _⟩ => ⟨S2x4x4096x4352, .f32⟩
  | .hbm, ⟨63, _⟩ => ⟨S2x4x4096x4352, .f32⟩
  | .hbm, ⟨64, _⟩ => ⟨S2x4x4096x4352, .f32⟩
  | .hbm, ⟨65, _⟩ => ⟨S_, .f32⟩
  | .hbm, ⟨66, _⟩ => ⟨S2x4x4096, .f32⟩
  | .hbm, ⟨67, _⟩ => ⟨S2x4x4096x1, .f32⟩
  | .hbm, ⟨68, _⟩ => ⟨S2x4x4096x4352, .f32⟩
  | .hbm, ⟨69, _⟩ => ⟨S2x4x4096x4352, .f32⟩
  | .hbm, ⟨70, _⟩ => ⟨S_, .f32⟩
  | .hbm, ⟨71, _⟩ => ⟨S2x4x4096, .f32⟩
  | .hbm, ⟨72, _⟩ => ⟨S_, .f32⟩
  | .hbm, ⟨73, _⟩ => ⟨S2x4x4096, .f32⟩
  | .hbm, ⟨74, _⟩ => ⟨S2x4x4096, .f32⟩
  | .hbm, ⟨75, _⟩ => ⟨S2x4x4096x1, .f32⟩
  | .hbm, ⟨76, _⟩ => ⟨S2x4x4096x4352, .f32⟩
  | .hbm, ⟨77, _⟩ => ⟨S2x4x4096x4352, .f32⟩
  | .hbm, ⟨78, _⟩ => ⟨S2x4x4096x4352, .f32⟩
  | .hbm, ⟨79, _⟩ => ⟨S_, .f32⟩
  | .hbm, ⟨80, _⟩ => ⟨S2x4x4096, .f32⟩
  | .hbm, ⟨81, _⟩ => ⟨S2x4x4096x1, .f32⟩
  | .hbm, ⟨82, _⟩ => ⟨S2x4x4096x4352, .f32⟩
  | .hbm, ⟨83, _⟩ => ⟨S2x4x4096x4352, .f32⟩
  | .hbm, ⟨84, _⟩ => ⟨S2x4x4096x4352, .f32⟩
  | .hbm, ⟨85, _⟩ => ⟨S2x4x4096x4352, .f32⟩
  | .hbm, ⟨86, _⟩ => ⟨S2x4x4096x4352, .f32⟩
  | .hbm, ⟨87, _⟩ => ⟨S2x4x4096x64, .f32⟩
  | .hbm, ⟨88, _⟩ => ⟨S2x4x4096x64, .f32⟩
  | .hbm, ⟨89, _⟩ => ⟨S_, .f32⟩
  | .hbm, ⟨90, _⟩ => ⟨S2x4x4096, .f32⟩
  | .hbm, ⟨91, _⟩ => ⟨S2x4x4096x1, .f32⟩
  | .hbm, ⟨92, _⟩ => ⟨S_, .f32⟩
  | .hbm, ⟨93, _⟩ => ⟨S2x4x4096x1, .f32⟩
  | .hbm, ⟨94, _⟩ => ⟨S2x4x4096x1, .f32⟩
  | .hbm, ⟨95, _⟩ => ⟨S_, .f32⟩
  | .hbm, ⟨96, _⟩ => ⟨S2x4x4096x1, .f32⟩
  | .hbm, ⟨97, _⟩ => ⟨S2x4x4096x1, .f32⟩
  | .hbm, ⟨98, _⟩ => ⟨S2x4x4096x1, .f32⟩
  | .hbm, ⟨99, _⟩ => ⟨S2x4x4096x64, .f32⟩
  | .hbm, ⟨100, _⟩ => ⟨S2x4x4096x64, .f32⟩
  | .hbm, ⟨101, _⟩ => ⟨S1x1x1x64, .f32⟩
  | .hbm, ⟨102, _⟩ => ⟨S2x4x4096x64, .f32⟩
  | .hbm, ⟨103, _⟩ => ⟨S2x4x4096x64, .f32⟩
  | .hbm, ⟨104, _⟩ => ⟨S_, .f32⟩
  | .hbm, ⟨105, _⟩ => ⟨S2x4x4096x64, .f32⟩
  | .hbm, ⟨106, _⟩ => ⟨S2x4x4096x64, .f32⟩
  | .hbm, ⟨107, _⟩ => ⟨S2x4096x4x64, .f32⟩
  | .hbm, ⟨108, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_13 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩

abbrev nD : Nat := 1
abbrev τ : Topo := Topo.v7x

variable {F : FTy → Type} [FloatOps F]
-- ==== InProj.lean ====
abbrev S16384x1024 : Shape := ⟨2, ![16384, 1024]⟩
abbrev S8x6x1024 : Shape := ⟨3, ![8, 6, 1024]⟩
abbrev S1024 : Shape := ⟨1, ![1024]⟩
abbrev S1024x2560 : Shape := ⟨2, ![1024, 2560]⟩
abbrev S1x1024 : Shape := ⟨2, ![1, 1024]⟩
abbrev S16384x2560 : Shape := ⟨2, ![16384, 2560]⟩
abbrev S512x1024 : Shape := ⟨2, ![512, 1024]⟩
abbrev S1x6x1024 : Shape := ⟨3, ![1, 6, 1024]⟩
abbrev S512x2560 : Shape := ⟨2, ![512, 2560]⟩
abbrev S512 : Shape := ⟨1, ![512]⟩
abbrev S512x1 : Shape := ⟨2, ![512, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x2560, .f32⟩
  | .hbm, ⟨4, _⟩ => ⟨S1x1024, .f32⟩
  | .hbm, ⟨5, _⟩ => ⟨S1024x2560, .bf16⟩
  | .hbm, ⟨6, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S512x2560, .f32⟩
  | .local _ .vmem, ⟨7, _⟩ => ⟨S512x2560, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.subi v0 c8192_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S16384x1024 : Shape := ⟨2, ![16384, 1024]⟩
abbrev S8x6x1024 : Shape := ⟨3, ![8, 6, 1024]⟩
abbrev S1024 : Shape := ⟨1, ![1024]⟩
abbrev S1024x2560 : Shape := ⟨2, ![1024, 2560]⟩
abbrev S16384 : Shape := ⟨1, ![16384]⟩
abbrev S16384x1 : Shape := ⟨2, ![16384, 1]⟩
abbrev S_ : Shape := ⟨0, ![]⟩
abbrev S1x1x1024 : Shape := ⟨3, ![1, 1, 1024]⟩
abbrev S1x1024 : Shape := ⟨2, ![1, 1024]⟩
abbrev S16384x2560 : Shape := ⟨2, ![16384, 2560]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x2560, .f32⟩
  | .hbm, ⟨4, _⟩ => ⟨S16384, .i32⟩
  | .hbm, ⟨5, _⟩ => ⟨S16384x1, .i32⟩
  | .hbm, ⟨6, _⟩ => ⟨S_, .i32⟩
  | .hbm, ⟨7, _⟩ => ⟨S16384x1, .i32⟩
  | .hbm, ⟨8, _⟩ => ⟨S16384x1, .i1⟩
  | .hbm, ⟨9, _⟩ => ⟨S1x1x1024, .f32⟩
  | .hbm, ⟨10, _⟩ => ⟨S1024, .f32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1x1024, .f32⟩
  | .hbm, ⟨15, _⟩ => ⟨S1024, .f32⟩
  | .hbm, ⟨16, _⟩ => ⟨S1x1x1024, .f32⟩
  | .hbm, ⟨17, _⟩ => ⟨S1024, .f32⟩
  | .hbm, ⟨18, _⟩ => ⟨S16384x1024, .i1⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .i1⟩
  | .hbm, ⟨23, _⟩ => ⟨S16384x1024, .f32⟩
  | .hbm, ⟨24, _⟩ => ⟨S16384x1024, .f32⟩
  | .hbm, ⟨25, _⟩ => ⟨S16384, .i32⟩
  | .hbm, ⟨26, _⟩ => ⟨S16384x1, .i32⟩
  | .hbm, ⟨27, _⟩ => ⟨S_, .i32⟩
  | .hbm, ⟨28, _⟩ => ⟨S16384x1, .i32⟩
  | .hbm, ⟨29, _⟩ => ⟨S16384x1, .i1⟩
  | .hbm, ⟨30, _⟩ => ⟨S1x1x1024, .f32⟩
  | .hbm, ⟨31, _⟩ => ⟨S1024, .f32⟩
  | .hbm, ⟨32, _⟩ => ⟨S_, .i32⟩
  | .hbm, ⟨33, _⟩ => ⟨S16384x1, .i32⟩
  | .hbm, ⟨34, _⟩ => ⟨S16384x1, .i1⟩
  | .hbm, ⟨35, _⟩ => ⟨S1x1x1024, .f32⟩
  | .hbm, ⟨36, _⟩ => ⟨S1024, .f32⟩
  | .hbm, ⟨37, _⟩ => ⟨S1x1x1024, .f32⟩
  | .hbm, ⟨38, _⟩ => ⟨S1024, .f32⟩
  | .hbm, ⟨39, _⟩ => ⟨S16384x1024, .i1⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .i1⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x2560, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v26 : Ref sig .tc := ⟨.hbm, 42, rfl⟩
abbrev main_call3_v0 : Ref sig .tc := ⟨.hbm, 43, rfl⟩
abbrev main_call3_v1 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== OutProj.lean ====
abbrev S16384x256 : Shape := ⟨2, ![16384, 256]⟩
abbrev S8192x256 : Shape := ⟨2, ![8192, 256]⟩
abbrev S16384x1024 : Shape := ⟨2, ![16384, 1024]⟩
abbrev S8x6x1024 : Shape := ⟨3, ![8, 6, 1024]⟩
abbrev S1024x1024 : Shape := ⟨2, ![1024, 1024]⟩
abbrev S512x256 : Shape := ⟨2, ![512, 256]⟩
abbrev S512x1024 : Shape := ⟨2, ![512, 1024]⟩
abbrev S1x6x1024 : Shape := ⟨3, ![1, 6, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 11
  | .vmem => 19
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S16384x256, .f32⟩
  | .hbm, ⟨6, _⟩ => ⟨S16384x1024, .f32⟩
  | .hbm, ⟨7, _⟩ => ⟨S8x6x1024, .f32⟩
  | .hbm, ⟨8, _⟩ => ⟨S1024x1024, .f32⟩
  | .hbm, ⟨9, _⟩ => ⟨S1024x1024, .bf16⟩
  | .hbm, ⟨10, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1024, .f32⟩
  | .local _ .vmem, ⟨13, _⟩ => ⟨S512x1024, .f32⟩
  | .local _ .vmem, ⟨14, _⟩ => ⟨S1x6x1024, .f32⟩
  | .local _ .vmem, ⟨15, _⟩ => ⟨S1x6x1024, .f32⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.subi v0 c8192_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16384x256 : Shape := ⟨2, ![16384, 256]⟩
abbrev S8192x256 : Shape := ⟨2, ![8192, 256]⟩
abbrev S16384x1024 : Shape := ⟨2, ![16384, 1024]⟩
abbrev S8x6x1024 : Shape := ⟨3, ![8, 6, 1024]⟩
abbrev S1024x1024 : Shape := ⟨2, ![1024, 1024]⟩
abbrev S16384 : Shape := ⟨1, ![16384]⟩
abbrev S16384x1 : Shape := ⟨2, ![16384, 1]⟩
abbrev S_ : Shape := ⟨0, ![]⟩
abbrev S1x1x1024 : Shape := ⟨3, ![1, 1, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S16384x256, .f32⟩
  | .hbm, ⟨6, _⟩ => ⟨S16384x1024, .f32⟩
  | .hbm, ⟨7, _⟩ => ⟨S8x6x1024, .f32⟩
  | .hbm, ⟨8, _⟩ => ⟨S1024x1024, .f32⟩
  | .hbm, ⟨9, _⟩ => ⟨S16384x256, .f32⟩
  | .hbm, ⟨10, _⟩ => ⟨S16384x256, .f32⟩
  | .hbm, ⟨11, _⟩ => ⟨S16384x1024, .f32⟩
  | .hbm, ⟨12, _⟩ => ⟨S16384x1024, .f32⟩
  | .hbm, ⟨13, _⟩ => ⟨S16384, .i32⟩
  | .hbm, ⟨14, _⟩ => ⟨S16384x1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1x1024, .f32⟩
  | .hbm, ⟨19, _⟩ => ⟨S1024, .f32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S1x1x1024, .f32⟩
  | .hbm, ⟨24, _⟩ => ⟨S1024, .f32⟩
  | .hbm, ⟨25, _⟩ => ⟨S1x1x1024, .f32⟩
  | .hbm, ⟨26, _⟩ => ⟨S1024, .f32⟩
  | .hbm, ⟨27, _⟩ => ⟨S16384x1024, .i1⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .i1⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Ctx.lean ====
abbrev S16384x2560 : Shape := ⟨2, ![16384, 2560]⟩
abbrev S64 : Shape := ⟨1, ![64]⟩
abbrev S32 : Shape := ⟨1, ![32]⟩
abbrev S4x32 : Shape := ⟨2, ![4, 32]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x32 : Shape := ⟨2, ![1, 32]⟩
abbrev S8x32 : Shape := ⟨2, ![8, 32]⟩
abbrev S8192x256 : Shape := ⟨2, ![8192, 256]⟩
abbrev S32x2x4x256x64 : Shape := ⟨5, ![32, 2, 4, 256, 64]⟩
abbrev S512x256 : Shape := ⟨2, ![512, 256]⟩
abbrev S2x2x4x256x64 : Shape := ⟨5, ![2, 2, 4, 256, 64]⟩
abbrev S1 : Shape := ⟨1, ![1]⟩
abbrev S1x1 : Shape := ⟨2, ![1, 1]⟩
abbrev S256x256 : Shape := ⟨2, ![256, 256]⟩
abbrev S256x64 : Shape := ⟨2, ![256, 64]⟩
abbrev S1x1x1x256x64 : Shape := ⟨5, ![1, 1, 1, 256, 64]⟩
abbrev S1024x256 : Shape := ⟨2, ![1024, 256]⟩
abbrev S1024 : Shape := ⟨1, ![1024]⟩
abbrev S1024x1 : Shape := ⟨2, ![1024, 1]⟩
abbrev S2048x256 : Shape := ⟨2, ![2048, 256]⟩
abbrev S2048 : Shape := ⟨1, ![2048]⟩
abbrev S2048x1 : Shape := ⟨2, ![2048, 1]⟩

abbrev nBuf : Space → Nat
  | .hbm => 31
  | .vmem => 26
  | .smem => 0
  | _ => 0

abbrev bufTy : (tb : Table) → Fin (tcTables nBuf tb) → BufTy
  | .hbm, ⟨0, _⟩ => ⟨S16384x2560, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S32, .f32⟩
  | .hbm, ⟨5, _⟩ => ⟨S64, .f32⟩
  | .hbm, ⟨6, _⟩ => ⟨S4x32, .f32⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S1x256, .f32⟩
  | .hbm, ⟨11, _⟩ => ⟨S1x64, .f32⟩
  | .hbm, ⟨12, _⟩ => ⟨S4x64, .f32⟩
  | .hbm, ⟨13, _⟩ => ⟨S256, .f32⟩
  | .hbm, ⟨14, _⟩ => ⟨S1x256, .f32⟩
  | .hbm, ⟨15, _⟩ => ⟨S1x32, .f32⟩
  | .hbm, ⟨16, _⟩ => ⟨S8x32, .f32⟩
  | .hbm, ⟨17, _⟩ => ⟨S256, .f32⟩
  | .hbm, ⟨18, _⟩ => ⟨S1x256, .f32⟩
  | .hbm, ⟨19, _⟩ => ⟨S1x32, .f32⟩
  | .hbm, ⟨20, _⟩ => ⟨S8x32, .f32⟩
  | .hbm, ⟨21, _⟩ => ⟨S256, .f32⟩
  | .hbm, ⟨22, _⟩ => ⟨S1x256, .f32⟩
  | .hbm, ⟨23, _⟩ => ⟨S1x64, .f32⟩
  | .hbm, ⟨24, _⟩ => ⟨S4x64, .f32⟩
  | .hbm, ⟨25, _⟩ => ⟨S256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S32x2x4x256x64, .f32⟩
  | .hbm, ⟨30, _⟩ => ⟨S32x2x4x256x64, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S4x32, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S2x2x4x256x64, .f32⟩
  | .local _ .vmem, ⟨23, _⟩ => ⟨S2x2x4x256x64, .f32⟩
  | .local _ .vmem, ⟨24, _⟩ => ⟨S2x2x4x256x64, .f32⟩
  | .local _ .vmem, ⟨25, _⟩ => ⟨S2x2x4x256x64, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_15 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x2x4x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x2x4x256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== CtxRefIdeal.lean ====
abbrev S16384x2560 : Shape := ⟨2, ![16384, 2560]⟩
abbrev S64 : Shape := ⟨1, ![64]⟩
abbrev S32 : Shape := ⟨1, ![32]⟩
abbrev S4x32 : Shape := ⟨2, ![4, 32]⟩
abbrev S8192x256 : Shape := ⟨2, ![8192, 256]⟩
abbrev S32x256x256 : Shape := ⟨3, ![32, 256, 256]⟩
abbrev S32x256x4x64 : Shape := ⟨4, ![32, 256, 4, 64]⟩
abbrev S32x4x256x64 : Shape := ⟨4, ![32, 4, 256, 64]⟩
abbrev S_ : Shape := ⟨0, ![]⟩
abbrev S32x4x256 : Shape := ⟨3, ![32, 4, 256]⟩
abbrev S32x4x256x1 : Shape := ⟨4, ![32, 4, 256, 1]⟩
abbrev S1x1x1x64 : Shape := ⟨4, ![1, 1, 1, 64]⟩
abbrev S32x4x256x2x32 : Shape := ⟨5, ![32, 4, 256, 2, 32]⟩
abbrev S32x4x256x2 : Shape := ⟨4, ![32, 4, 256, 2]⟩
abbrev S32x4x256x2x1 : Shape := ⟨5, ![32, 4, 256, 2, 1]⟩
abbrev S1x1x1x1x32 : Shape := ⟨5, ![1, 1, 1, 1, 32]⟩
abbrev S32x1x4x256x64 : Shape := ⟨5, ![32, 1, 4, 256, 64]⟩
abbrev S32x2x4x256x64 : Shape := ⟨5, ![32, 2, 4, 256, 64]⟩
abbrev S32x4x256x256 : Shape := ⟨4, ![32, 4, 256, 256]⟩
abbrev S1x32 : Shape := ⟨2, ![1, 32]⟩
abbrev S32x4x256x1x32 : Shape := ⟨5, ![32, 4, 256, 1, 32]⟩
abbrev S32x4x256x32 : Shape := ⟨4, ![32, 4, 256, 32]⟩

abbrev nBuf : Space → Nat
  | .hbm => 213
  | .vmem => 0
  | .smem => 0
  | _ => 0

abbrev hbmTy0_0 (i : Nat) : BufTy := match i % 128 with
  | 0 => ⟨S16384x2560, .f32⟩
  | 1 => ⟨S64, .f32⟩
  | 2 => ⟨S64, .f32⟩
  | 3 => ⟨S32, .f32⟩
  | 4 => ⟨S32, .f32⟩
  | 5 => ⟨S64, .f32⟩
  | 6 => ⟨S4x32, .f32⟩
  | 7 => ⟨S8192x256, .f32⟩
  | 8 => ⟨S32x256x256, .f32⟩
  | 9 => ⟨S32x256x4x64, .f32⟩
  | 10 => ⟨S32x4x256x64, .f32⟩
  | 11 => ⟨S32x4x256x64, .f32⟩
  | 12 => ⟨S_, .f32⟩
  | 13 => ⟨S32x4x256, .f32⟩
  | 14 => ⟨S32x4x256x1, .f32⟩
  | 15 => ⟨S_, .f32⟩
  | 16 => ⟨S32x4x256x1, .f32⟩
  | 17 => ⟨S32x4x256x1, .f32⟩
  | 18 => ⟨S_, .f32⟩
  | 19 => ⟨S32x4x256x1, .f32⟩
  | 20 => ⟨S32x4x256x1, .f32⟩
  | 21 => ⟨S32x4x256x1, .f32⟩
  | 22 => ⟨S32x4x256x64, .f32⟩
  | 23 => ⟨S32x4x256x64, .f32⟩
  | 24 => ⟨S1x1x1x64, .f32⟩
  | 25 => ⟨S32x4x256x64, .f32⟩
  | 26 => ⟨S32x4x256x64, .f32⟩
  | 27 => ⟨S8192x256, .f32⟩
  | 28 => ⟨S32x256x256, .f32⟩
  | 29 => ⟨S32x256x4x64, .f32⟩
  | 30 => ⟨S32x4x256x64, .f32⟩
  | 31 => ⟨S8192x256, .f32⟩
  | 32 => ⟨S32x256x256, .f32⟩
  | 33 => ⟨S32x256x4x64, .f32⟩
  | 34 => ⟨S32x4x256x64, .f32⟩
  | 35 => ⟨S32x4x256x2x32, .f32⟩
  | 36 => ⟨S32x4x256x2x32, .f32⟩
  | 37 => ⟨S_, .f32⟩
  | 38 => ⟨S32x4x256x2, .f32⟩
  | 39 => ⟨S32x4x256x2x1, .f32⟩
  | 40 => ⟨S_, .f32⟩
  | 41 => ⟨S32x4x256x2x1, .f32⟩
  | 42 => ⟨S32x4x256x2x1, .f32⟩
  | 43 => ⟨S_, .f32⟩
  | 44 => ⟨S32x4x256x2x1, .f32⟩
  | 45 => ⟨S32x4x256x2x1, .f32⟩
  | 46 => ⟨S32x4x256x2x1, .f32⟩
  | 47 => ⟨S32x4x256x2x32, .f32⟩
  | 48 => ⟨S32x4x256x2x32, .f32⟩
  | 49 => ⟨S1x1x1x1x32, .f32⟩
  | 50 => ⟨S32x4x256x2x32, .f32⟩
  | 51 => ⟨S32x4x256x2x32, .f32⟩
  | 52 => ⟨S8192x256, .f32⟩
  | 53 => ⟨S32x256x256, .f32⟩
  | 54 => ⟨S32x256x4x64, .f32⟩
  | 55 => ⟨S32x4x256x64, .f32⟩
  | 56 => ⟨S32x1x4x256x64, .f32⟩
  | 57 => ⟨S32x1x4x256x64, .f32⟩
  | 58 => ⟨S32x2x4x256x64, .f32⟩
  | 59 => ⟨S32x4x256x64, .f32⟩
  | 60 => ⟨S32x1x4x256x64, .f32⟩
  | 61 => ⟨S32x1x4x256x64, .f32⟩
  | 62 => ⟨S32x2x4x256x64, .f32⟩
  | 63 => ⟨S8192x256, .f32⟩
  | 64 => ⟨S32x256x256, .f32⟩
  | 65 => ⟨S32x256x4x64, .f32⟩
  | 66 => ⟨S32x4x256x64, .f32⟩
  | 67 => ⟨S32x4x256x64, .f32⟩
  | 68 => ⟨S_, .f32⟩
  | 69 => ⟨S32x4x256, .f32⟩
  | 70 => ⟨S32x4x256x1, .f32⟩
  | 71 => ⟨S_, .f32⟩
  | 72 => ⟨S32x4x256x1, .f32⟩
  | 73 => ⟨S32x4x256x1, .f32⟩
  | 74 => ⟨S_, .f32⟩
  | 75 => ⟨S32x4x256x1, .f32⟩
  | 76 => ⟨S32x4x256x1, .f32⟩
  | 77 => ⟨S32x4x256x1, .f32⟩
  | 78 => ⟨S32x4x256x64, .f32⟩
  | 79 => ⟨S32x4x256x64, .f32⟩
  | 80 => ⟨S1x1x1x64, .f32⟩
  | 81 => ⟨S32x4x256x64, .f32⟩
  | 82 => ⟨S32x4x256x64, .f32⟩
  | 83 => ⟨S32x4x256x256, .f32⟩
  | 84 => ⟨S_, .f32⟩
  | 85 => ⟨S32x4x256x256, .f32⟩
  | 86 => ⟨S32x4x256x256, .f32⟩
  | 87 => ⟨S_, .f32⟩
  | 88 => ⟨S32x4x256, .f32⟩
  | 89 => ⟨S_, .f32⟩
  | 90 => ⟨S32x4x256, .f32⟩
  | 91 => ⟨S32x4x256, .f32⟩
  | 92 => ⟨S32x4x256x1, .f32⟩
  | 93 => ⟨S32x4x256x256, .f32⟩
  | 94 => ⟨S32x4x256x256, .f32⟩
  | 95 => ⟨S32x4x256x256, .f32⟩
  | 96 => ⟨S_, .f32⟩
  | 97 => ⟨S32x4x256, .f32⟩
  | 98 => ⟨S32x4x256x1, .f32⟩
  | 99 => ⟨S32x4x256x256, .f32⟩
  | 100 => ⟨S32x4x256x256, .f32⟩
  | 101 => ⟨S32x4x256x64, .f32⟩
  | 102 => ⟨S8192x256, .f32⟩
  | 103 => ⟨S32x256x256, .f32⟩
  | 104 => ⟨S32x256x4x64, .f32⟩
  | 105 => ⟨S32x4x256x64, .f32⟩
  | 106 => ⟨S32x4x256x2x32, .f32⟩
  | 107 => ⟨S32x4x256x2x32, .f32⟩
  | 108 => ⟨S_, .f32⟩
  | 109 => ⟨S32x4x256x2, .f32⟩
  | 110 => ⟨S32x4x256x2x1, .f32⟩
  | 111 => ⟨S_, .f32⟩
  | 112 => ⟨S32x4x256x2x1, .f32⟩
  | 113 => ⟨S32x4x256x2x1, .f32⟩
  | 114 => ⟨S_, .f32⟩
  | 115 => ⟨S32x4x256x2x1, .f32⟩
  | 116 => ⟨S32x4x256x2x1, .f32⟩
  | 117 => ⟨S32x4x256x2x1, .f32⟩
  | 118 => ⟨S32x4x256x2x32, .f32⟩
  | 119 => ⟨S32x4x256x2x32, .f32⟩
  | 120 => ⟨S1x1x1x1x32, .f32⟩
  | 121 => ⟨S32x4x256x2x32, .f32⟩
  | 122 => ⟨S32x4x256x2x32, .f32⟩
  | 123 => ⟨S1x32, .f32⟩
  | 124 => ⟨S32, .f32⟩
  | 125 => ⟨S1x32, .f32⟩
  | 126 => ⟨S32, .f32⟩
  | 127 => ⟨S32, .f32⟩
  | _ => ⟨S16384x2560, .f32⟩

abbrev hbmTy0_1 (i : Nat) : BufTy := match i % 128 with
  | 0 => ⟨S_, .f32⟩
  | 1 => ⟨S_, .f32⟩
  | 2 => ⟨S_, .f32⟩
  | 3 => ⟨S1x32, .f32⟩
  | 4 => ⟨S32, .f32⟩
  | 5 => ⟨S1x32, .f32⟩
  | 6 => ⟨S32, .f32⟩
  | 7 => ⟨S32, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S32x4x256x1x32, .f32⟩
  | 15 => ⟨S32x4x256x32, .f32⟩
  | 16 => ⟨S32x4x256x1x32, .f32⟩
  | 17 => ⟨S32x4x256x32, .f32⟩
  | 18 => ⟨S32x4x256x256, .f32⟩
  | 19 => ⟨S_, .f32⟩
  | 20 => ⟨S32x4x256x256, .f32⟩
  | 21 => ⟨S32x4x256x256, .f32⟩
  | 22 => ⟨S32x4x256x1x32, .f32⟩
  | 23 => ⟨S32x4x256x32, .f32⟩
  | 24 => ⟨S32x4x256x1x32, .f32⟩
  | 25 => ⟨S32x4x256x32, .f32⟩
  | 26 => ⟨S32x4x256x256, .f32⟩
  | 27 => ⟨S_, .f32⟩
  | 28 => ⟨S32x4x256x256, .f32⟩
  | 29 => ⟨S32x4x256x256, .f32⟩
  | 30 => ⟨S_, .f32⟩
  | 31 => ⟨S32x4x256, .f32⟩
  | 32 => ⟨S_, .f32⟩
  | 33 => ⟨S32x4x256, .f32⟩
  | 34 => ⟨S32x4x256, .f32⟩
  | 35 => ⟨S32x4x256x1, .f32⟩
  | 36 => ⟨S32x4x256x256, .f32⟩
  | 37 => ⟨S32x4x256x256, .f32⟩
  | 38 => ⟨S32x4x256x256, .f32⟩
  | 39 => ⟨S_, .f32⟩
  | 40 => ⟨S32x4x256, .f32⟩
  | 41 => ⟨S32x4x256x1, .f32⟩
  | 42 => ⟨S32x4x256x256, .f32⟩
  | 43 => ⟨S32x4x256x256, .f32⟩
  | 44 => ⟨S_, .f32⟩
  | 45 => ⟨S32x4x256, .f32⟩
  | 46 => ⟨S_, .f32⟩
  | 47 => ⟨S32x4x256, .f32⟩
  | 48 => ⟨S32x4x256, .f32⟩
  | 49 => ⟨S32x4x256x1, .f32⟩
  | 50 => ⟨S32x4x256x256, .f32⟩
  | 51 => ⟨S32x4x256x256, .f32⟩
  | 52 => ⟨S32x4x256x256, .f32⟩
  | 53 => ⟨S_, .f32⟩
  | 54 => ⟨S32x4x256, .f32⟩
  | 55 => ⟨S32x4x256x1, .f32⟩
  | 56 => ⟨S32x4x256x256, .f32⟩
  | 57 => ⟨S32x4x256x256, .f32⟩
  | 58 => ⟨S32x4x256x256, .f32⟩
  | 59 => ⟨S32x4x256x256, .f32⟩
  | 60 => ⟨S32x4x256x256, .f32⟩
  | 61 => ⟨S32x4x256x64, .f32⟩
  | 62 => ⟨S32x4x256x64, .f32⟩
  | 63 => ⟨S_, .f32⟩
  | 64 => ⟨S32x4x256, .f32⟩
  | 65 => ⟨S32x4x256x1, .f32⟩
  | 66 => ⟨S_, .f32⟩
  | 67 => ⟨S32x4x256x1, .f32⟩
  | 68 => ⟨S32x4x256x1, .f32⟩
  | 69 => ⟨S_, .f32⟩
  | 70 => ⟨S32x4x256x1, .f32⟩
  | 71 => ⟨S32x4x256x1, .f32⟩
  | 72 => ⟨S32x4x256x1, .f32⟩
  | 73 => ⟨S32x4x256x64, .f32⟩
  | 74 => ⟨S32x4x256x64, .f32⟩
  | 75 => ⟨S1x1x1x64, .f32⟩
  | 76 => ⟨S32x4x256x64, .f32⟩
  | 77 => ⟨S32x4x256x64, .f32⟩
  | 78 => ⟨S_, .f32⟩
  | 79 => ⟨S32x4x256x64, .f32⟩
  | 80 => ⟨S32x4x256x64, .f32⟩
  | 81 => ⟨S32x256x4x64, .f32⟩
  | 82 => ⟨S8192x256, .f32⟩
  | 83 => ⟨S32x256x4x64, .f32⟩
  | 84 => ⟨S8192x256, .f32⟩
  | _ => ⟨S16384x2560, .f32⟩

abbrev hbmTy (i : Nat) : BufTy := match i / 128 with
  | 0 => hbmTy0_0 i
  | 1 => hbmTy0_1 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_12 : Ref sig .tc := ⟨.hbm, 108, rfl⟩
abbrev main_v88 : Ref sig .tc := ⟨.hbm, 109, rfl⟩
abbrev main_v89 : Ref sig .tc := ⟨.hbm, 110, rfl⟩
abbrev main_cst_13 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_15 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_16 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_17 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_18 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_19 : Ref sig .tc := ⟨.hbm, 155, rfl⟩
abbrev main_v128 : Ref sig .tc := ⟨.hbm, 156, rfl⟩
abbrev main_v129 : Ref sig .tc := ⟨.hbm, 157, rfl⟩
abbrev main_cst_20 : Ref sig .tc := ⟨.hbm, 158, rfl⟩
abbrev main_v130 : Ref sig .tc := ⟨.hbm, 159, rfl⟩
abbrev main_cst_21 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_22 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_23 : Ref sig .tc := ⟨.hbm, 172, rfl⟩
abbrev main_v141 : Ref sig .tc := ⟨.hbm, 173, rfl⟩
abbrev main_cst_24 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_25 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_26 : Ref sig .tc := ⟨.hbm, 191, rfl⟩
abbrev main_v157 : Ref sig .tc := ⟨.hbm, 192, rfl⟩
abbrev main_v158 : Ref sig .tc := ⟨.hbm, 193, rfl⟩
abbrev main_cst_27 : Ref sig .tc := ⟨.hbm, 194, rfl⟩
abbrev main_v159 : Ref sig .tc := ⟨.hbm, 195, rfl⟩
abbrev main_v160 : Ref sig .tc := ⟨.hbm, 196, rfl⟩
abbrev main_cst_28 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_cst_29 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩

abbrev nD : Nat := 1
abbrev τ : Topo := Topo.v7x

variable {F : FTy → Type} [FloatOps F]
-- ==== Proof.DiffIdealRun.lean ====
/-
  The body of the differential attention kernel of `proofs.«01_k».proof.DiffIdeal`, run at a grid point, and the launch around it.

  The kernel keeps the eight score chunks of a point in a scratch buffer, chunk `j` at slot `(j + step) mod 8`, where
  `step` is the point's second coordinate.  Each slot is stored once and read back once; the slots of different chunks
  are different, so a read gives the chunk that was stored whatever the buffer held before the point.
-/
module

public import proofs.«01_k».proof.Proof.Gen.DiffIdeal.Frame
public import proofs.«01_k».proof.Proof.Gen.DiffIdeal.Skeleton

@[expose] public section

set_option maxRecDepth 16384

noncomputable section

namespace Cert.DiffIdeal.Body

open Idealize.ShloMosaic Idealize.ShloMosaic.TcCoe Idealize.ShloMosaic.Tactic Cert.DiffIdeal Cert.DiffIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The slots -/

/-- Chunk `r`'s slot at the point `i`: `(step + r) mod 8`, at the origin of the other two axes. -/
theorem slot_eq : ∀ (i : grid0.Coords) (r : Fin 8), k0_off1 i (BitVec.ofNat 32 r.val) = ![((i 1).val + r.val) % 8, 0, 0] := by
  decide +kernel

/-- The same for chunk 0, as the run looks it up. -/
instance slot0 (i : grid0.Coords) : ClosedOff (k0_off1 i 0#32) := ⟨![((i 1).val + 0) % 8, 0, 0], slot_eq i 0⟩
/-- The same for chunk 1, as the run looks it up. -/
instance slot1 (i : grid0.Coords) : ClosedOff (k0_off1 i 1#32) := ⟨![((i 1).val + 1) % 8, 0, 0], slot_eq i 1⟩
/-- The same for chunk 2, as the run looks it up. -/
instance slot2 (i : grid0.Coords) : ClosedOff (k0_off1 i 2#32) := ⟨![((i 1).val + 2) % 8, 0, 0], slot_eq i 2⟩
/-- The same for chunk 3, as the run looks it up. -/
instance slot3 (i : grid0.Coords) : ClosedOff (k0_off1 i 3#32) := ⟨![((i 1).val + 3) % 8, 0, 0], slot_eq i 3⟩
/-- The same for chunk 4, as the run looks it up. -/
instance slot4 (i : grid0.Coords) : ClosedOff (k0_off1 i 4#32) := ⟨![((i 1).val + 4) % 8, 0, 0], slot_eq i 4⟩
/-- The same for chunk 5, as the run looks it up. -/
instance slot5 (i : grid0.Coords) : ClosedOff (k0_off1 i 5#32) := ⟨![((i 1).val + 5) % 8, 0, 0], slot_eq i 5⟩
/-- The same for chunk 6, as the run looks it up. -/
instance slot6 (i : grid0.Coords) : ClosedOff (k0_off1 i 6#32) := ⟨![((i 1).val + 6) % 8, 0, 0], slot_eq i 6⟩
/-- The same for chunk 7, as the run looks it up. -/
instance slot7 (i : grid0.Coords) : ClosedOff (k0_off1 i 7#32) := ⟨![((i 1).val + 7) % 8, 0, 0], slot_eq i 7⟩
set_option maxHeartbeats 1000000 in
/-- The body on whole staging buffers: from the seven inputs at their blocks and the output and the two scratch buffers at
    anything, it ends with the inputs unchanged and with lists of pieces written into the output and the scratch; the lists
    are found by running it. -/
noncomputable def bodyRun (c : Dev nD) (i : grid0.Coords)
    (arg2 : Memref sig .tc .vmem S128x256 .bf16) (harg2 : arg2.IsWhole)
    (arg3 : Memref sig .tc .vmem S1x256x4096 .bf16) (harg3 : arg3.IsWhole)
    (arg4 : Memref sig .tc .vmem S4096x256 .bf16) (harg4 : arg4.IsWhole)
    (arg5 : Memref sig .tc .vmem S1x256x256 .bf16) (harg5 : arg5.IsWhole)
    (arg6 : Memref sig .tc .vmem S1x256x256 .bf16) (harg6 : arg6.IsWhole)
    (arg7 : Memref sig .tc .vmem S1x256 .f32) (harg7 : arg7.IsWhole)
    (arg8 : Memref sig .tc .vmem S4x32 .f32) (harg8 : arg8.IsWhole)
    (arg9 : Memref sig .tc .vmem S128x256 .f32) (harg9 : arg9.IsWhole)
    (arg10 : Memref sig .tc .vmem S8x1024x512 .f32) (harg10 : arg10.IsWhole)
    (arg11 : Memref sig .tc .vmem S1024x256 .f32) (harg11 : arg11.IsWhole)
    (x0 : Vec F S128x256 .bf16) (x1 : Vec F S1x256x4096 .bf16) (x2 : Vec F S4096x256 .bf16) (x3 : Vec F S1x256x256 .bf16) (x4 : Vec F S1x256x256 .bf16) (x5 : Vec F S1x256 .f32) (x6 : Vec F S4x32 .f32) :
    Σ' (L7 : List (View.Piece (Elt F) S128x256 .f32)), Σ' (LT0 : List (View.Piece (Elt F) S8x1024x512 .f32)), { LT1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0) ∗ (∃ f, arg11.view.loc (c : Thread nD τ) ↦[arg11.view.set]{fullShare} arg11.view.writes (Elt F) f LT1)) -∗ K ⟨⟩))
          ⊢ wp frame (wpE (defs₀ (F := F)) Variants.none c none) E (cc0_diff_latent i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_diff_latent_eq_skeleton]; unfold cc0_diff_latent_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.DiffIdeal.Body

end
-- ==== Proof.DiffIdealFrame.lean ====
/-
  The launch of the differential attention kernel of `proofs.«01_k».proof.DiffIdeal`: what the pipeline's arrays hold point by point, from
  the body's run at a point (`Proof/DiffIdealRun.lean`), and the frame claim.
-/
module

public import proofs.«01_k».proof.Proof.DiffIdealRun
public import Idealize.ShloMosaic.Lib.Claim

@[expose] public section

set_option maxRecDepth 16384

noncomputable section

namespace Cert.DiffIdeal.Body

open Idealize.ShloMosaic Idealize.ShloMosaic.TcCoe Idealize.ShloMosaic.Tactic Cert.DiffIdeal Cert.DiffIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a point -/

/-- Window 0's staging buffer at the point `t`, and that it is a whole buffer. -/
abbrev buf0 (t : Fin cfg0.N) : Memref sig .tc .vmem S128x256 .bf16 := win0_0.stage (cfg0.slots t 0)
abbrev whole0 (t : Fin cfg0.N) : (buf0 t).IsWhole := hstage0_0 ((cfg0.slots t 0).cast nbuf0_0)
/-- Window 1's staging buffer at the point `t`, and that it is a whole buffer. -/
abbrev buf1 (t : Fin cfg0.N) : Memref sig .tc .vmem S1x256x4096 .bf16 := win0_1.stage (cfg0.slots t 1)
abbrev whole1 (t : Fin cfg0.N) : (buf1 t).IsWhole := hstage0_1 ((cfg0.slots t 1).cast nbuf0_1)
/-- Window 2's staging buffer at the point `t`, and that it is a whole buffer. -/
abbrev buf2 (t : Fin cfg0.N) : Memref sig .tc .vmem S4096x256 .bf16 := win0_2.stage (cfg0.slots t 2)
abbrev whole2 (t : Fin cfg0.N) : (buf2 t).IsWhole := hstage0_2 ((cfg0.slots t 2).cast nbuf0_2)
/-- Window 3's staging buffer at the point `t`, and that it is a whole buffer. -/
abbrev buf3 (t : Fin cfg0.N) : Memref sig .tc .vmem S1x256x256 .bf16 := win0_3.stage (cfg0.slots t 3)
abbrev whole3 (t : Fin cfg0.N) : (buf3 t).IsWhole := hstage0_3 ((cfg0.slots t 3).cast nbuf0_3)
/-- Window 4's staging buffer at the point `t`, and that it is a whole buffer. -/
abbrev buf4 (t : Fin cfg0.N) : Memref sig .tc .vmem S1x256x256 .bf16 := win0_4.stage (cfg0.slots t 4)
abbrev whole4 (t : Fin cfg0.N) : (buf4 t).IsWhole := hstage0_4 ((cfg0.slots t 4).cast nbuf0_4)
/-- Window 5's staging buffer at the point `t`, and that it is a whole buffer. -/
abbrev buf5 (t : Fin cfg0.N) : Memref sig .tc .vmem S1x256 .f32 := win0_5.stage (cfg0.slots t 5)
abbrev whole5 (t : Fin cfg0.N) : (buf5 t).IsWhole := hstage0_5 ((cfg0.slots t 5).cast nbuf0_5)
/-- Window 6's staging buffer at the point `t`, and that it is a whole buffer. -/
abbrev buf6 (t : Fin cfg0.N) : Memref sig .tc .vmem S4x32 .f32 := win0_6.stage (cfg0.slots t 6)
abbrev whole6 (t : Fin cfg0.N) : (buf6 t).IsWhole := hstage0_6 ((cfg0.slots t 6).cast nbuf0_6)
/-- Window 7's staging buffer at the point `t`, and that it is a whole buffer. -/
abbrev buf7 (t : Fin cfg0.N) : Memref sig .tc .vmem S128x256 .f32 := win0_7.stage (cfg0.slots t 7)
abbrev whole7 (t : Fin cfg0.N) : (buf7 t).IsWhole := hstage0_7 ((cfg0.slots t 7).cast nbuf0_7)
/-- The score scratch, and the scratch of the stacked rows' accumulators. -/
abbrev scores : Memref sig .tc .vmem S8x1024x512 .f32 := Memref.whole cc0_scratch0
abbrev accs : Memref sig .tc .vmem S1024x256 .f32 := Memref.whole cc0_scratch1

/-- The launch's invariant: the two scratch buffers at some contents and the generator register at some state. -/
theorem invariant_eq (c : Dev nD) :
    (Pipeline.ΦA spec0 c : sProp 𝕄)
      = iprop(iprop((∃ d, owns (c : Thread nD τ) scores fullShare d) ∗ (∃ d, owns (c : Thread nD τ) accs fullShare d)) ∗ (∃ r, prngReg c r)) := by
  unfold Pipeline.ΦA; rw [scopedRest0_eq]; simp only [scores, accs, owns_whole]; try rfl

/-- The body's run at the point `t`: on the point's staging buffers, the inputs at their blocks. -/
abbrev pointRun (c : Dev nD) (t : Fin cfg0.N) :=
  bodyRun (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) scores (Memref.isWhole_whole _) accs (Memref.isWhole_whole _) (iblk m c 0 t) (iblk m c 1 t) (iblk m c 2 t) (iblk m c 3 t) (iblk m c 4 t) (iblk m c 5 t) (iblk m c 6 t)

/-- The pieces the run stores into the output block cover it. -/
theorem pieces_cover (c : Dev nD) (t : Fin cfg0.N) (y : S128x256.Idx) : ∃ pc ∈ (pointRun m c t).1, y ∈ pc.1.set :=
  View.cover_of_tiledL (pointRun m c t).1 S128x256.size (by sl_kernel_rfl) y

/-- The output block after the point `t`: the run's pieces laid over each other. -/
def outBlock (c : Dev nD) (t : Fin cfg0.N) : Vec F S128x256 .f32 := View.canon (pointRun m c t).1

/-! ## The pipeline's proof data -/

/-- The arrays as the region finds them; after the body at `t` every input's buffer at its block and the output's at
    `outBlock`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-! ## The body at a point -/

/-- What the body is called with at the point `t`, -/
def givenAt (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d)))

/-- and what it returns. -/
def leftAt (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t))

set_option maxHeartbeats 800000 in
/-- The body at any point takes the one to the other: the run, with the scratch buffers taken from the invariant at some
    contents and given back at some contents. -/
theorem body_at (c : Dev nD) (t : Fin cfg0.N) :
    givenAt m c t ⊢ wp frame (wpE (defs₀ (F := F)) Variants.none c none) Set.univ (bodyAt0 t) (fun _ => leftAt m c t) := by
  unfold givenAt leftAt bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, invariant_eq]
  unfold outBlock
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((pointRun m c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_eq_canon _ _ _ (pieces_cover m c t)

/-- The table's row at `t`'s slots is the body at `t`. -/
theorem row_at (t : Fin cfg0.N) : defs₀ (F := F) .tc cfg0.body (cfg0.bodyArgs t (cfg0.slots t)) = bodyAt0 t := by
  unfold defs₀; rw [Defs.onTc_tc]

/-- The obligation of the launch, at every point. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

/-! ## The run and the frame -/

set_option backward.isDefEq.respectTransparency.types false in
/-- Every execution ends, with the pipeline's arrays at what the proof data say and every semaphore counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same without the counters. -/
theorem run : θ_run defs (onTc (τ := τ) (main (F := F))) (s₀ m ρ) (Pipeline.FramePost cfgs (dats m) 0 (V m)) :=
  (θ_run defs _ _).mono (fun _ h => h.1) (run_counters m ρ)

/-- THE FRAME: every execution ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_counters m ρ))

end Cert.DiffIdeal.Body

end
-- ==== Proof.InProjShape.lean ====
/-
  The values of the input and the output projection at one element, as both the kernel's result and the reference's are shown to be: a
  token's row is divided by the root of its mean square, scaled by the gain, modulated by the scale and the shift of the
  token's group, and multiplied with one column of the weight;
  the four mixers' rows of a token, side by side, are multiplied with one column of the output weight, gated and added to the
  residual.
-/
module

public import Idealize.ShloMosaic.Lib.Pointwise
public import Idealize.ShloMosaic.Lib.Tactic

@[expose] public section

noncomputable section

open Idealize.ShloMosaic

namespace Cert.Proj

/-- The conditioning row of a token: the first 8192 tokens take row 0, the next 4096 row 1, the rest row 2. -/
def group (r : ℕ) : Fin 8 := if r < 8192 then 0 else if r < 12288 then 1 else 2

/-- The modulated, normalised row `x` against the column `w`. -/
def projected (x g shift scale w : Fin 1024 → EReal) : EReal :=
  ∑ k, (x k * Ideal.rsqrt (Ideal.div (∑ j, x j * x j) (Ideal.ofBits .f32 0x44800000#32) + Ideal.ofBits .f32 0x358637BD#32) * g k
    * (1 + scale k) + shift k) * w k

/-- A token number compared with a bound, as the reference's selects read it. -/
theorem select_below {α : Type} (r n : ℕ) (hr : r < 16384) (hn : n < 16384) (a b : α) :
    Scalar.select (IntOp.cmpi .slt (BitVec.ofNat 32 r) (BitVec.ofNat 32 n)) a b = if r < n then a else b := by
  have e : ∀ k : ℕ, k < 16384 → (BitVec.ofNat 32 k).toInt = (k : ℤ) := fun k hk => by
    rw [BitVec.toInt_eq_toNat_of_lt] <;> rw [BitVec.toNat_ofNat, Nat.mod_eq_of_lt (by omega)]
    omega
  have h : (BitVec.ofNat 32 r).slt (BitVec.ofNat 32 n) = decide (r < n) := by
    rw [BitVec.slt, e r hr, e n hn]; simp
  by_cases hlt : r < n <;> simp [Scalar.select, IntOp.cmpi, h, hlt]

/-- The reference's two nested selects choose by the token's group. -/
theorem select_group (f : Fin 8 → EReal) (r : ℕ) (hr : r < 16384) :
    Scalar.select (IntOp.cmpi .slt (BitVec.ofNat 32 r) 8192#32) (f 0) (Scalar.select (IntOp.cmpi .slt (BitVec.ofNat 32 r) 12288#32) (f 1) (f 2))
      = f (group r) := by
  rw [select_below r 8192 hr (by omega), select_below r 12288 hr (by omega)]
  unfold group
  split
  · rfl
  · split <;> rfl

/-- A row of two arrays of 8192 rows laid under each other. -/
def joined (a b : (⟨2, ![8192, 256]⟩ : Shape).Idx → EReal) (r : Fin 16384) (k : Fin 256) : EReal :=
  if h : r.val < 8192 then a (ix2 ⟨r.val, h⟩ k) else b (ix2 ⟨r.val - 8192, by omega⟩ k)

/-- The four mixers' rows against the weight's column `w`, gated, added to the residual `x`. -/
def blended (x gate : EReal) (a b c d : Fin 256 → EReal) (w : Fin 1024 → EReal) : EReal :=
  x + gate * (∑ k : Fin 256, a k * w ⟨k.val, by omega⟩ + ∑ k : Fin 256, b k * w ⟨256 + k.val, by omega⟩
    + ∑ k : Fin 256, c k * w ⟨512 + k.val, by omega⟩ + ∑ k : Fin 256, d k * w ⟨768 + k.val, by omega⟩)

/-- A sum of 1024 terms by its four quarters. -/
theorem sum_quarters (f : Fin 1024 → EReal) : ∑ k, f k = ∑ k : Fin 256, f ⟨k.val, by omega⟩ + ∑ k : Fin 256, f ⟨256 + k.val, by omega⟩
    + ∑ k : Fin 256, f ⟨512 + k.val, by omega⟩ + ∑ k : Fin 256, f ⟨768 + k.val, by omega⟩ := by
  rw [show ∑ k : Fin 1024, f k = ∑ k : Fin (256 + 256 + 256 + 256), f k from rfl, Fin.sum_univ_add, Fin.sum_univ_add, Fin.sum_univ_add]
  rfl

end Cert.Proj

end
-- ==== Proof.InProjValue.lean ====
/- What the input projection's launch leaves: every element of its result is the projected row of a token. -/
module

public import proofs.«01_k».proof.Proof.InProjShape
public import proofs.«01_k».proof.Proof.Gen.InProjIdeal.Value
public import proofs.«01_k».proof.Proof.Gen.InProjIdeal.Skeleton
public import Idealize.ShloMosaic.Lib.Pointwise
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InProjIdeal.Rows

open Cert.InProjIdeal Cert.InProjIdeal.Gen Cert.Proj

/-- Which block each window is on at a point: the tokens' and the result's block `t`, the conditioning row of the block's
    group, the whole gain and the whole weight. -/
theorem index_at : ∀ t : Fin cfg0.N, win0_0.index t = ![t.val, 0] ∧ win0_1.index t = ![(group (512 * t.val)).val, 0, 0]
    ∧ win0_2.index t = ![0, 0] ∧ win0_3.index t = ![0, 0] ∧ win0_4.index t = ![t.val, 0] :=
  (by decide +kernel : ∀ t : Fin grid0.N, win0_0.index t = ![t.val, 0] ∧ win0_1.index t = ![(group (512 * t.val)).val, 0, 0]
    ∧ win0_2.index t = ![0, 0] ∧ win0_3.index t = ![0, 0] ∧ win0_4.index t = ![t.val, 0])

/-- All tokens of a block are of one group. -/
theorem group_block (t : ℕ) (r : ℕ) (hr : r < 512) : group (t * 512 + r) = group (512 * t) := by
  have h1 : t * 512 + r < 8192 ↔ 512 * t < 8192 := by omega
  have h2 : t * 512 + r < 12288 ↔ 512 * t < 12288 := by omega
  unfold group
  rw [if_congr h1 rfl (if_congr h2 rfl rfl)]

variable (m : (ℓ : Loc nD τ sig) → Buf (Elt Ideal) ℓ)

theorem rows_lt (t : Fin cfg0.N) (y : Fin 512) : t.val * 512 + y.val < 16384 := by
  have := t.isLt; have h : cfg0.N = 32 := N_0; omega

/-- The token block at a point, an element. -/
theorem block0 (c : Dev nD) (t : Fin cfg0.N) (y : Fin 512) (k : Fin 1024) :
    iblk m c 0 t (ix2 y k) = m ((c : Thread nD τ).loc main_arg0) (ix2 ⟨t.val * 512 + y.val, rows_lt t y⟩ k) := by
  obtain ⟨e0, -⟩ := index_at t
  blk_ext [iblk, V, e0]

/-- The conditioning block at a point, an element. -/
theorem block1 (c : Dev nD) (t : Fin cfg0.N) (y : Fin 512) (s : Fin 6) (k : Fin 1024) :
    iblk m c 1 t (ix3 0 s k) = m ((c : Thread nD τ).loc main_arg1) (ix3 (group (t.val * 512 + y.val)) s k) := by
  obtain ⟨-, e1, -⟩ := index_at t
  rw [group_block t.val y.val y.isLt]
  blk_ext [iblk, V, e1]

/-- The gain block at a point, an element: the host's gain as one row. -/
theorem block2 (c : Dev nD) (t : Fin cfg0.N) (k : Fin 1024) :
    iblk m c 2 t (ix2 0 k) = m ((c : Thread nD τ).loc main_arg2) (ix1 k) := by
  obtain ⟨-, -, e2, -⟩ := index_at t
  blk_ext! [iblk, e2]

/-- The weight block at a point, an element: the host's weight, its format changed. -/
theorem block3 (c : Dev nD) (t : Fin cfg0.N) (k : Fin 1024) (y : Fin 2560) :
    iblk m c 3 t (ix2 k y) = m ((c : Thread nD τ).loc main_arg3) (ix2 k y) := by
  obtain ⟨-, -, -, e3, -⟩ := index_at t
  blk_ext! [iblk, e3]

/-- The place of an element of the result's block in the result. -/
theorem place4 (t : Fin cfg0.N) (y : Fin 512) (k : Fin 2560) :
    ((cfg0.win 4).blk t).view.emb (ix2 y k) = ix2 ⟨t.val * 512 + y.val, rows_lt t y⟩ k := by
  obtain ⟨-, -, -, -, e4⟩ := index_at t
  blk_ext [e4]

/-- The kernel's result array: at every token and column the projected row. -/
def value (c : Dev nD) : Buf (Elt Ideal) ((c : Thread nD τ).loc main_v2) := fun i =>
  projected (fun k => m ((c : Thread nD τ).loc main_arg0) (ix2 (i 0) k)) (fun k => m ((c : Thread nD τ).loc main_arg2) (ix1 k))
    (fun k => m ((c : Thread nD τ).loc main_arg1) (ix3 (group (i 0).val) 0 k)) (fun k => m ((c : Thread nD τ).loc main_arg1) (ix3 (group (i 0).val) 1 k))
    (fun k => m ((c : Thread nD τ).loc main_arg3) (ix2 k (i 1)))

theorem array_eq (c : Dev nD) : (dats m 0 c).arrAt 4 cfg0.N = value m c := by
  refine (dats m 0 c).arrAt_eq_of_covers 4 _ (by decide +kernel) fun t hf y => ?_
  idx_vars y
  rw [place4]
  blk_simp [value]
  rw [after0_4]
  frame_out
  pointwise [k0_pay1]
  unfold projected
  simp only [block0, block2, block3, block1 m c t y0]

end Cert.InProjIdeal.Rows

end
-- ==== Proof.InProjRefValue.lean ====
/- What the input projection's reference computes, an element at a time. -/
module

public import proofs.«01_k».proof.Proof.InProjShape
public import proofs.«01_k».proof.Proof.Gen.InProjRefIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjRefIdeal.Rows

open Cert.InProjRefIdeal Cert.InProjRefIdeal.Gen Cert.InProjRefIdeal.Read Cert.Proj

/-- The reference's result at a token and a column. -/
theorem ref_at (x0 : (⟨S16384x1024, .f32⟩ : BufTy).Contents (Elt Ideal)) (x1 : (⟨S8x6x1024, .f32⟩ : BufTy).Contents (Elt Ideal)) (x2 : (⟨S1024, .f32⟩ : BufTy).Contents (Elt Ideal)) (x3 : (⟨S1024x2560, .f32⟩ : BufTy).Contents (Elt Ideal)) (r : Fin 16384) (c : Fin 2560) :
    val_main_v45 (F := Ideal) x0 x1 x2 x3 (ix2 r c)
      = projected (fun k => x0 (ix2 r k)) (fun k => x2 (ix1 k)) (fun k => x1 (ix3 (group r.val) 0 k)) (fun k => x1 (ix3 (group r.val) 1 k))
          (fun k => x3 (ix2 k c)) := by
  pointwise [val_main_v0, val_main_v1, val_main_c, val_main_v2, val_main_v3, val_main_v4, val_main_v5, val_main_c_0, val_main_v6, val_main_v7, val_main_v8, val_main_v9, val_main_v10, val_main_v11, val_main_call0_v0, val_main_call0_v1, val_main_call0_v2, val_main_v12, val_main_call1_v0, val_main_call1_v1, val_main_v13, val_main_v14, val_main_v15, val_main_c_1, val_main_v16, val_main_v17, val_main_v18, val_main_v19, val_main_c_2, val_main_v20, val_main_v21, val_main_v22, val_main_v23, val_main_v24, val_main_v25, val_main_call2_v0, val_main_call2_v1, val_main_call2_v2, val_main_v26, val_main_call3_v0, val_main_call3_v1, val_main_v27, val_main_v28, val_main_cst, val_main_v29, val_main_v30, val_main_cst_3, val_main_v31, val_main_v32, val_main_cst_4, val_main_v33, val_main_v34, val_main_v35, val_main_v36, val_main_v37, val_main_v38, val_main_v39, val_main_v40, val_main_cst_5, val_main_v41, val_main_v42, val_main_v43, val_main_v44, val_main_v45]
  unfold projected
  simp only [fun (s : Fin 6) (k : Fin 1024) => select_group (fun a => x1 (ix3 a s k)) r.val r.isLt]

end Cert.InProjRefIdeal.Rows

end
-- ==== Proof.OutProjValue.lean ====
/- What the output projection's launch leaves: every element of its result is the residual plus the gated blend of the four mixers. -/
module

public import proofs.«01_k».proof.Proof.InProjShape
public import proofs.«01_k».proof.Proof.Gen.OutProjIdeal.Value
public import proofs.«01_k».proof.Proof.Gen.OutProjIdeal.Skeleton
public import Idealize.ShloMosaic.Lib.Pointwise
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutProjIdeal.Rows

open Cert.OutProjIdeal Cert.OutProjIdeal.Gen Cert.Proj

/-- The facts of a point that the value rests on: the block each window is on. -/
structure At (t : Fin cfg0.N) : Prop where
  i : (grid0.coords t 0).val = t.val
  w0 : win0_0.index t = ![t.val, 0]
  w1 : win0_1.index t = ![min t.val 15, 0]
  w2 : win0_2.index t = ![t.val - 16, 0]
  w3 : win0_3.index t = ![min t.val 15, 0]
  w4 : win0_4.index t = ![t.val - 16, 0]
  w5 : win0_5.index t = ![t.val, 0]
  w6 : win0_6.index t = ![t.val, 0]
  w7 : win0_7.index t = ![(group (512 * t.val)).val, 0, 0]
  w8 : win0_8.index t = ![0, 0]
  w9 : win0_9.index t = ![t.val, 0]

theorem index_at (t : Fin cfg0.N) : At t := by
  have h := (by decide +kernel : ∀ t : Fin grid0.N, (grid0.coords t 0).val = t.val ∧ win0_0.index t = ![t.val, 0] ∧ win0_1.index t = ![min t.val 15, 0]
    ∧ win0_2.index t = ![t.val - 16, 0] ∧ win0_3.index t = ![min t.val 15, 0] ∧ win0_4.index t = ![t.val - 16, 0] ∧ win0_5.index t = ![t.val, 0]
    ∧ win0_6.index t = ![t.val, 0] ∧ win0_7.index t = ![(group (512 * t.val)).val, 0, 0] ∧ win0_8.index t = ![0, 0] ∧ win0_9.index t = ![t.val, 0]) t
  obtain ⟨h0, h1, h2, h3, h4, h5, h6, h7, h8, h9, h10⟩ := h
  exact ⟨h0, h1, h2, h3, h4, h5, h6, h7, h8, h9, h10⟩

/-- All tokens of a block are of one group. -/
theorem group_block (t : ℕ) (r : ℕ) (hr : r < 512) : group (t * 512 + r) = group (512 * t) := by
  have h1 : t * 512 + r < 8192 ↔ 512 * t < 8192 := by omega
  have h2 : t * 512 + r < 12288 ↔ 512 * t < 12288 := by omega
  unfold group
  rw [if_congr h1 rfl (if_congr h2 rfl rfl)]

/-- The body's choice between the two halves' blocks, by the point. -/
theorem select_half (i : grid0.Coords) (n : ℕ) (h : (i 0).val = n) (hn : n < 32) {α : Type} (a b : α) :
    Scalar.select (Scalar.cmpi .slt (BitVec.ofNat 32 (i 0).val) 16#32) a b = if n < 16 then a else b := by
  rw [h]; exact select_below n 16 (by omega) (by omega) a b

variable (m : (ℓ : Loc nD τ sig) → Buf (Elt Ideal) ℓ)

theorem points_lt (t : Fin cfg0.N) : t.val < 32 := by
  have := t.isLt; have h : cfg0.N = 32 := N_0; omega

/-- The token of a block's row. -/
abbrev tok (t : Fin cfg0.N) (y : Fin 512) : Fin 16384 := ⟨t.val * 512 + y.val, by have := points_lt t; omega⟩

/-- The convolution's block at a point, an element. -/
theorem block0 (c : Dev nD) (t : Fin cfg0.N) (y : Fin 512) (k : Fin 256) :
    iblk m c 0 t (ix2 y k) = m ((c : Thread nD τ).loc main_arg0) (ix2 (tok t y) k) := by
  have e := (index_at t).w0
  blk_ext [iblk, V, e]

/-- The first half block at a point of the first half, an element. -/
theorem block1 (c : Dev nD) (t : Fin cfg0.N) (y : Fin 512) (k : Fin 256) (h : t.val < 16) :
    iblk m c 1 t (ix2 y k) = m ((c : Thread nD τ).loc main_arg1) (ix2 ⟨(tok t y).val, by dsimp only [tok]; omega⟩ k) := by
  have e := (index_at t).w1
  rw [Nat.min_eq_left (by omega)] at e
  blk_ext [iblk, V, e]

/-- The next half block at a point of the second half, an element. -/
theorem block2 (c : Dev nD) (t : Fin cfg0.N) (y : Fin 512) (k : Fin 256) (h : ¬ t.val < 16) :
    iblk m c 2 t (ix2 y k) = m ((c : Thread nD τ).loc main_arg2) (ix2 ⟨(tok t y).val - 8192, by have := points_lt t; dsimp only [tok]; omega⟩ k) := by
  have e := (index_at t).w2
  blk_ext [iblk, V, e]

/-- The third half block at a point of the first half, an element. -/
theorem block3 (c : Dev nD) (t : Fin cfg0.N) (y : Fin 512) (k : Fin 256) (h : t.val < 16) :
    iblk m c 3 t (ix2 y k) = m ((c : Thread nD τ).loc main_arg3) (ix2 ⟨(tok t y).val, by dsimp only [tok]; omega⟩ k) := by
  have e := (index_at t).w3
  rw [Nat.min_eq_left (by omega)] at e
  blk_ext [iblk, V, e]

/-- The next half block at a point of the second half, an element. -/
theorem block4 (c : Dev nD) (t : Fin cfg0.N) (y : Fin 512) (k : Fin 256) (h : ¬ t.val < 16) :
    iblk m c 4 t (ix2 y k) = m ((c : Thread nD τ).loc main_arg4) (ix2 ⟨(tok t y).val - 8192, by have := points_lt t; dsimp only [tok]; omega⟩ k) := by
  have e := (index_at t).w4
  blk_ext [iblk, V, e]

/-- The gated MLP's block at a point, an element. -/
theorem block5 (c : Dev nD) (t : Fin cfg0.N) (y : Fin 512) (k : Fin 256) :
    iblk m c 5 t (ix2 y k) = m ((c : Thread nD τ).loc main_arg5) (ix2 (tok t y) k) := by
  have e := (index_at t).w5
  blk_ext [iblk, V, e]

/-- The residual's block at a point, an element. -/
theorem block6 (c : Dev nD) (t : Fin cfg0.N) (y : Fin 512) (k : Fin 1024) :
    iblk m c 6 t (ix2 y k) = m ((c : Thread nD τ).loc main_arg6) (ix2 (tok t y) k) := by
  have e := (index_at t).w6
  blk_ext [iblk, V, e]

/-- The conditioning block at a point, an element. -/
theorem block7 (c : Dev nD) (t : Fin cfg0.N) (y : Fin 512) (s : Fin 6) (k : Fin 1024) :
    iblk m c 7 t (ix3 0 s k) = m ((c : Thread nD τ).loc main_arg7) (ix3 (group (t.val * 512 + y.val)) s k) := by
  have e := (index_at t).w7
  rw [group_block t.val y.val y.isLt]
  blk_ext [iblk, V, e]

/-- The weight block at a point, an element: the host's weight, its format changed. -/
theorem block8 (c : Dev nD) (t : Fin cfg0.N) (k : Fin 1024) (y : Fin 1024) :
    iblk m c 8 t (ix2 k y) = m ((c : Thread nD τ).loc main_arg8) (ix2 k y) := by
  have e := (index_at t).w8
  blk_ext! [iblk, e]

/-- The place of an element of the result's block in the result. -/
theorem place9 (t : Fin cfg0.N) (y : Fin 512) (k : Fin 1024) : ((cfg0.win 9).blk t).view.emb (ix2 y k) = ix2 (tok t y) k := by
  have e := (index_at t).w9
  blk_ext [e]

/-- The kernel's result array: at every token and column the blended row. -/
def value (c : Dev nD) : Buf (Elt Ideal) ((c : Thread nD τ).loc main_v1) := fun i =>
  blended (m ((c : Thread nD τ).loc main_arg6) (ix2 (i 0) (i 1))) (m ((c : Thread nD τ).loc main_arg7) (ix3 (group (i 0).val) 2 (i 1)))
    (fun k => m ((c : Thread nD τ).loc main_arg0) (ix2 (i 0) k))
    (joined (m ((c : Thread nD τ).loc main_arg1)) (m ((c : Thread nD τ).loc main_arg2)) (i 0))
    (joined (m ((c : Thread nD τ).loc main_arg3)) (m ((c : Thread nD τ).loc main_arg4)) (i 0))
    (fun k => m ((c : Thread nD τ).loc main_arg5) (ix2 (i 0) k)) (fun k => m ((c : Thread nD τ).loc main_arg8) (ix2 k (i 1)))

/-- The halves' choice at a point is the joined array's row. -/
theorem choose12 (c : Dev nD) (t : Fin cfg0.N) (y : Fin 512) (k : Fin 256) :
    (if t.val < 16 then iblk m c 1 t (ix2 y k) else iblk m c 2 t (ix2 y k))
      = joined (m ((c : Thread nD τ).loc main_arg1)) (m ((c : Thread nD τ).loc main_arg2)) (tok t y) k := by
  unfold joined
  by_cases h : t.val < 16
  · rw [if_pos h, dif_pos (by dsimp only [tok]; omega), block1 m c t y k h]
  · rw [if_neg h, dif_neg (by dsimp only [tok]; omega), block2 m c t y k h]

theorem choose34 (c : Dev nD) (t : Fin cfg0.N) (y : Fin 512) (k : Fin 256) :
    (if t.val < 16 then iblk m c 3 t (ix2 y k) else iblk m c 4 t (ix2 y k))
      = joined (m ((c : Thread nD τ).loc main_arg3)) (m ((c : Thread nD τ).loc main_arg4)) (tok t y) k := by
  unfold joined
  by_cases h : t.val < 16
  · rw [if_pos h, dif_pos (by dsimp only [tok]; omega), block3 m c t y k h]
  · rw [if_neg h, dif_neg (by dsimp only [tok]; omega), block4 m c t y k h]

/-- Two of the four sums of a blend exchanged for equal ones. -/
theorem blend_congr (x g a d : EReal) {b b' e e' : EReal} (hb : b = b') (he : e = e') : x + g * (a + b + e + d) = x + g * (a + b' + e' + d) := by
  rw [hb, he]

/-- The result array after the launch. -/
theorem array_eq (c : Dev nD) : (dats m 0 c).arrAt 9 cfg0.N = value m c := by
  refine (dats m 0 c).arrAt_eq_of_covers 9 _ (by decide +kernel) fun t hf y => ?_
  idx_vars y
  rw [place9]
  blk_simp [value]
  rw [after0_9]
  frame_out
  pointwise [k0_pay1, k0_pay2]
  unfold blended
  simp only [select_half (grid0.coords t) t.val (index_at t).i (points_lt t), block0, block5, block6, block7 m c t y0, block8]
  refine blend_congr _ _ _ _ ?_ ?_
  · exact Finset.sum_congr rfl fun k _ => congrArg (· * _) (choose12 m c t y0 k)
  · exact Finset.sum_congr rfl fun k _ => congrArg (· * _) (choose34 m c t y0 k)

end Cert.OutProjIdeal.Rows

end
-- ==== Proof.OutProjRefValue.lean ====
/- What the output projection's reference computes, an element at a time. -/
module

public import proofs.«01_k».proof.Proof.InProjShape
public import proofs.«01_k».proof.Proof.Gen.OutProjRefIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutProjRefIdeal.Rows

open Cert.OutProjRefIdeal Cert.OutProjRefIdeal.Gen Cert.OutProjRefIdeal.Read Cert.Proj

/-- The reference's result at a token and a column. -/
theorem ref_at (x0 : (⟨S16384x256, .f32⟩ : BufTy).Contents (Elt Ideal)) (x1 x2 x3 x4 : (⟨S8192x256, .f32⟩ : BufTy).Contents (Elt Ideal)) (x5 : (⟨S16384x256, .f32⟩ : BufTy).Contents (Elt Ideal)) (x6 : (⟨S16384x1024, .f32⟩ : BufTy).Contents (Elt Ideal)) (x7 : (⟨S8x6x1024, .f32⟩ : BufTy).Contents (Elt Ideal)) (x8 : (⟨S1024x1024, .f32⟩ : BufTy).Contents (Elt Ideal)) (r : Fin 16384) (c : Fin 1024) :
    val_main_v19 (F := Ideal) x0 x1 x2 x3 x4 x5 x6 x7 x8 (ix2 r c)
      = blended (x6 (ix2 r c)) (x7 (ix3 (group r.val) 2 c)) (fun k => x0 (ix2 r k)) (joined x1 x2 r) (joined x3 x4 r) (fun k => x5 (ix2 r k))
          (fun k => x8 (ix2 k c)) := by
  pointwise [val_main_v0, val_main_v1, val_main_v2, val_main_v3, val_main_v4, val_main_v5, val_main_c, val_main_v6, val_main_v7, val_main_v8, val_main_v9, val_main_c_0, val_main_v10, val_main_v11, val_main_v12, val_main_v13, val_main_v14, val_main_v15, val_main_call0_v0, val_main_call0_v1, val_main_call0_v2, val_main_v16, val_main_call1_v0, val_main_call1_v1, val_main_v17, val_main_v18, val_main_v19]
  rw [select_group (fun a => x7 (ix3 a 2 c)) r.val r.isLt, sum_quarters]
  unfold blended joined
  congr 1

end Cert.OutProjRefIdeal.Rows

end
-- ==== Proof.ProjClaims.lean ====
/- The two projections' value claims: the kernel's result array and the reference's term are the same rows. -/
module

public import proofs.«01_k».proof.Defs
public import proofs.«01_k».proof.Proof.InProjValue
public import proofs.«01_k».proof.Proof.InProjRefValue
public import proofs.«01_k».proof.Proof.OutProjValue
public import proofs.«01_k».proof.Proof.OutProjRefValue
public import proofs.«01_k».proof.Proof.Gen.InProjRefIdeal.Run
public import proofs.«01_k».proof.Proof.Gen.OutProjRefIdeal.Run

@[expose] public section

noncomputable section

open Idealize.ShloMosaic Idealize.SL.Sem

namespace Cert.Proj

/-- The input projection and its reference, from the same arguments, end with the same array. -/
theorem in_claim : Cert.algebraic_InProjIdeal_InProjRefIdeal := by
  intro m g m' g' _ hm
  refine ⟨fun c => Cert.InProjIdeal.Rows.value m c, ?_, ?_⟩
  · refine (θ_run _ _ _).mono (fun r h c => ?_) (Cert.InProjIdeal.Value.run_blocks m g)
    exact ⟨(h c).1.trans (Cert.InProjIdeal.Rows.array_eq m c), (h c).2⟩
  · refine (θ_run _ _ _).mono (fun r h c => ?_) (Cert.InProjRefIdeal.Value.run m' g')
    obtain ⟨h0, h1, h2, h3⟩ := hm c
    refine ⟨(h c).1.trans ?_, (h c).2⟩
    rw [h0, h1, h2, h3]
    refine (Cert.InProjRefIdeal.Read.val_main_v45_eq ..).trans ?_
    funext i
    obtain ⟨a, b, rfl⟩ : ∃ a b, i = ix2 a b := ⟨i 0, i 1, eq_ix2 i⟩
    exact Cert.InProjRefIdeal.Rows.ref_at _ _ _ _ a b

/-- The output projection and its reference, from the same arguments, end with the same array. -/
theorem out_claim : Cert.algebraic_OutProjIdeal_OutProjRefIdeal := by
  intro m g m' g' _ hm
  refine ⟨fun c => Cert.OutProjIdeal.Rows.value m c, ?_, ?_⟩
  · refine (θ_run _ _ _).mono (fun r h c => ?_) (Cert.OutProjIdeal.Value.run_blocks m g)
    exact ⟨(h c).1.trans (Cert.OutProjIdeal.Rows.array_eq m c), (h c).2⟩
  · refine (θ_run _ _ _).mono (fun r h c => ?_) (Cert.OutProjRefIdeal.Value.run m' g')
    obtain ⟨h0, h1, h2, h3, h4, h5, h6, h7, h8⟩ := hm c
    refine ⟨(h c).1.trans ?_, (h c).2⟩
    rw [h0, h1, h2, h3, h4, h5, h6, h7, h8]
    refine (Cert.OutProjRefIdeal.Read.val_main_v19_eq ..).trans ?_
    funext i
    obtain ⟨a, b, rfl⟩ : ∃ a b, i = ix2 a b := ⟨i 0, i 1, eq_ix2 i⟩
    exact Cert.OutProjRefIdeal.Rows.ref_at _ _ _ _ _ _ _ _ _ a b

end Cert.Proj

end
-- ==== Proof.DiffScores.lean ====
/- The scores of the differential attention kernel's body at a point, over the reals. -/
module

public import proofs.«01_k».proof.Proof.DiffIdealFrame
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic

namespace Cert.DiffIdeal.Rows

open Cert.DiffIdeal Cert.DiffIdeal.Gen

/-! ## Real values -/

/-- A sum of reals, read in the extended reals. -/
theorem coe_sum {ι : Type} (s : Finset ι) (f : ι → ℝ) : ((∑ k ∈ s, f k : ℝ) : EReal) = ∑ k ∈ s, (f k : EReal) :=
  map_sum (⟨⟨Real.toEReal, rfl⟩, EReal.coe_add⟩ : ℝ →+ EReal) f s

/-- The value is a real number. -/
def IsReal (x : EReal) : Prop := ∃ a : ℝ, x = (a : EReal)

theorem IsReal.max {x y : EReal} (hx : IsReal x) (hy : IsReal y) : IsReal (max x y) := by
  rcases max_choice x y with h | h <;> rw [h] <;> assumption

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum over a nonempty set of real values, from below everything, is a real value. -/
theorem IsReal.fold {ι : Type} (f : ι → EReal) (hf : ∀ k, IsReal (f k)) (s : Finset ι) (hs : s.Nonempty) :
    IsReal (s.fold Max.max ⊥ f) := by
  classical
  induction hs using Finset.Nonempty.cons_induction with
  | singleton a => rw [Finset.fold_singleton, max_eq_left bot_le]; exact hf a
  | cons a s h hs ih => rw [Finset.fold_cons]; exact (hf a).max ih

/-! ## The stacked queries -/

/-- The stacked rows' group of a lane: 32 lanes to a group. -/
theorem lane32 : ∀ l : Fin 256, k0_pay3 (ix2 (0 : Fin 1) l) = BitVec.ofNat 32 (l.val / 32) := by decide +kernel

/-- Whether a lane is of a group, as the body's comparison has it. -/
theorem select_lane (n : ℕ) (hn : n < 8) (l : Fin 256) (a b : EReal) :
    Scalar.select (IntOp.cmpi .eq (k0_pay3 (ix2 (0 : Fin 1) l)) (BitVec.ofNat 32 n)) a b = if l.val / 32 = n then a else b := by
  have key : ∀ l : Fin 256, ∀ n : Fin 8, IntOp.cmpi .eq (k0_pay3 (ix2 (0 : Fin 1) l)) (BitVec.ofNat 32 n.val) = if l.val / 32 = n.val then 1#1 else 0#1 := by
    decide +kernel
  rw [key l ⟨n, hn⟩]
  by_cases h : l.val / 32 = n
  · rw [if_pos h, if_pos h]; rfl
  · rw [if_neg h, if_neg h]; rfl

/-- The queries under each other eight times, the copy `g` with every lane outside group `g` at zero. -/
def stacked (x0 : Vec Ideal S128x256 .bf16) : FVec Ideal S1024x256 .bf16 :=
  k0_pay14 x0 (k0_pay5 x0 k0_pay3 k0_pay4) (k0_pay6 x0 k0_pay3) (k0_pay7 x0 k0_pay3) (k0_pay8 x0 k0_pay3) (k0_pay9 x0 k0_pay3)
    (k0_pay10 x0 k0_pay3) (k0_pay11 x0 k0_pay3) k0_pay12 (k0_pay13 k0_pay3)

theorem stacked_at (x0 : Vec Ideal S128x256 .bf16) (r : Fin 1024) (l : Fin 256) :
    stacked x0 (ix2 r l) = if l.val / 32 = r.val / 128 then x0 (ix2 ⟨r.val % 128, by omega⟩ l) else 0 := by
  unfold stacked
  pointwise [k0_pay14, k0_pay5, k0_pay6, k0_pay7, k0_pay8, k0_pay9, k0_pay10, k0_pay11, k0_pay12, k0_pay13, k0_pay4]
  generalize hR : (if l.val / 32 = r.val / 128 then x0 (ix2 ⟨r.val % 128, by omega⟩ l) else 0) = R
  have at' (n : ℕ) (hn : n < 8) (q : Fin 128) (hq : q.val + 128 * n = r.val) :
      Scalar.select (IntOp.cmpi .eq (k0_pay3 (ix2 (0 : Fin 1) l)) (BitVec.ofNat 32 n)) (x0 (ix2 q l)) 0 = R := by
    rw [select_lane n hn l, ← hR]
    refine if_congr (by omega) ?_ rfl
    exact congrArg x0 (congrArg (ix2 · l) (Fin.ext (by dsimp only; omega)))
  split_ifs
  all_goals
    first
    | exact at' 0 (by omega) _ (by dsimp only; omega)
    | exact at' 1 (by omega) _ (by dsimp only; omega)
    | exact at' 2 (by omega) _ (by dsimp only; omega)
    | exact at' 3 (by omega) _ (by dsimp only; omega)
    | exact at' 4 (by omega) _ (by dsimp only; omega)
    | exact at' 5 (by omega) _ (by dsimp only; omega)
    | exact at' 6 (by omega) _ (by dsimp only; omega)
    | exact at' 7 (by omega) _ (by dsimp only; omega)

/-- A load of a slot after a store of another slot reads what was there before. -/
theorem slot_skip (v : View sig .tc .vmem S8x1024x512 .f32) {off off' : Fin 3 → ℕ}
    (inb : ∀ a, off a + S1x1024x512.size a ≤ S8x1024x512.size a) (inb' : ∀ a, off' a + S1x1024x512.size a ≤ S8x1024x512.size a)
    (w : Vec Ideal S1x1024x512 .f32) (L : List (View.Piece (Elt Ideal) S8x1024x512 .f32)) (h : off 0 ≠ off' 0) :
    v.readCov (⟨Rect.unit (s := S8x1024x512) off S1x1024x512.size inb, w⟩ :: L) (Rect.unit (s := S8x1024x512) off' S1x1024x512.size inb').toLoadRect
      = v.readCov L (Rect.unit (s := S8x1024x512) off' S1x1024x512.size inb').toLoadRect := by
  refine View.readCov_cons_of_disjoint v _ L _ (Finset.disjoint_left.mpr fun y hy hy' => ?_)
  have h1 := (Rect.mem_set_unit (inb := inb)).mp hy (0 : Fin 3)
  have h2 := (Rect.mem_set_unit (inb := inb')).mp hy' (0 : Fin 3)
  have e : S1x1024x512.size 0 = 1 := rfl
  rw [e] at h1 h2
  omega

theorem slots_ne (i : grid0.Coords) (a b : Fin 8) (h : a ≠ b) :
    k0_off1 i (BitVec.ofNat 32 a.val) 0 ≠ k0_off1 i (BitVec.ofNat 32 b.val) 0 := by
  rw [Body.slot_eq, Body.slot_eq]
  show ((i 1).val + a.val) % 8 ≠ ((i 1).val + b.val) % 8
  have : a.val ≠ b.val := fun e => h (Fin.ext e)
  omega

/-- Chunk `b`'s slot read after a later chunk `a`'s store. -/
theorem skip (v : View sig .tc .vmem S8x1024x512 .f32) (i : grid0.Coords) (a b : Fin 8) (h : a ≠ b)
    (inb : ∀ d, k0_off1 i (BitVec.ofNat 32 a.val) d + S1x1024x512.size d ≤ S8x1024x512.size d)
    (inb' : ∀ d, k0_off1 i (BitVec.ofNat 32 b.val) d + S1x1024x512.size d ≤ S8x1024x512.size d)
    (w : Vec Ideal S1x1024x512 .f32) (L : List (View.Piece (Elt Ideal) S8x1024x512 .f32)) :
    v.readCov (⟨Rect.unit (s := S8x1024x512) (k0_off1 i (BitVec.ofNat 32 a.val)) S1x1024x512.size inb, w⟩ :: L) (Rect.unit (s := S8x1024x512) (k0_off1 i (BitVec.ofNat 32 b.val)) S1x1024x512.size inb').toLoadRect
      = v.readCov L (Rect.unit (s := S8x1024x512) (k0_off1 i (BitVec.ofNat 32 b.val)) S1x1024x512.size inb').toLoadRect :=
  slot_skip v inb inb' w L (slots_ne i a b h)

/-- The slots read back after all eight stores: chunk `b`'s slot holds chunk `b`. -/
theorem readback (v : View sig .tc .vmem S8x1024x512 .f32) (i : grid0.Coords)
    (inb : ∀ (b : Fin 8) d, k0_off1 i (BitVec.ofNat 32 b.val) d + S1x1024x512.size d ≤ S8x1024x512.size d) (w : Fin 8 → Vec Ideal S1x1024x512 .f32) (b : Fin 8) :
    v.readCov [⟨Rect.unit (s := S8x1024x512) (k0_off1 i (BitVec.ofNat 32 (7 : Fin 8).val)) S1x1024x512.size (inb 7), w 7⟩,
      ⟨Rect.unit (s := S8x1024x512) (k0_off1 i (BitVec.ofNat 32 (6 : Fin 8).val)) S1x1024x512.size (inb 6), w 6⟩,
      ⟨Rect.unit (s := S8x1024x512) (k0_off1 i (BitVec.ofNat 32 (5 : Fin 8).val)) S1x1024x512.size (inb 5), w 5⟩,
      ⟨Rect.unit (s := S8x1024x512) (k0_off1 i (BitVec.ofNat 32 (4 : Fin 8).val)) S1x1024x512.size (inb 4), w 4⟩,
      ⟨Rect.unit (s := S8x1024x512) (k0_off1 i (BitVec.ofNat 32 (3 : Fin 8).val)) S1x1024x512.size (inb 3), w 3⟩,
      ⟨Rect.unit (s := S8x1024x512) (k0_off1 i (BitVec.ofNat 32 (2 : Fin 8).val)) S1x1024x512.size (inb 2), w 2⟩,
      ⟨Rect.unit (s := S8x1024x512) (k0_off1 i (BitVec.ofNat 32 (1 : Fin 8).val)) S1x1024x512.size (inb 1), w 1⟩,
      ⟨Rect.unit (s := S8x1024x512) (k0_off1 i (BitVec.ofNat 32 (0 : Fin 8).val)) S1x1024x512.size (inb 0), w 0⟩]
      (Rect.unit (s := S8x1024x512) (k0_off1 i (BitVec.ofNat 32 b.val)) S1x1024x512.size (inb b)).toLoadRect = w b :=
  match b with
  | 0 => by rw [skip v i 7 0 (by decide), skip v i 6 0 (by decide), skip v i 5 0 (by decide), skip v i 4 0 (by decide), skip v i 3 0 (by decide), skip v i 2 0 (by decide), skip v i 1 0 (by decide), View.readCov_cons_toLoadRect]
  | 1 => by rw [skip v i 7 1 (by decide), skip v i 6 1 (by decide), skip v i 5 1 (by decide), skip v i 4 1 (by decide), skip v i 3 1 (by decide), skip v i 2 1 (by decide), View.readCov_cons_toLoadRect]
  | 2 => by rw [skip v i 7 2 (by decide), skip v i 6 2 (by decide), skip v i 5 2 (by decide), skip v i 4 2 (by decide), skip v i 3 2 (by decide), View.readCov_cons_toLoadRect]
  | 3 => by rw [skip v i 7 3 (by decide), skip v i 6 3 (by decide), skip v i 5 3 (by decide), skip v i 4 3 (by decide), View.readCov_cons_toLoadRect]
  | 4 => by rw [skip v i 7 4 (by decide), skip v i 6 4 (by decide), skip v i 5 4 (by decide), View.readCov_cons_toLoadRect]
  | 5 => by rw [skip v i 7 5 (by decide), skip v i 6 5 (by decide), View.readCov_cons_toLoadRect]
  | 6 => by rw [skip v i 7 6 (by decide), View.readCov_cons_toLoadRect]
  | 7 => by rw [View.readCov_cons_toLoadRect]

/-- The key of a chunk's column. -/
abbrev key (j : Fin 8) (k : Fin 512) : Fin 4096 := ⟨512 * j.val + k.val, by omega⟩

/-- A stacked row's score of a key. -/
def score (x0 : Vec Ideal S128x256 .bf16) (x1 : Vec Ideal S1x256x4096 .bf16) (r : Fin 1024) (k : Fin 4096) : EReal :=
  ∑ l : Fin 256, stacked x0 (ix2 r l) * x1 (ix3 (0 : Fin 1) l k)

/-- A stacked row's score of a cached key. -/
def scoreC (x0 : Vec Ideal S128x256 .bf16) (x3 : Vec Ideal S1x256x256 .bf16) (r : Fin 1024) (k : Fin 256) : EReal :=
  ∑ l : Fin 256, stacked x0 (ix2 r l) * x3 (ix3 (0 : Fin 1) l k)

/-- A score's terms are at the key: the key's number may be written otherwise. -/
theorem score_of (x0 : Vec Ideal S128x256 .bf16) (x1 : Vec Ideal S1x256x4096 .bf16) (r : Fin 1024) (k k' : Fin 4096) (h : k'.val = k.val) :
    ∑ l : Fin 256, stacked x0 (ix2 r l) * x1 (ix3 (0 : Fin 1) l k') = score x0 x1 r k := by
  rw [Fin.ext h]; rfl

section

variable (c : Dev nD) (i : grid0.Coords)
    (arg2 : Memref sig .tc .vmem S128x256 .bf16) (harg2 : arg2.IsWhole)
    (arg3 : Memref sig .tc .vmem S1x256x4096 .bf16) (harg3 : arg3.IsWhole)
    (arg10 : Memref sig .tc .vmem S8x1024x512 .f32)
    (x0 : Vec Ideal S128x256 .bf16) (x1 : Vec Ideal S1x256x4096 .bf16)

open Cert.DiffIdeal.Body

theorem r_9_eq : bodyRun.sl.r_9 c arg2 harg2 x0 = stacked x0 := by
  sl_unfold_words
  frame_out
  rfl

/-- The chunks as the run stores them. -/
def stored (b : Fin 8) : Vec Ideal S1x1024x512 .f32 :=
  match b with
  | 0 => k0_pay16 (bodyRun.sl.r_1 c arg2 harg2 x0) (bodyRun.sl.r_2 c arg2 harg2 x0) (bodyRun.sl.r_3 c arg2 harg2 x0) (bodyRun.sl.r_4 c arg2 harg2 x0) (bodyRun.sl.r_5 c arg2 harg2 x0) (bodyRun.sl.r_6 c arg2 harg2 x0) (bodyRun.sl.r_7 c arg2 harg2 x0) (bodyRun.sl.r_8 c arg2 harg2 x0) k0_pay12 (k0_pay13 k0_pay3) (View.readAt (Elt Ideal) arg3.view (Rect.unit (s := S1x256x4096) ![0, 0, 0] S1x256x512.size inb_S1x256x4096_S1x256x512_0_0_0).toLoadRect (harg3.unread x1))
  | 1 => k0_pay19 (bodyRun.sl.r_11 c arg2 harg2 arg3 harg3 x0 x1)
  | 2 => k0_pay21 (bodyRun.sl.r_9 c arg2 harg2 x0) (View.readAt (Elt Ideal) arg3.view (Rect.unit (s := S1x256x4096) ![0, 0, 1024] S1x256x512.size inb_S1x256x4096_S1x256x512_0_0_1024).toLoadRect (harg3.unread x1))
  | 3 => k0_pay25 (bodyRun.sl.r_9 c arg2 harg2 x0) (View.readAt (Elt Ideal) arg3.view (Rect.unit (s := S1x256x4096) ![0, 0, 1536] S1x256x512.size inb_S1x256x4096_S1x256x512_0_0_1536).toLoadRect (harg3.unread x1))
  | 4 => k0_pay28 (bodyRun.sl.r_16 c arg2 harg2 arg3 harg3 x0 x1)
  | 5 => k0_pay30 (bodyRun.sl.r_9 c arg2 harg2 x0) (View.readAt (Elt Ideal) arg3.view (Rect.unit (s := S1x256x4096) ![0, 0, 2560] S1x256x512.size inb_S1x256x4096_S1x256x512_0_0_2560).toLoadRect (harg3.unread x1))
  | 6 => k0_pay34 (bodyRun.sl.r_9 c arg2 harg2 x0) (View.readAt (Elt Ideal) arg3.view (Rect.unit (s := S1x256x4096) ![0, 0, 3072] S1x256x512.size inb_S1x256x4096_S1x256x512_0_0_3072).toLoadRect (harg3.unread x1))
  | 7 => k0_pay37 (bodyRun.sl.r_21 c arg2 harg2 arg3 harg3 x0 x1)

theorem stored_at (b : Fin 8) (r : Fin 1024) (k : Fin 512) :
    stored c arg2 harg2 arg3 harg3 x0 x1 b (ix3 (0 : Fin 1) r k) = score x0 x1 r (key b k) := by
  have e := r_9_eq c arg2 harg2 x0
  have e' := e
  unfold bodyRun.sl.r_9 at e
  match b with
  | 0 =>
    simp only [stored, View.readAt_eq_ld, Memref.IsWhole.read_unread]
    pointwise [k0_pay16, k0_pay15, e]
    exact score_of _ _ _ _ _ (by simp [key])
  | 1 =>
    simp only [stored, bodyRun.sl.r_11, View.readAt_eq_ld, Memref.IsWhole.read_unread]
    pointwise [k0_pay19, k0_pay18, e]
    exact score_of _ _ _ _ _ rfl
  | 2 =>
    simp only [stored, View.readAt_eq_ld, Memref.IsWhole.read_unread, e']
    pointwise [k0_pay21, k0_pay20]
    exact score_of _ _ _ _ _ rfl
  | 3 =>
    simp only [stored, View.readAt_eq_ld, Memref.IsWhole.read_unread, e']
    pointwise [k0_pay25, k0_pay24]
    exact score_of _ _ _ _ _ rfl
  | 4 =>
    simp only [stored, bodyRun.sl.r_16, View.readAt_eq_ld, Memref.IsWhole.read_unread, e']
    pointwise [k0_pay28, k0_pay27]
    exact score_of _ _ _ _ _ rfl
  | 5 =>
    simp only [stored, View.readAt_eq_ld, Memref.IsWhole.read_unread, e']
    pointwise [k0_pay30, k0_pay29]
    exact score_of _ _ _ _ _ rfl
  | 6 =>
    simp only [stored, View.readAt_eq_ld, Memref.IsWhole.read_unread, e']
    pointwise [k0_pay34, k0_pay33]
    exact score_of _ _ _ _ _ rfl
  | 7 =>
    simp only [stored, bodyRun.sl.r_21, View.readAt_eq_ld, Memref.IsWhole.read_unread, e']
    pointwise [k0_pay37, k0_pay36]
    exact score_of _ _ _ _ _ rfl

/-- The eight slots read back. -/
theorem slots_eq (b : Fin 8) :
    arg10.view.readCov (bodyRun.sl.HS0_8 c i arg2 harg2 arg3 harg3 x0 x1) (Rect.unit (s := S8x1024x512) (k0_off1 i (BitVec.ofNat 32 b.val)) S1x1024x512.size (k0_off1_inb i b)).toLoadRect
      = stored c arg2 harg2 arg3 harg3 x0 x1 b :=
  readback arg10.view i (k0_off1_inb i) (stored c arg2 harg2 arg3 harg3 x0 x1) b

theorem v328_at (r : Fin 1024) (k : Fin 512) : bodyRun.sl.v328 c i arg2 harg2 arg3 harg3 arg10 x0 x1 (ix3 (0 : Fin 1) r k) = score x0 x1 r (key 0 k) :=
  (congrFun (slots_eq c i arg2 harg2 arg3 harg3 arg10 x0 x1 0) _).trans (stored_at c arg2 harg2 arg3 harg3 x0 x1 0 r k)

theorem v363_at (r : Fin 1024) (k : Fin 512) : bodyRun.sl.v363 c i arg2 harg2 arg3 harg3 arg10 x0 x1 (ix3 (0 : Fin 1) r k) = score x0 x1 r (key 1 k) :=
  (congrFun (slots_eq c i arg2 harg2 arg3 harg3 arg10 x0 x1 1) _).trans (stored_at c arg2 harg2 arg3 harg3 x0 x1 1 r k)

theorem v398_at (r : Fin 1024) (k : Fin 512) : bodyRun.sl.v398 c i arg2 harg2 arg3 harg3 arg10 x0 x1 (ix3 (0 : Fin 1) r k) = score x0 x1 r (key 2 k) :=
  (congrFun (slots_eq c i arg2 harg2 arg3 harg3 arg10 x0 x1 2) _).trans (stored_at c arg2 harg2 arg3 harg3 x0 x1 2 r k)

theorem v443_at (r : Fin 1024) (k : Fin 512) : bodyRun.sl.v443 c i arg2 harg2 arg3 harg3 arg10 x0 x1 (ix3 (0 : Fin 1) r k) = score x0 x1 r (key 3 k) :=
  (congrFun (slots_eq c i arg2 harg2 arg3 harg3 arg10 x0 x1 3) _).trans (stored_at c arg2 harg2 arg3 harg3 x0 x1 3 r k)

theorem v488_at (r : Fin 1024) (k : Fin 512) : bodyRun.sl.v488 c i arg2 harg2 arg3 harg3 arg10 x0 x1 (ix3 (0 : Fin 1) r k) = score x0 x1 r (key 4 k) :=
  (congrFun (slots_eq c i arg2 harg2 arg3 harg3 arg10 x0 x1 4) _).trans (stored_at c arg2 harg2 arg3 harg3 x0 x1 4 r k)

theorem v533_at (r : Fin 1024) (k : Fin 512) : bodyRun.sl.v533 c i arg2 harg2 arg3 harg3 arg10 x0 x1 (ix3 (0 : Fin 1) r k) = score x0 x1 r (key 5 k) :=
  (congrFun (slots_eq c i arg2 harg2 arg3 harg3 arg10 x0 x1 5) _).trans (stored_at c arg2 harg2 arg3 harg3 x0 x1 5 r k)

theorem v578_at (r : Fin 1024) (k : Fin 512) : bodyRun.sl.v578 c i arg2 harg2 arg3 harg3 arg10 x0 x1 (ix3 (0 : Fin 1) r k) = score x0 x1 r (key 6 k) :=
  (congrFun (slots_eq c i arg2 harg2 arg3 harg3 arg10 x0 x1 6) _).trans (stored_at c arg2 harg2 arg3 harg3 x0 x1 6 r k)

theorem v623_at (r : Fin 1024) (k : Fin 512) : bodyRun.sl.v623 c i arg2 harg2 arg3 harg3 arg10 x0 x1 (ix3 (0 : Fin 1) r k) = score x0 x1 r (key 7 k) :=
  (congrFun (slots_eq c i arg2 harg2 arg3 harg3 arg10 x0 x1 7) _).trans (stored_at c arg2 harg2 arg3 harg3 x0 x1 7 r k)

end

end Cert.DiffIdeal.Rows

end
-- ==== Proof.DiffSpec.lean ====
/- Differential attention over real numbers: two softmax means of the values for each head, the second taken off the first in the
proportion λ, and the head's 64 lanes scaled by their root mean square. -/
module

public import proofs.«01_k».proof.Proof.DiffScores

@[expose] public section

set_option maxRecDepth 16384

noncomputable section

open Idealize.ShloMosaic Idealize.ShloMosaic.TcCoe Idealize.SL.Sem

namespace Cert.DiffAttn

open Cert.DiffIdeal.Rows (coe_sum IsReal)

/-- The factor the scores are multiplied by. -/
def scale : ℝ := 11863283 / 67108864

/-- A query's product with a key over the `n`-th 32 lanes. -/
def dot32 (q k : Fin 256 → ℝ) (n : Fin 8) : ℝ := ∑ l : Fin 32, q ⟨32 * n.val + l.val, by omega⟩ * k ⟨32 * n.val + l.val, by omega⟩

/-- A mean of values weighted by the exponentials of scaled scores, over the fresh and the cached keys. -/
def mean (s : Fin 4096 → ℝ) (sc : Fin 256 → ℝ) (v : Fin 4096 → ℝ) (vc : Fin 256 → ℝ) : ℝ :=
  (∑ k, Real.exp (scale * s k) * v k + ∑ k, Real.exp (scale * sc k) * vc k) / (∑ k, Real.exp (scale * s k) + ∑ k, Real.exp (scale * sc k))

/-- The mean at a lane, by the scores of the `n`-th 32 lanes. -/
def meanAt (q : Fin 256 → ℝ) (kk : Fin 4096 → Fin 256 → ℝ) (kc : Fin 256 → Fin 256 → ℝ) (vv : Fin 4096 → Fin 256 → ℝ) (vc : Fin 256 → Fin 256 → ℝ)
    (n : Fin 8) (d : Fin 256) : ℝ :=
  mean (fun k => dot32 q (kk k) n) (fun k => dot32 q (kc k) n) (fun k => vv k d) (fun k => vc k d)

/-- The two means of the lane's head, the second taken off in the proportion `lam`. -/
def mixed (q : Fin 256 → ℝ) (kk : Fin 4096 → Fin 256 → ℝ) (kc : Fin 256 → Fin 256 → ℝ) (vv : Fin 4096 → Fin 256 → ℝ) (vc : Fin 256 → Fin 256 → ℝ)
    (lam : ℝ) (d : Fin 256) : ℝ :=
  meanAt q kk kc vv vc ⟨2 * (d.val / 64), by omega⟩ d - lam * meanAt q kk kc vv vc ⟨2 * (d.val / 64) + 1, by omega⟩ d

/-- A lane scaled by its head's root mean square, by the gain and by the constant 0.8. -/
def scaled (o : Fin 256 → ℝ) (d : Fin 256) (g : EReal) : EReal :=
  (o d : EReal) * Ideal.rsqrt (((∑ x : Fin 64, o ⟨d.val / 64 * 64 + x.val, by omega⟩ * o ⟨d.val / 64 * 64 + x.val, by omega⟩ : ℝ) : EReal) * Ideal.ofBits FTy.f32 0x3C800000#32
    + Ideal.ofBits FTy.f32 0x358637BD#32) * g * Ideal.ofBits FTy.f32 0x3F4CCCCD#32

/-- The proportion, of four rows of 32 lanes. -/
def lamOf (a b c d : Fin 32 → EReal) : EReal := Ideal.exp (∑ x, a x * b x) - Ideal.exp (∑ x, c x * d x) + Ideal.ofBits FTy.f32 0x3E4CCCCD#32

/-- A sum of products of real numbers. -/
theorem sum_mul_coe {ι : Type} [Fintype ι] (a b : ι → ℝ) : ∑ k, (a k : EReal) * (b k : EReal) = ((∑ k, a k * b k : ℝ) : EReal) := by
  rw [coe_sum]; exact Finset.sum_congr rfl fun k _ => (EReal.coe_mul _ _).symm

/-- The proportion is a real number when its rows are. -/
theorem lamOf_real {a b c d : Fin 32 → EReal} (ha : ∀ x, IsReal (a x)) (hb : ∀ x, IsReal (b x)) (hc : ∀ x, IsReal (c x)) (hd : ∀ x, IsReal (d x)) :
    IsReal (lamOf a b c d) := by
  choose a' ha using ha
  choose b' hb using hb
  choose c' hc using hc
  choose d' hd using hd
  obtain ⟨z, hz⟩ : IsReal (Ideal.ofBits FTy.f32 0x3E4CCCCD#32) := ⟨_, by simp only [Ideal.ofBits, Ideal.ieee]; norm_num; rfl⟩
  unfold lamOf
  simp only [ha, hb, hc, hd, hz]
  rw [sum_mul_coe, sum_mul_coe, Ideal.exp_coe, Ideal.exp_coe, ← EReal.coe_sub, ← EReal.coe_add]
  exact ⟨_, rfl⟩

/-- A quotient of real numbers. -/
theorem div_coe (x y : ℝ) (hy : y ≠ 0) : Ideal.div (x : EReal) (y : EReal) = ((x / y : ℝ) : EReal) := by
  have h : (y : EReal) ≠ 0 := by simpa using hy
  unfold Ideal.div
  rw [if_neg h, ← EReal.coe_inv, ← EReal.coe_mul, div_eq_mul_inv]

/-- A 64th. -/
theorem div_64 (x : ℝ) : Ideal.div (x : EReal) (Ideal.ofBits FTy.f32 0x42800000#32) = (x : EReal) * Ideal.ofBits FTy.f32 0x3C800000#32 := by
  have e : Ideal.ofBits FTy.f32 0x42800000#32 = ((64 : ℝ) : EReal) := by simp [Ideal.ofBits, Ideal.ieee, -EReal.coe_mul]; norm_num
  have e' : Ideal.ofBits FTy.f32 0x3C800000#32 = ((1 / 64 : ℝ) : EReal) := by simp [Ideal.ofBits, Ideal.ieee, -EReal.coe_mul]; norm_num
  rw [e, e', div_coe _ _ (by norm_num), ← EReal.coe_mul]
  exact congrArg _ (by ring)

/-- The scores' factor, of the reference's word. -/
theorem ofBits_scale : Ideal.ofBits FTy.f32 0x3E3504F3#32 = ((scale : ℝ) : EReal) := by
  simp [Ideal.ofBits, Ideal.ieee, -EReal.coe_mul, scale]; norm_num

/-- A common factor of the weights drops out of the mean, and so does the order of division. -/
theorem mean_factor (c : ℝ) (hc : c ≠ 0) (s : Fin 4096 → ℝ) (sc : Fin 256 → ℝ) (v : Fin 4096 → ℝ) (vc : Fin 256 → ℝ) :
    mean s sc v vc = (∑ k, Real.exp (scale * s k) * c * v k + ∑ k, Real.exp (scale * sc k) * c * vc k)
      * (∑ k, Real.exp (scale * s k) * c + ∑ k, Real.exp (scale * sc k) * c)⁻¹ := by
  have e : ∀ (n : ℕ) (w u : Fin n → ℝ), ∑ k, w k * c * u k = (∑ k, w k * u k) * c := fun n w u => by
    rw [Finset.sum_mul]; exact Finset.sum_congr rfl fun k _ => by ring
  rw [e, e, ← Finset.sum_mul, ← Finset.sum_mul, ← add_mul, ← add_mul, ← div_eq_mul_inv, mul_div_mul_right _ _ hc]
  rfl

/-- The weights' sum is positive. -/
theorem weights_pos (c : ℝ) (hc : 0 < c) (s : Fin 4096 → ℝ) (sc : Fin 256 → ℝ) :
    0 < ∑ k, Real.exp (scale * s k) * c + ∑ k, Real.exp (scale * sc k) * c :=
  add_pos (Finset.sum_pos (fun k _ => mul_pos (Real.exp_pos _) hc) ⟨0, Finset.mem_univ _⟩)
    (Finset.sum_pos (fun k _ => mul_pos (Real.exp_pos _) hc) ⟨0, Finset.mem_univ _⟩)

end Cert.DiffAttn

end
-- ==== Proof.DiffFinite.lean ====
/- Arguments that the precondition admits are real numbers. -/
module

public import proofs.«01_k».proof.Proof.DiffSpec
public import proofs.«01_k».proof.Proof.Gen.Pre_diff_finite
public import Idealize.ShloMosaic.Lib.ReduceAll
public import Idealize.ShloMosaic.Lib.Pointwise

@[expose] public section

noncomputable section

open Idealize.ShloMosaic Idealize.SL.Sem

namespace Cert.Pre_diff_finite.Rows

open Cert.Pre_diff_finite Cert.Pre_diff_finite.Gen
open Cert.DiffIdeal.Rows (IsReal)

/-- A value whose magnitude is below infinity is a real number. -/
theorem real_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  induction x with
  | bot => simp at hlt
  | coe a => exact ⟨a, rfl⟩
  | top => simp at hlt

/-- An array all of whose elements pass that test is an array of real numbers. -/
theorem all_real {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ix0 = 1#1)
    (i : s.Idx) : IsReal (x i) := by
  haveI : Subsingleton S_.Idx := ⟨fun a b => funext fun k => k.elim0⟩
  exact real_of_lt (x i) (Host.reduce_andi_all _ _ hr hu ix0 e i)

/-- The precondition makes every argument but the per-lane factor real. -/
theorem real_args (x0 x1 x2 : FVec Ideal S8192x256 .bf16) (x3 x4 : FVec Ideal S2x4x256x64 .f32) (x5 : FVec Ideal S64 .f32) (x6 : FVec Ideal S4x32 .f32)
    (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x6 i)) := by
  have e := congrFun h ix0
  unfold fn fn_part1 at e
  dsimp only at e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real _ _ _ _ e0, all_real _ _ _ _ e1, all_real _ _ _ _ e2, all_real _ _ _ _ e3, all_real _ _ _ _ e4, all_real _ _ _ _ e6⟩

end Cert.Pre_diff_finite.Rows

end
-- ==== Proof.DiffWeights.lean ====
/- The softmax weights of the differential attention kernel's body at a point: the row maximum is a real number, and the
   weights' sums and their products with the values are sums over the keys. -/
module

public import proofs.«01_k».proof.Proof.DiffScores

@[expose] public section

set_option maxRecDepth 16384

noncomputable section

open Idealize.ShloMosaic

namespace Cert.DiffIdeal.Rows

open Cert.DiffIdeal Cert.DiffIdeal.Gen Cert.DiffIdeal.Body

variable (c : Dev nD) (i : grid0.Coords)
    (arg2 : Memref sig .tc .vmem S128x256 .bf16) (harg2 : arg2.IsWhole)
    (arg3 : Memref sig .tc .vmem S1x256x4096 .bf16) (harg3 : arg3.IsWhole)
    (arg4 : Memref sig .tc .vmem S4096x256 .bf16) (harg4 : arg4.IsWhole)
    (arg5 : Memref sig .tc .vmem S1x256x256 .bf16) (harg5 : arg5.IsWhole)
    (arg6 : Memref sig .tc .vmem S1x256x256 .bf16) (harg6 : arg6.IsWhole)
    (arg10 : Memref sig .tc .vmem S8x1024x512 .f32) (arg11 : Memref sig .tc .vmem S1024x256 .f32)
    (x0 : Vec Ideal S128x256 .bf16) (x1 : Vec Ideal S1x256x4096 .bf16) (x2 : Vec Ideal S4096x256 .bf16) (x3 x4 : Vec Ideal S1x256x256 .bf16)

/-! ## The row maximum -/

/-- The chunks' products are scores. -/
theorem pay20_at (r : Fin 1024) (k : Fin 512) :
    k0_pay20 (stacked x0) (View.ld x1 (Rect.unit (s := S1x256x4096) ![0, 0, 1024] S1x256x512.size inb_S1x256x4096_S1x256x512_0_0_1024)) (ix2 r k) = score x0 x1 r (key 2 k) := by
  pointwise [k0_pay20]
  exact score_of _ _ _ _ _ rfl

theorem pay24_at (r : Fin 1024) (k : Fin 512) :
    k0_pay24 (stacked x0) (View.ld x1 (Rect.unit (s := S1x256x4096) ![0, 0, 1536] S1x256x512.size inb_S1x256x4096_S1x256x512_0_0_1536)) (ix2 r k) = score x0 x1 r (key 3 k) := by
  pointwise [k0_pay24]
  exact score_of _ _ _ _ _ rfl

theorem pay29_at (r : Fin 1024) (k : Fin 512) :
    k0_pay29 (stacked x0) (View.ld x1 (Rect.unit (s := S1x256x4096) ![0, 0, 2560] S1x256x512.size inb_S1x256x4096_S1x256x512_0_0_2560)) (ix2 r k) = score x0 x1 r (key 5 k) := by
  pointwise [k0_pay29]
  exact score_of _ _ _ _ _ rfl

theorem pay33_at (r : Fin 1024) (k : Fin 512) :
    k0_pay33 (stacked x0) (View.ld x1 (Rect.unit (s := S1x256x4096) ![0, 0, 3072] S1x256x512.size inb_S1x256x4096_S1x256x512_0_0_3072)) (ix2 r k) = score x0 x1 r (key 6 k) := by
  pointwise [k0_pay33]
  exact score_of _ _ _ _ _ rfl

theorem pay15_at (r : Fin 1024) (k : Fin 512) :
    k0_pay15 (bodyRun.sl.r_1 c arg2 harg2 x0) (bodyRun.sl.r_2 c arg2 harg2 x0) (bodyRun.sl.r_3 c arg2 harg2 x0) (bodyRun.sl.r_4 c arg2 harg2 x0)
      (bodyRun.sl.r_5 c arg2 harg2 x0) (bodyRun.sl.r_6 c arg2 harg2 x0) (bodyRun.sl.r_7 c arg2 harg2 x0) (bodyRun.sl.r_8 c arg2 harg2 x0) k0_pay12 (k0_pay13 k0_pay3)
      (View.ld x1 (Rect.unit (s := S1x256x4096) ![0, 0, 0] S1x256x512.size inb_S1x256x4096_S1x256x512_0_0_0)) (ix2 r k) = score x0 x1 r (key 0 k) := by
  have e := r_9_eq c arg2 harg2 x0
  unfold bodyRun.sl.r_9 at e
  pointwise [k0_pay15, e]
  exact score_of _ _ _ _ _ (by simp [key])

theorem pay38_at (r : Fin 1024) (k : Fin 256) :
    k0_pay38 (stacked x0) (View.ld x3 (Rect.unit (s := S1x256x256) ![0, 0, 0] S1x256x256.size inb_S1x256x256_S1x256x256_0_0_0)) (ix2 r k) = scoreC x0 x3 r k := by
  pointwise [k0_pay38]
  rfl

/-- The chunks kept as vectors are scores. -/
theorem r_11_at (r : Fin 1024) (k : Fin 512) : bodyRun.sl.r_11 c arg2 harg2 arg3 harg3 x0 x1 (ix2 r k) = score x0 x1 r (key 1 k) := by
  have e := r_9_eq c arg2 harg2 x0
  unfold bodyRun.sl.r_9 at e
  simp only [bodyRun.sl.r_11, View.readAt_eq_ld, Memref.IsWhole.read_unread]
  pointwise [k0_pay18, e]
  exact score_of _ _ _ _ _ rfl

theorem r_12_at (r : Fin 1024) (k : Fin 512) : bodyRun.sl.r_12 c arg2 harg2 arg3 harg3 x0 x1 (ix2 r k) = score x0 x1 r (key 2 k) := by
  simp only [bodyRun.sl.r_12, View.readAt_eq_ld, Memref.IsWhole.read_unread, r_9_eq]
  pointwise [k0_pay20]
  exact score_of _ _ _ _ _ rfl

theorem r_16_at (r : Fin 1024) (k : Fin 512) : bodyRun.sl.r_16 c arg2 harg2 arg3 harg3 x0 x1 (ix2 r k) = score x0 x1 r (key 4 k) := by
  simp only [bodyRun.sl.r_16, View.readAt_eq_ld, Memref.IsWhole.read_unread, r_9_eq]
  pointwise [k0_pay27]
  exact score_of _ _ _ _ _ rfl

theorem r_17_at (r : Fin 1024) (k : Fin 512) : bodyRun.sl.r_17 c arg2 harg2 arg3 harg3 x0 x1 (ix2 r k) = score x0 x1 r (key 5 k) := by
  simp only [bodyRun.sl.r_17, View.readAt_eq_ld, Memref.IsWhole.read_unread, r_9_eq]
  pointwise [k0_pay29]
  exact score_of _ _ _ _ _ rfl

theorem r_21_at (r : Fin 1024) (k : Fin 512) : bodyRun.sl.r_21 c arg2 harg2 arg3 harg3 x0 x1 (ix2 r k) = score x0 x1 r (key 7 k) := by
  simp only [bodyRun.sl.r_21, View.readAt_eq_ld, Memref.IsWhole.read_unread, r_9_eq]
  pointwise [k0_pay36]
  exact score_of _ _ _ _ _ rfl

/-- The cached scores, kept in the second scratch buffer and read back. -/
theorem v656_at (r : Fin 1024) (k : Fin 256) : bodyRun.sl.v656 c arg2 harg2 arg5 harg5 arg11 x0 x3 (ix2 r k) = scoreC x0 x3 r k := by
  unfold bodyRun.sl.v656 bodyRun.sl.HS1_1
  refine (congrFun (View.readCov_cons_toLoadRect _ _ _ _) _).trans ?_
  simp only [View.readAt_eq_ld, Memref.IsWhole.read_unread, r_9_eq]
  pointwise [k0_pay39, k0_pay38]
  rfl

/-- With real scores, the maxima so far are real after chunk 0, -/
theorem r_10_real (hs : ∀ r k, IsReal (score x0 x1 r k)) (r : Fin 1024) (l : Fin 128) : IsReal (bodyRun.sl.r_10 c arg2 harg2 arg3 harg3 x0 x1 (ix2 r l)) := by
  have e := r_9_eq c arg2 harg2 x0
  unfold bodyRun.sl.r_9 at e
  simp only [bodyRun.sl.r_10, View.readAt_eq_ld, Memref.IsWhole.read_unread]
  pointwise [k0_pay17, pay15_at]
  refine (((IsReal.max ?_ (hs r _)).max (hs r _)).max (hs r _)).max (hs r _)
  exact ⟨_, by simp only [Ideal.ofBits, Ideal.ieee]; norm_num; rfl⟩

/-- within chunk 2, -/
theorem r_13_real (hs : ∀ r k, IsReal (score x0 x1 r k)) (r : Fin 1024) (l : Fin 128) : IsReal (bodyRun.sl.r_13 c arg2 harg2 arg3 harg3 x0 x1 (ix2 r l)) := by
  simp only [bodyRun.sl.r_13, View.readAt_eq_ld, Memref.IsWhole.read_unread, r_9_eq]
  pointwise [k0_pay22, pay20_at, r_11_at]
  exact (((((r_10_real c arg2 harg2 arg3 harg3 x0 x1 hs r l).max (hs r _)).max (hs r _)).max (hs r _)).max (hs r _)).max (hs r _)

theorem r_14_real (hs : ∀ r k, IsReal (score x0 x1 r k)) (r : Fin 1024) (l : Fin 128) : IsReal (bodyRun.sl.r_14 c arg2 harg2 arg3 harg3 x0 x1 (ix2 r l)) := by
  simp only [bodyRun.sl.r_14, View.readAt_eq_ld, Memref.IsWhole.read_unread, r_9_eq]
  pointwise [k0_pay23, pay20_at]
  exact hs r _

/-- after chunk 3 or within it, -/
theorem r_15_real (hs : ∀ r k, IsReal (score x0 x1 r k)) (r : Fin 1024) (l : Fin 128) : IsReal (bodyRun.sl.r_15 c arg2 harg2 arg3 harg3 x0 x1 (ix2 r l)) := by
  simp only [bodyRun.sl.r_15, View.readAt_eq_ld, Memref.IsWhole.read_unread, r_9_eq]
  pointwise [k0_pay26, pay24_at, r_12_at]
  repeat' with_reducible first | exact r_13_real c arg2 harg2 arg3 harg3 x0 x1 hs r l | exact r_14_real c arg2 harg2 arg3 harg3 x0 x1 hs r l | exact hs r _ | apply IsReal.max

/-- within chunk 5, -/
theorem r_18_real (hs : ∀ r k, IsReal (score x0 x1 r k)) (r : Fin 1024) (l : Fin 128) : IsReal (bodyRun.sl.r_18 c arg2 harg2 arg3 harg3 x0 x1 (ix2 r l)) := by
  simp only [bodyRun.sl.r_18, View.readAt_eq_ld, Memref.IsWhole.read_unread, r_9_eq]
  pointwise [k0_pay31, pay29_at, r_16_at]
  repeat' with_reducible first | exact r_15_real c arg2 harg2 arg3 harg3 x0 x1 hs r l | exact hs r _ | apply IsReal.max

theorem r_19_real (hs : ∀ r k, IsReal (score x0 x1 r k)) (r : Fin 1024) (l : Fin 128) : IsReal (bodyRun.sl.r_19 c arg2 harg2 arg3 harg3 x0 x1 (ix2 r l)) := by
  simp only [bodyRun.sl.r_19, View.readAt_eq_ld, Memref.IsWhole.read_unread, r_9_eq]
  pointwise [k0_pay32, pay29_at]
  exact hs r _

/-- within chunk 6, -/
theorem r_20_real (hs : ∀ r k, IsReal (score x0 x1 r k)) (r : Fin 1024) (l : Fin 128) : IsReal (bodyRun.sl.r_20 c arg2 harg2 arg3 harg3 x0 x1 (ix2 r l)) := by
  simp only [bodyRun.sl.r_20, View.readAt_eq_ld, Memref.IsWhole.read_unread, r_9_eq]
  pointwise [k0_pay35, pay33_at, r_17_at]
  repeat' with_reducible first | exact r_18_real c arg2 harg2 arg3 harg3 x0 x1 hs r l | exact r_19_real c arg2 harg2 arg3 harg3 x0 x1 hs r l | exact hs r _ | apply IsReal.max

/-- and the row maximum, scaled, is real. -/
theorem r_22_real (hs : ∀ r k, IsReal (score x0 x1 r k)) (hc : ∀ r k, IsReal (scoreC x0 x3 r k)) (r : Fin 1024) :
    IsReal (bodyRun.sl.r_22 c arg2 harg2 arg3 harg3 arg5 harg5 x0 x1 x3 (ix2 r (0 : Fin 1))) := by
  simp only [bodyRun.sl.r_22, View.readAt_eq_ld, Memref.IsWhole.read_unread, r_9_eq]
  pointwise [k0_pay40, pay38_at, r_21_at]
  refine IsReal.mul ?_ ⟨_, IdealRules.named_const.ideal_named_scalar (φ := .f32) κ "score_scale" 0x3E8293EE#32 _ rfl⟩
  refine IsReal.fold _ (fun l => ?_) _ ⟨0, Finset.mem_univ _⟩
  repeat' with_reducible first | exact r_20_real c arg2 harg2 arg3 harg3 x0 x1 hs r l | exact hs r _ | exact hc r _ | apply IsReal.max

/-! ## The weights -/

/-- A key's weight in a row: two to the scaled score less the row's shift. -/
def wt (s M : EReal) : EReal := FloatOps.exp2 (F := Ideal) (φ := .f32) (s * Named.named (F := Ideal) (φ := .f32) κ "score_scale" 0x3E8293EE#32 - M)

/-- Four lane groups of a chunk of weights added on. -/
def fold4 (z : EReal) (w : Fin 512 → EReal) (l : Fin 128) : EReal :=
  z + w ⟨l.val, by omega⟩ + w ⟨128 + l.val, by omega⟩ + w ⟨256 + l.val, by omega⟩ + w ⟨384 + l.val, by omega⟩

/-- The row's shift. -/
abbrev top (r : Fin 1024) : EReal := bodyRun.sl.r_22 c arg2 harg2 arg3 harg3 arg5 harg5 x0 x1 x3 (ix2 r (0 : Fin 1))

theorem r_23_at (r : Fin 1024) (l : Fin 128) : bodyRun.sl.r_23 c i arg2 harg2 arg3 harg3 arg5 harg5 arg10 x0 x1 x3 (ix2 r l)
    = fold4 0 (fun k => wt (score x0 x1 r (key 0 k)) (top c arg2 harg2 arg3 harg3 arg5 harg5 x0 x1 x3 r)) l := by
  unfold bodyRun.sl.r_23
  pointwise [k0_pay44, k0_pay43, k0_pay41, v328_at, fold4, wt]

theorem r_27_at (r : Fin 1024) (l : Fin 128) : bodyRun.sl.r_27 c i arg2 harg2 arg3 harg3 arg5 harg5 arg10 x0 x1 x3 (ix2 r l)
    = fold4 (bodyRun.sl.r_23 c i arg2 harg2 arg3 harg3 arg5 harg5 arg10 x0 x1 x3 (ix2 r l)) (fun k => wt (score x0 x1 r (key 1 k)) (top c arg2 harg2 arg3 harg3 arg5 harg5 x0 x1 x3 r)) l := by
  unfold bodyRun.sl.r_27
  pointwise [k0_pay50, k0_pay49, v363_at, fold4, wt]

theorem r_33_at (r : Fin 1024) (l : Fin 128) : bodyRun.sl.r_33 c i arg2 harg2 arg3 harg3 arg5 harg5 arg10 x0 x1 x3 (ix2 r l)
    = fold4 (bodyRun.sl.r_27 c i arg2 harg2 arg3 harg3 arg5 harg5 arg10 x0 x1 x3 (ix2 r l)) (fun k => wt (score x0 x1 r (key 2 k)) (top c arg2 harg2 arg3 harg3 arg5 harg5 x0 x1 x3 r)) l := by
  unfold bodyRun.sl.r_33 bodyRun.sl.r_31
  pointwise [k0_pay57, k0_pay56, k0_pay55, v398_at, fold4, wt]

theorem r_39_at (r : Fin 1024) (l : Fin 128) : bodyRun.sl.r_39 c i arg2 harg2 arg3 harg3 arg5 harg5 arg10 x0 x1 x3 (ix2 r l)
    = fold4 (bodyRun.sl.r_33 c i arg2 harg2 arg3 harg3 arg5 harg5 arg10 x0 x1 x3 (ix2 r l)) (fun k => wt (score x0 x1 r (key 3 k)) (top c arg2 harg2 arg3 harg3 arg5 harg5 x0 x1 x3 r)) l := by
  unfold bodyRun.sl.r_39 bodyRun.sl.r_37
  pointwise [k0_pay64, k0_pay63, k0_pay62, v443_at, fold4, wt]

theorem r_45_at (r : Fin 1024) (l : Fin 128) : bodyRun.sl.r_45 c i arg2 harg2 arg3 harg3 arg5 harg5 arg10 x0 x1 x3 (ix2 r l)
    = fold4 (bodyRun.sl.r_39 c i arg2 harg2 arg3 harg3 arg5 harg5 arg10 x0 x1 x3 (ix2 r l)) (fun k => wt (score x0 x1 r (key 4 k)) (top c arg2 harg2 arg3 harg3 arg5 harg5 x0 x1 x3 r)) l := by
  unfold bodyRun.sl.r_45 bodyRun.sl.r_43 bodyRun.sl.v496
  pointwise [k0_pay71, k0_pay70, k0_pay69, v488_at, fold4, wt]

theorem r_51_at (r : Fin 1024) (l : Fin 128) : bodyRun.sl.r_51 c i arg2 harg2 arg3 harg3 arg5 harg5 arg10 x0 x1 x3 (ix2 r l)
    = fold4 (bodyRun.sl.r_45 c i arg2 harg2 arg3 harg3 arg5 harg5 arg10 x0 x1 x3 (ix2 r l)) (fun k => wt (score x0 x1 r (key 5 k)) (top c arg2 harg2 arg3 harg3 arg5 harg5 x0 x1 x3 r)) l := by
  unfold bodyRun.sl.r_51 bodyRun.sl.r_49
  pointwise [k0_pay79, k0_pay78, k0_pay77, k0_pay76, v533_at, fold4, wt]

theorem r_57_at (r : Fin 1024) (l : Fin 128) : bodyRun.sl.r_57 c i arg2 harg2 arg3 harg3 arg5 harg5 arg10 x0 x1 x3 (ix2 r l)
    = fold4 (bodyRun.sl.r_51 c i arg2 harg2 arg3 harg3 arg5 harg5 arg10 x0 x1 x3 (ix2 r l)) (fun k => wt (score x0 x1 r (key 6 k)) (top c arg2 harg2 arg3 harg3 arg5 harg5 x0 x1 x3 r)) l := by
  unfold bodyRun.sl.r_57 bodyRun.sl.r_55
  pointwise [k0_pay87, k0_pay86, k0_pay85, k0_pay84, v578_at, fold4, wt]

theorem r_64_at (r : Fin 1024) (l : Fin 128) : bodyRun.sl.r_64 c i arg2 harg2 arg3 harg3 arg5 harg5 arg10 arg11 x0 x1 x3 (ix2 r l)
    = fold4 (bodyRun.sl.r_57 c i arg2 harg2 arg3 harg3 arg5 harg5 arg10 x0 x1 x3 (ix2 r l)) (fun k => wt (score x0 x1 r (key 7 k)) (top c arg2 harg2 arg3 harg3 arg5 harg5 x0 x1 x3 r)) l
      + wt (scoreC x0 x3 r ⟨l.val, by omega⟩) (top c arg2 harg2 arg3 harg3 arg5 harg5 x0 x1 x3 r) + wt (scoreC x0 x3 r ⟨128 + l.val, by omega⟩) (top c arg2 harg2 arg3 harg3 arg5 harg5 x0 x1 x3 r) := by
  unfold bodyRun.sl.r_64 bodyRun.sl.r_61
  pointwise [k0_pay99, k0_pay98, k0_pay94, k0_pay93, k0_pay92, v623_at, v656_at, fold4, wt]

/-! ## The products with the values -/

/-- A chunk of weights times the chunk's values. -/
def times (w : Fin 512 → EReal) (j : Fin 8) (d : Fin 256) : EReal := ∑ k : Fin 512, w k * x2 (ix2 (key j k) d)

/-- Its terms are at the key: the key's number may be written otherwise. -/
theorem times_of (w : Fin 512 → EReal) (j : Fin 8) (d : Fin 256) (w' : Fin 512 → EReal) (h : ∀ k, w' k = w k) (g : Fin 512 → Fin 4096) (hg : ∀ k, (g k).val = 512 * j.val + k.val) :
    ∑ k : Fin 512, w' k * x2 (ix2 (g k) d) = times x2 w j d :=
  Finset.sum_congr rfl fun k _ => by rw [h k, show g k = key j k from Fin.ext (hg k)]

/-- The two halves of the stacked rows. -/
abbrev lo (r : Fin 512) : Fin 1024 := ⟨r.val, by omega⟩
abbrev hi (r : Fin 512) : Fin 1024 := ⟨512 + r.val, by omega⟩

theorem r_25_at (r : Fin 512) (d : Fin 256) : bodyRun.sl.r_25 c i arg2 harg2 arg3 harg3 arg4 harg4 arg5 harg5 arg10 x0 x1 x2 x3 (ix2 r d)
    = times x2 (fun k => wt (score x0 x1 (lo r) (key 0 k)) (top c arg2 harg2 arg3 harg3 arg5 harg5 x0 x1 x3 (lo r))) 0 d := by
  simp only [bodyRun.sl.r_25, View.readAt_eq_ld, Memref.IsWhole.read_unread]
  pointwise [k0_pay47, k0_pay46, k0_pay45, k0_pay43, k0_pay42, v328_at]
  exact (times_of _ _ _ _ _ (fun k => rfl) _ (fun k => by simp))

theorem r_26_at (r : Fin 512) (d : Fin 256) : bodyRun.sl.r_26 c i arg2 harg2 arg3 harg3 arg4 harg4 arg5 harg5 arg10 x0 x1 x2 x3 (ix2 r d)
    = times x2 (fun k => wt (score x0 x1 (hi r) (key 0 k)) (top c arg2 harg2 arg3 harg3 arg5 harg5 x0 x1 x3 (hi r))) 0 d := by
  simp only [bodyRun.sl.r_26, View.readAt_eq_ld, Memref.IsWhole.read_unread]
  pointwise [k0_pay48, k0_pay45, k0_pay43, k0_pay42, v328_at]
  exact (times_of _ _ _ _ _ (fun k => rfl) _ (fun k => by simp))

theorem r_29_at (r : Fin 512) (d : Fin 256) : bodyRun.sl.r_29 c i arg2 harg2 arg3 harg3 arg4 harg4 arg5 harg5 arg10 x0 x1 x2 x3 (ix2 r d)
    = bodyRun.sl.r_25 c i arg2 harg2 arg3 harg3 arg4 harg4 arg5 harg5 arg10 x0 x1 x2 x3 (ix2 r d) + times x2 (fun k => wt (score x0 x1 (lo r) (key 1 k)) (top c arg2 harg2 arg3 harg3 arg5 harg5 x0 x1 x3 (lo r))) 1 d := by
  simp only [bodyRun.sl.r_29, View.readAt_eq_ld, Memref.IsWhole.read_unread]
  pointwise [k0_pay53, k0_pay52, k0_pay51, k0_pay49, v363_at]
  exact congrArg (_ + ·) (times_of _ _ _ _ _ (fun k => rfl) _ (fun k => rfl))

theorem r_30_at (r : Fin 512) (d : Fin 256) : bodyRun.sl.r_30 c i arg2 harg2 arg3 harg3 arg4 harg4 arg5 harg5 arg10 x0 x1 x2 x3 (ix2 r d)
    = bodyRun.sl.r_26 c i arg2 harg2 arg3 harg3 arg4 harg4 arg5 harg5 arg10 x0 x1 x2 x3 (ix2 r d) + times x2 (fun k => wt (score x0 x1 (hi r) (key 1 k)) (top c arg2 harg2 arg3 harg3 arg5 harg5 x0 x1 x3 (hi r))) 1 d := by
  simp only [bodyRun.sl.r_30, View.readAt_eq_ld, Memref.IsWhole.read_unread]
  pointwise [k0_pay54, k0_pay51, k0_pay49, v363_at]
  exact congrArg (_ + ·) (times_of _ _ _ _ _ (fun k => rfl) _ (fun k => rfl))

end Cert.DiffIdeal.Rows

end
-- ==== Proof.DiffProducts.lean ====
/- The stacked rows' products with the values, after the last chunk, and their division by the weights' sum. -/
module

public import proofs.«01_k».proof.Proof.DiffWeights

@[expose] public section

set_option maxRecDepth 16384

noncomputable section

open Idealize.ShloMosaic

namespace Cert.DiffIdeal.Rows

open Cert.DiffIdeal Cert.DiffIdeal.Gen Cert.DiffIdeal.Body

variable (c : Dev nD) (i : grid0.Coords)
    (arg2 : Memref sig .tc .vmem S128x256 .bf16) (harg2 : arg2.IsWhole)
    (arg3 : Memref sig .tc .vmem S1x256x4096 .bf16) (harg3 : arg3.IsWhole)
    (arg4 : Memref sig .tc .vmem S4096x256 .bf16) (harg4 : arg4.IsWhole)
    (arg5 : Memref sig .tc .vmem S1x256x256 .bf16) (harg5 : arg5.IsWhole)
    (arg6 : Memref sig .tc .vmem S1x256x256 .bf16) (harg6 : arg6.IsWhole)
    (arg10 : Memref sig .tc .vmem S8x1024x512 .f32) (arg11 : Memref sig .tc .vmem S1024x256 .f32)
    (x0 : Vec Ideal S128x256 .bf16) (x1 : Vec Ideal S1x256x4096 .bf16) (x2 : Vec Ideal S4096x256 .bf16) (x3 x4 : Vec Ideal S1x256x256 .bf16)

theorem r_35_at (r : Fin 512) (d : Fin 256) : bodyRun.sl.r_35 c i arg2 harg2 arg3 harg3 arg4 harg4 arg5 harg5 arg10 x0 x1 x2 x3 (ix2 r d)
    = bodyRun.sl.r_29 c i arg2 harg2 arg3 harg3 arg4 harg4 arg5 harg5 arg10 x0 x1 x2 x3 (ix2 r d) + times x2 (fun k => wt (score x0 x1 (lo r) (key 2 k)) (top c arg2 harg2 arg3 harg3 arg5 harg5 x0 x1 x3 (lo r))) 2 d := by
  simp only [bodyRun.sl.r_35, bodyRun.sl.r_31, bodyRun.sl.r_32, View.readAt_eq_ld, Memref.IsWhole.read_unread]
  pointwise [k0_pay60, k0_pay59, k0_pay58, k0_pay56, k0_pay55, v398_at]
  exact congrArg (_ + ·) (times_of _ _ _ _ _ (fun k => rfl) _ (fun k => rfl))

theorem r_36_at (r : Fin 512) (d : Fin 256) : bodyRun.sl.r_36 c i arg2 harg2 arg3 harg3 arg4 harg4 arg5 harg5 arg10 x0 x1 x2 x3 (ix2 r d)
    = bodyRun.sl.r_30 c i arg2 harg2 arg3 harg3 arg4 harg4 arg5 harg5 arg10 x0 x1 x2 x3 (ix2 r d) + times x2 (fun k => wt (score x0 x1 (hi r) (key 2 k)) (top c arg2 harg2 arg3 harg3 arg5 harg5 x0 x1 x3 (hi r))) 2 d := by
  simp only [bodyRun.sl.r_36, bodyRun.sl.r_31, bodyRun.sl.r_32, View.readAt_eq_ld, Memref.IsWhole.read_unread]
  pointwise [k0_pay61, k0_pay58, k0_pay56, k0_pay55, v398_at]
  exact congrArg (_ + ·) (times_of _ _ _ _ _ (fun k => rfl) _ (fun k => rfl))

theorem r_41_at (r : Fin 512) (d : Fin 256) : bodyRun.sl.r_41 c i arg2 harg2 arg3 harg3 arg4 harg4 arg5 harg5 arg10 x0 x1 x2 x3 (ix2 r d)
    = bodyRun.sl.r_35 c i arg2 harg2 arg3 harg3 arg4 harg4 arg5 harg5 arg10 x0 x1 x2 x3 (ix2 r d) + times x2 (fun k => wt (score x0 x1 (lo r) (key 3 k)) (top c arg2 harg2 arg3 harg3 arg5 harg5 x0 x1 x3 (lo r))) 3 d := by
  simp only [bodyRun.sl.r_41, bodyRun.sl.r_37, bodyRun.sl.r_38, View.readAt_eq_ld, Memref.IsWhole.read_unread]
  pointwise [k0_pay67, k0_pay66, k0_pay65, k0_pay63, k0_pay62, v443_at]
  exact congrArg (_ + ·) (times_of _ _ _ _ _ (fun k => rfl) _ (fun k => rfl))

theorem r_42_at (r : Fin 512) (d : Fin 256) : bodyRun.sl.r_42 c i arg2 harg2 arg3 harg3 arg4 harg4 arg5 harg5 arg10 x0 x1 x2 x3 (ix2 r d)
    = bodyRun.sl.r_36 c i arg2 harg2 arg3 harg3 arg4 harg4 arg5 harg5 arg10 x0 x1 x2 x3 (ix2 r d) + times x2 (fun k => wt (score x0 x1 (hi r) (key 3 k)) (top c arg2 harg2 arg3 harg3 arg5 harg5 x0 x1 x3 (hi r))) 3 d := by
  simp only [bodyRun.sl.r_42, bodyRun.sl.r_37, bodyRun.sl.r_38, View.readAt_eq_ld, Memref.IsWhole.read_unread]
  pointwise [k0_pay68, k0_pay65, k0_pay63, k0_pay62, v443_at]
  exact congrArg (_ + ·) (times_of _ _ _ _ _ (fun k => rfl) _ (fun k => rfl))

theorem r_47_at (r : Fin 512) (d : Fin 256) : bodyRun.sl.r_47 c i arg2 harg2 arg3 harg3 arg4 harg4 arg5 harg5 arg10 x0 x1 x2 x3 (ix2 r d)
    = bodyRun.sl.r_41 c i arg2 harg2 arg3 harg3 arg4 harg4 arg5 harg5 arg10 x0 x1 x2 x3 (ix2 r d) + times x2 (fun k => wt (score x0 x1 (lo r) (key 4 k)) (top c arg2 harg2 arg3 harg3 arg5 harg5 x0 x1 x3 (lo r))) 4 d := by
  simp only [bodyRun.sl.r_47, bodyRun.sl.r_43, bodyRun.sl.r_44, bodyRun.sl.v496, View.readAt_eq_ld, Memref.IsWhole.read_unread]
  pointwise [k0_pay74, k0_pay73, k0_pay72, k0_pay70, k0_pay69, v488_at]
  exact congrArg (_ + ·) (times_of _ _ _ _ _ (fun k => rfl) _ (fun k => rfl))

theorem r_48_at (r : Fin 512) (d : Fin 256) : bodyRun.sl.r_48 c i arg2 harg2 arg3 harg3 arg4 harg4 arg5 harg5 arg10 x0 x1 x2 x3 (ix2 r d)
    = bodyRun.sl.r_42 c i arg2 harg2 arg3 harg3 arg4 harg4 arg5 harg5 arg10 x0 x1 x2 x3 (ix2 r d) + times x2 (fun k => wt (score x0 x1 (hi r) (key 4 k)) (top c arg2 harg2 arg3 harg3 arg5 harg5 x0 x1 x3 (hi r))) 4 d := by
  simp only [bodyRun.sl.r_48, bodyRun.sl.r_43, bodyRun.sl.r_44, bodyRun.sl.v496, View.readAt_eq_ld, Memref.IsWhole.read_unread]
  pointwise [k0_pay75, k0_pay72, k0_pay70, k0_pay69, v488_at]
  exact congrArg (_ + ·) (times_of _ _ _ _ _ (fun k => rfl) _ (fun k => rfl))

theorem r_53_at (r : Fin 512) (d : Fin 256) : bodyRun.sl.r_53 c i arg2 harg2 arg3 harg3 arg4 harg4 arg5 harg5 arg10 x0 x1 x2 x3 (ix2 r d)
    = bodyRun.sl.r_47 c i arg2 harg2 arg3 harg3 arg4 harg4 arg5 harg5 arg10 x0 x1 x2 x3 (ix2 r d) + times x2 (fun k => wt (score x0 x1 (lo r) (key 5 k)) (top c arg2 harg2 arg3 harg3 arg5 harg5 x0 x1 x3 (lo r))) 5 d := by
  simp only [bodyRun.sl.r_53, bodyRun.sl.r_49, bodyRun.sl.r_50, View.readAt_eq_ld, Memref.IsWhole.read_unread]
  pointwise [k0_pay82, k0_pay81, k0_pay80, k0_pay78, k0_pay77, k0_pay76, v533_at]
  exact congrArg (_ + ·) (times_of _ _ _ _ _ (fun k => rfl) _ (fun k => rfl))

theorem r_54_at (r : Fin 512) (d : Fin 256) : bodyRun.sl.r_54 c i arg2 harg2 arg3 harg3 arg4 harg4 arg5 harg5 arg10 x0 x1 x2 x3 (ix2 r d)
    = bodyRun.sl.r_48 c i arg2 harg2 arg3 harg3 arg4 harg4 arg5 harg5 arg10 x0 x1 x2 x3 (ix2 r d) + times x2 (fun k => wt (score x0 x1 (hi r) (key 5 k)) (top c arg2 harg2 arg3 harg3 arg5 harg5 x0 x1 x3 (hi r))) 5 d := by
  simp only [bodyRun.sl.r_54, bodyRun.sl.r_49, bodyRun.sl.r_50, View.readAt_eq_ld, Memref.IsWhole.read_unread]
  pointwise [k0_pay83, k0_pay80, k0_pay78, k0_pay77, k0_pay76, v533_at]
  exact congrArg (_ + ·) (times_of _ _ _ _ _ (fun k => rfl) _ (fun k => rfl))

theorem r_59_at (r : Fin 512) (d : Fin 256) : bodyRun.sl.r_59 c i arg2 harg2 arg3 harg3 arg4 harg4 arg5 harg5 arg10 x0 x1 x2 x3 (ix2 r d)
    = bodyRun.sl.r_53 c i arg2 harg2 arg3 harg3 arg4 harg4 arg5 harg5 arg10 x0 x1 x2 x3 (ix2 r d) + times x2 (fun k => wt (score x0 x1 (lo r) (key 6 k)) (top c arg2 harg2 arg3 harg3 arg5 harg5 x0 x1 x3 (lo r))) 6 d := by
  simp only [bodyRun.sl.r_59, bodyRun.sl.r_55, bodyRun.sl.r_56, View.readAt_eq_ld, Memref.IsWhole.read_unread]
  pointwise [k0_pay90, k0_pay89, k0_pay88, k0_pay86, k0_pay85, k0_pay84, v578_at]
  exact congrArg (_ + ·) (times_of _ _ _ _ _ (fun k => rfl) _ (fun k => rfl))

theorem r_60_at (r : Fin 512) (d : Fin 256) : bodyRun.sl.r_60 c i arg2 harg2 arg3 harg3 arg4 harg4 arg5 harg5 arg10 x0 x1 x2 x3 (ix2 r d)
    = bodyRun.sl.r_54 c i arg2 harg2 arg3 harg3 arg4 harg4 arg5 harg5 arg10 x0 x1 x2 x3 (ix2 r d) + times x2 (fun k => wt (score x0 x1 (hi r) (key 6 k)) (top c arg2 harg2 arg3 harg3 arg5 harg5 x0 x1 x3 (hi r))) 6 d := by
  simp only [bodyRun.sl.r_60, bodyRun.sl.r_55, bodyRun.sl.r_56, View.readAt_eq_ld, Memref.IsWhole.read_unread]
  pointwise [k0_pay91, k0_pay88, k0_pay86, k0_pay85, k0_pay84, v578_at]
  exact congrArg (_ + ·) (times_of _ _ _ _ _ (fun k => rfl) _ (fun k => rfl))

theorem r_63_at (r : Fin 512) (d : Fin 256) : bodyRun.sl.r_63 c i arg2 harg2 arg3 harg3 arg4 harg4 arg5 harg5 arg10 x0 x1 x2 x3 (ix2 r d)
    = bodyRun.sl.r_60 c i arg2 harg2 arg3 harg3 arg4 harg4 arg5 harg5 arg10 x0 x1 x2 x3 (ix2 r d) + times x2 (fun k => wt (score x0 x1 (hi r) (key 7 k)) (top c arg2 harg2 arg3 harg3 arg5 harg5 x0 x1 x3 (hi r))) 7 d := by
  simp only [bodyRun.sl.r_63, bodyRun.sl.r_61, bodyRun.sl.r_62, View.readAt_eq_ld, Memref.IsWhole.read_unread]
  pointwise [k0_pay96, k0_pay95, k0_pay94, k0_pay93, k0_pay92, v623_at]
  exact congrArg (_ + ·) (times_of _ _ _ _ _ (fun k => rfl) _ (fun k => rfl))

/-- The cached keys' weights times the cached values. -/
def timesC (w : Fin 256 → EReal) (d : Fin 256) : EReal := ∑ k : Fin 256, w k * x4 (ix3 (0 : Fin 1) k d)

theorem r_65_at (r : Fin 512) (d : Fin 256) : bodyRun.sl.r_65 c arg2 harg2 arg3 harg3 arg5 harg5 arg6 harg6 arg11 x0 x1 x3 x4 (ix2 r d)
    = timesC x4 (fun k => wt (scoreC x0 x3 (hi r) k) (top c arg2 harg2 arg3 harg3 arg5 harg5 x0 x1 x3 (hi r))) d := by
  simp only [bodyRun.sl.r_65, View.readAt_eq_ld, Memref.IsWhole.read_unread]
  pointwise [k0_pay101, k0_pay100, k0_pay98, k0_pay97, v656_at]
  rfl

theorem r_66_at (r : Fin 512) (d : Fin 256) : bodyRun.sl.r_66 c i arg2 harg2 arg3 harg3 arg4 harg4 arg5 harg5 arg6 harg6 arg10 arg11 x0 x1 x2 x3 x4 (ix2 r d)
    = bodyRun.sl.r_59 c i arg2 harg2 arg3 harg3 arg4 harg4 arg5 harg5 arg10 x0 x1 x2 x3 (ix2 r d) + times x2 (fun k => wt (score x0 x1 (lo r) (key 7 k)) (top c arg2 harg2 arg3 harg3 arg5 harg5 x0 x1 x3 (lo r))) 7 d
      + timesC x4 (fun k => wt (scoreC x0 x3 (lo r) k) (top c arg2 harg2 arg3 harg3 arg5 harg5 x0 x1 x3 (lo r))) d := by
  simp only [bodyRun.sl.r_66, bodyRun.sl.r_61, bodyRun.sl.r_62, View.readAt_eq_ld, Memref.IsWhole.read_unread]
  pointwise [k0_pay102, k0_pay100, k0_pay98, k0_pay97, k0_pay95, k0_pay94, k0_pay93, k0_pay92, v656_at, v623_at]
  rfl

/-- The eight chunks and the cached keys, added in turn. -/
def total (z : Fin 8 → EReal) (zc : EReal) : EReal := z 0 + z 1 + z 2 + z 3 + z 4 + z 5 + z 6 + z 7 + zc

theorem r_67_at (r : Fin 1024) (d : Fin 256) : bodyRun.sl.r_67 c i arg2 harg2 arg3 harg3 arg4 harg4 arg5 harg5 arg6 harg6 arg10 arg11 x0 x1 x2 x3 x4 (ix2 r d)
    = total (fun j => times x2 (fun k => wt (score x0 x1 r (key j k)) (top c arg2 harg2 arg3 harg3 arg5 harg5 x0 x1 x3 r)) j d) (timesC x4 (fun k => wt (scoreC x0 x3 r k) (top c arg2 harg2 arg3 harg3 arg5 harg5 x0 x1 x3 r)) d)
      * Ideal.div 1 (∑ l : Fin 128, bodyRun.sl.r_64 c i arg2 harg2 arg3 harg3 arg5 harg5 arg10 arg11 x0 x1 x3 (ix2 r l)) := by
  unfold bodyRun.sl.r_67
  pointwise [k0_pay103, r_66_at, r_59_at, r_53_at, r_47_at, r_41_at, r_35_at, r_29_at, r_25_at, r_63_at, r_60_at, r_54_at, r_48_at, r_42_at, r_36_at, r_30_at, r_26_at, r_65_at]
  refine congrArg (· * _) ?_
  split
  · rfl
  · next h =>
    have e : hi ⟨r.val - 512, by omega⟩ = r := Fin.ext (by dsimp only [hi]; omega)
    rw [e]; rfl

end Cert.DiffIdeal.Rows

end
-- ==== Proof.DiffReal.lean ====
/- The differential attention's rows as real numbers: with every operand real, each row is a weighted mean of the values whose
weights are exponentials of the scaled scores, and the shift by the row's maximum drops out. -/
module

public import proofs.«01_k».proof.Proof.DiffProducts
public import proofs.«01_k».proof.Proof.DiffSpec

@[expose] public section

set_option maxRecDepth 16384

noncomputable section

open Idealize.ShloMosaic Idealize.ShloMosaic.TcCoe Idealize.SL.Sem

namespace Cert.DiffIdeal.Rows

open Cert.DiffIdeal Cert.DiffIdeal.Gen Cert.DiffIdeal.Body Cert.DiffAttn

/-- A weight of real numbers: the exponential of the scaled score, times a factor of the shift alone. -/
theorem wt_coe (s μ : ℝ) : wt (s : EReal) (μ : EReal) = ((Real.exp (scale * s) * Real.exp (-(μ * Real.log 2)) : ℝ) : EReal) := by
  have h2 : Real.log 2 ≠ 0 := (Real.log_pos (by norm_num)).ne'
  unfold wt
  rw [IdealRules.named_const.ideal_named_scalar (φ := .f32) κ "score_scale" 0x3E8293EE#32 _ rfl, ← EReal.coe_mul, ← EReal.coe_sub]
  refine congrArg Real.toEReal (a₁ := Real.rpow 2 _) ?_
  rw [← Real.exp_add]
  refine (Real.rpow_def_of_pos (by norm_num : (0:ℝ) < 2) _).trans (congrArg Real.exp ?_)
  unfold scale
  field_simp
  ring

/-- Lanes taken in four groups of 128 are all 512. -/
theorem sum_four (f : Fin 512 → ℝ) :
    ∑ l : Fin 128, (f ⟨l.val, by omega⟩ + f ⟨128 + l.val, by omega⟩ + f ⟨256 + l.val, by omega⟩ + f ⟨384 + l.val, by omega⟩) = ∑ k, f k := by
  rw [← (finProdFinEquiv (m := 4) (n := 128)).sum_comp f, Fintype.sum_prod_type, Fin.sum_univ_four]
  simp only [Finset.sum_add_distrib]
  refine congrArg₂ (· + ·) (congrArg₂ (· + ·) (congrArg₂ (· + ·) ?_ ?_) ?_) ?_ <;>
    exact Finset.sum_congr rfl fun k _ => congrArg f (Fin.ext (by simp [finProdFinEquiv]; try omega))

/-- Lanes taken in two groups of 128 are all 256. -/
theorem sum_two (f : Fin 256 → ℝ) :
    ∑ l : Fin 128, (f ⟨l.val, by omega⟩ + f ⟨128 + l.val, by omega⟩) = ∑ k, f k := by
  rw [← (finProdFinEquiv (m := 2) (n := 128)).sum_comp f, Fintype.sum_prod_type, Fin.sum_univ_two]
  simp only [Finset.sum_add_distrib]
  refine congrArg₂ (· + ·) ?_ ?_ <;>
    exact Finset.sum_congr rfl fun k _ => congrArg f (Fin.ext (by simp [finProdFinEquiv]; try omega))

/-- The eight blocks of 512 keys are all 4096. -/
theorem sum_key (f : Fin 4096 → ℝ) : ∑ j : Fin 8, ∑ k : Fin 512, f (key j k) = ∑ k, f k := by
  rw [← (finProdFinEquiv (m := 8) (n := 512)).sum_comp f, Fintype.sum_prod_type]
  exact Finset.sum_congr rfl fun j _ => Finset.sum_congr rfl fun k _ => congrArg f (Fin.ext (by simp [finProdFinEquiv, key]; try omega))

/-- The reciprocal of a real number other than zero. -/
theorem div_one_coe (x : ℝ) (hx : x ≠ 0) : Ideal.div (1 : EReal) (x : EReal) = ((x⁻¹ : ℝ) : EReal) := by
  have h : (x : EReal) ≠ 0 := by simpa using hx
  unfold Ideal.div
  rw [if_neg h, one_mul, EReal.coe_inv]

/-- A fold of four lanes of real numbers. -/
theorem fold4_coe (a : ℝ) (w : Fin 512 → ℝ) (l : Fin 128) :
    fold4 (a : EReal) (fun k => (w k : EReal)) l
      = ((a + (w ⟨l.val, by omega⟩ + w ⟨128 + l.val, by omega⟩ + w ⟨256 + l.val, by omega⟩ + w ⟨384 + l.val, by omega⟩) : ℝ) : EReal) := by
  unfold fold4
  simp only [← EReal.coe_add]
  exact congrArg _ (by ring)

variable (c : Dev nD) (i : grid0.Coords)
    (arg2 : Memref sig .tc .vmem S128x256 .bf16) (harg2 : arg2.IsWhole)
    (arg3 : Memref sig .tc .vmem S1x256x4096 .bf16) (harg3 : arg3.IsWhole)
    (arg4 : Memref sig .tc .vmem S4096x256 .bf16) (harg4 : arg4.IsWhole)
    (arg5 : Memref sig .tc .vmem S1x256x256 .bf16) (harg5 : arg5.IsWhole)
    (arg6 : Memref sig .tc .vmem S1x256x256 .bf16) (harg6 : arg6.IsWhole)
    (arg10 : Memref sig .tc .vmem S8x1024x512 .f32) (arg11 : Memref sig .tc .vmem S1024x256 .f32)
    (x0 : Vec Ideal S128x256 .bf16) (x1 : Vec Ideal S1x256x4096 .bf16) (x2 : Vec Ideal S4096x256 .bf16) (x3 x4 : Vec Ideal S1x256x256 .bf16)

/-- The row's weights, summed over the lanes: of all the fresh and cached keys. -/
theorem r_64_sum (r : Fin 1024) (w : Fin 8 → Fin 512 → ℝ) (wc : Fin 256 → ℝ)
    (hw : ∀ j k, wt (score x0 x1 r (key j k)) (top c arg2 harg2 arg3 harg3 arg5 harg5 x0 x1 x3 r) = (w j k : EReal))
    (hwc : ∀ k, wt (scoreC x0 x3 r k) (top c arg2 harg2 arg3 harg3 arg5 harg5 x0 x1 x3 r) = (wc k : EReal)) :
    ∑ l : Fin 128, bodyRun.sl.r_64 c i arg2 harg2 arg3 harg3 arg5 harg5 arg10 arg11 x0 x1 x3 (ix2 r l)
      = ((∑ j, ∑ k, w j k + ∑ k, wc k : ℝ) : EReal) := by
  have e : ∀ l : Fin 128, bodyRun.sl.r_64 c i arg2 harg2 arg3 harg3 arg5 harg5 arg10 arg11 x0 x1 x3 (ix2 r l)
      = ((∑ j, (w j ⟨l.val, by omega⟩ + w j ⟨128 + l.val, by omega⟩ + w j ⟨256 + l.val, by omega⟩ + w j ⟨384 + l.val, by omega⟩)
          + (wc ⟨l.val, by omega⟩ + wc ⟨128 + l.val, by omega⟩) : ℝ) : EReal) := fun l => by
    rw [r_64_at, r_57_at, r_51_at, r_45_at, r_39_at, r_33_at, r_27_at, r_23_at]
    simp only [hw, hwc]
    rw [← EReal.coe_zero]
    simp only [fold4_coe, ← EReal.coe_add]
    exact congrArg _ (by rw [Fin.sum_univ_eight]; ring)
  rw [Finset.sum_congr rfl fun l _ => e l, ← coe_sum, Finset.sum_add_distrib, Finset.sum_comm, sum_two]
  exact congrArg (fun z : ℝ => ((z + _ : ℝ) : EReal)) (Finset.sum_congr rfl fun j _ => sum_four (w j))

/-- The row's products of weights and values, summed over all the keys. -/
theorem total_coe (w : Fin 8 → Fin 512 → ℝ) (wc : Fin 256 → ℝ) (v : Fin 4096 → ℝ) (vc : Fin 256 → ℝ) (d : Fin 256)
    (hv : ∀ k, x2 (ix2 k d) = (v k : EReal)) (hvc : ∀ k, x4 (ix3 (0 : Fin 1) k d) = (vc k : EReal)) :
    total (fun j => times x2 (fun k => (w j k : EReal)) j d) (timesC x4 (fun k => (wc k : EReal)) d)
      = ((∑ j, ∑ k, w j k * v (key j k) + ∑ k, wc k * vc k : ℝ) : EReal) := by
  unfold total times timesC
  simp only [hv, hvc, sum_mul_coe, ← EReal.coe_add]
  exact congrArg _ (by rw [Fin.sum_univ_eight])

/-- The normalised row is the mean of the values. -/
theorem r_67_coe (r : Fin 1024) (d : Fin 256) (s : Fin 4096 → ℝ) (sc : Fin 256 → ℝ) (v : Fin 4096 → ℝ) (vc : Fin 256 → ℝ) (μ : ℝ)
    (hs : ∀ k, score x0 x1 r k = (s k : EReal)) (hsc : ∀ k, scoreC x0 x3 r k = (sc k : EReal))
    (hμ : top c arg2 harg2 arg3 harg3 arg5 harg5 x0 x1 x3 r = (μ : EReal))
    (hv : ∀ k, x2 (ix2 k d) = (v k : EReal)) (hvc : ∀ k, x4 (ix3 (0 : Fin 1) k d) = (vc k : EReal)) :
    bodyRun.sl.r_67 c i arg2 harg2 arg3 harg3 arg4 harg4 arg5 harg5 arg6 harg6 arg10 arg11 x0 x1 x2 x3 x4 (ix2 r d) = ((mean s sc v vc : ℝ) : EReal) := by
  have hw : ∀ j k, wt (score x0 x1 r (key j k)) (top c arg2 harg2 arg3 harg3 arg5 harg5 x0 x1 x3 r)
      = ((Real.exp (scale * s (key j k)) * Real.exp (-(μ * Real.log 2)) : ℝ) : EReal) := fun j k => by rw [hs, hμ, wt_coe]
  have hwc : ∀ k, wt (scoreC x0 x3 r k) (top c arg2 harg2 arg3 harg3 arg5 harg5 x0 x1 x3 r)
      = ((Real.exp (scale * sc k) * Real.exp (-(μ * Real.log 2)) : ℝ) : EReal) := fun k => by rw [hsc, hμ, wt_coe]
  rw [r_67_at, r_64_sum c i arg2 harg2 arg3 harg3 arg5 harg5 arg10 arg11 x0 x1 x3 r _ _ hw hwc]
  simp only [hw, hwc]
  rw [total_coe x2 x4 _ _ v vc d hv hvc]
  have e1 := sum_key fun k => Real.exp (scale * s k) * Real.exp (-(μ * Real.log 2))
  have e2 := sum_key fun k => Real.exp (scale * s k) * Real.exp (-(μ * Real.log 2)) * v k
  rw [e1, e2, div_one_coe _ (weights_pos _ (Real.exp_pos _) s sc).ne', ← EReal.coe_mul]
  exact congrArg _ (mean_factor _ (Real.exp_pos _).ne' s sc v vc).symm

end Cert.DiffIdeal.Rows

end
-- ==== Proof.DiffOut.lean ====
/- The differential attention kernel's output block: the mixed means of the stacked rows, each head's 64 lanes scaled by their
root mean square. -/
module

public import proofs.«01_k».proof.Proof.DiffReal

@[expose] public section

set_option maxRecDepth 16384

noncomputable section

open Idealize.ShloMosaic Idealize.ShloMosaic.TcCoe Idealize.SL.Sem

namespace Cert.DiffIdeal.Rows

open Cert.DiffIdeal Cert.DiffIdeal.Gen Cert.DiffIdeal.Body Cert.DiffAttn

theorem lane64 : ∀ l : Fin 256, k0_pay104 (ix2 (0 : Fin 1) l) = BitVec.ofNat 32 (l.val / 64) := by decide +kernel

/-- Whether a lane is of a head, as the body's comparison has it. -/
theorem select_lane64 (n : ℕ) (hn : n < 4) (l : Fin 256) (a b : EReal) :
    Scalar.select (IntOp.cmpi .eq (k0_pay104 (ix2 (0 : Fin 1) l)) (BitVec.ofNat 32 n)) a b = if l.val / 64 = n then a else b := by
  have key : ∀ l : Fin 256, ∀ n : Fin 4, IntOp.cmpi .eq (k0_pay104 (ix2 (0 : Fin 1) l)) (BitVec.ofNat 32 n.val) = if l.val / 64 = n.val then 1#1 else 0#1 := by
    decide +kernel
  rw [key l ⟨n, hn⟩]
  by_cases h : l.val / 64 = n
  · rw [if_pos h, if_pos h]; rfl
  · rw [if_neg h, if_neg h]; rfl

/-- The 256 × 256 matrix with a one where two lanes are of the same head. -/
def sameHead : FVec Ideal S256x256 .bf16 := k0_pay113 (iota .tc S256x256 32 [0] iota_S256x256_d0_w32) 64#32 k0_pay111 k0_pay112 1#1

theorem sameHead_at (k l : Fin 256) : sameHead (ix2 k l) = if k.val / 64 = l.val / 64 then (1 : EReal) else 0 := by
  unfold sameHead
  have row : ∀ k : Fin 256, (Scalar.select
      (IntOp.andi
        (IntOp.cmpi CmpIPredicate.ne
          (IntOp.subi (BitVec.setWidth 32 (IntOp.cmpi CmpIPredicate.sgt (BitVec.ofNat 32 k.val) 0#32)) (BitVec.setWidth 32 (IntOp.cmpi CmpIPredicate.slt (BitVec.ofNat 32 k.val) 0#32)))
          (Scalar.subi (Scalar.extui 1#1) (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32)) = BitVec.ofNat 32 (k.val / 64) := by decide +kernel
  have col : ∀ k : Fin 256, (Scalar.select
      (IntOp.andi
        (IntOp.cmpi CmpIPredicate.ne
          (IntOp.subi (BitVec.setWidth 32 (IntOp.cmpi CmpIPredicate.sgt (BitVec.ofNat 32 k.val) 0#32)) (BitVec.setWidth 32 (IntOp.cmpi CmpIPredicate.slt (BitVec.ofNat 32 k.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32)) = BitVec.ofNat 32 (k.val / 64) := by decide +kernel
  have key : ∀ a b : Fin 4, IntOp.cmpi .eq (BitVec.ofNat 32 a.val) (BitVec.ofNat 32 b.val) = if a.val = b.val then 1#1 else 0#1 := by decide +kernel
  pointwise [k0_pay113, k0_pay111, k0_pay112]
  rw [row k, col l, key ⟨k.val / 64, by omega⟩ ⟨l.val / 64, by omega⟩]
  split_ifs with h
  · have e : (BitVec.setWidth 32 1#1).toInt = 1 := by decide
    show ((((BitVec.setWidth 32 1#1).toInt : ℝ)) : EReal) = 1
    rw [e]; norm_num
  · have e : (BitVec.setWidth 32 0#1).toInt = 0 := by decide
    show ((((BitVec.setWidth 32 0#1).toInt : ℝ)) : EReal) = 0
    rw [e]; norm_num

/-- A query's mixed row: of the two stacked rows of the lane's head. -/
theorem mixed_of (lamv : FVec Ideal S1x1 .f32) (a : FVec Ideal S512x256 .f32) (b : FVec Ideal S1024x128 .f32) (c d : FVec Ideal S512x256 .f32)
    (A : FVec Ideal S1024x256 .f32) (hA : k0_pay103 a b c d = A) (y : Fin 128) (l : Fin 256) :
    k0_pay108 lamv A k0_pay104 (k0_pay105 lamv a b c d) (k0_pay106 a b c d) (k0_pay107 a b c d) (ix2 y l)
      = (A (ix2 ⟨128 * (2 * (l.val / 64)) + y.val, by omega⟩ l) - lamv (ix2 (0 : Fin 1) (0 : Fin 1)) * A (ix2 ⟨128 * (2 * (l.val / 64) + 1) + y.val, by omega⟩ l) : EReal) := by
  pointwise [k0_pay108, k0_pay105, k0_pay106, k0_pay107]
  rw [hA]
  have e0 := select_lane64 0 (by omega) l
  have e1 := select_lane64 1 (by omega) l
  have e2 := select_lane64 2 (by omega) l
  have e3 := select_lane64 3 (by omega) l
  refine (congrArg₂ (· + ·) (congrArg₂ (· + ·) (congrArg₂ (· + ·) (e0 _ _) (e1 _ _)) (e2 _ _)) (e3 _ _)).trans ?_
  obtain h | h | h | h : l.val / 64 = 0 ∨ l.val / 64 = 1 ∨ l.val / 64 = 2 ∨ l.val / 64 = 3 := by omega
  all_goals
    simp only [h, reduceIte, Nat.reduceEqDiff, OfNat.ofNat_ne_zero, OfNat.zero_ne_ofNat, zero_ne_one, one_ne_zero, OfNat.ofNat_ne_one, OfNat.one_ne_ofNat, zero_add, add_zero, mul_zero, mul_one]

/-- The lanes of a head, of all the lanes. -/
theorem sum_head (f : Fin 256 → ℝ) (h : ℕ) (hh : h < 4) :
    ∑ k : Fin 256, f k * (if k.val / 64 = h then (1 : ℝ) else 0) = ∑ x : Fin 64, f ⟨h * 64 + x.val, by omega⟩ := by
  rw [← (finProdFinEquiv (m := 4) (n := 64)).sum_comp _, Fintype.sum_prod_type, Finset.sum_eq_single (⟨h, hh⟩ : Fin 4)]
  · refine Finset.sum_congr rfl fun x _ => ?_
    have e : (finProdFinEquiv ((⟨h, hh⟩ : Fin 4), x)).val = h * 64 + x.val := by simp [finProdFinEquiv]; omega
    rw [if_pos (by omega), mul_one]
    exact congrArg f (Fin.ext e)
  · intro j _ hj
    refine Finset.sum_eq_zero fun x _ => ?_
    have e : (finProdFinEquiv (j, x)).val = j.val * 64 + x.val := by simp [finProdFinEquiv]; omega
    rw [if_neg (fun h' => hj (Fin.ext (by dsimp only; omega))), mul_zero]
  · intro h'; exact absurd (Finset.mem_univ _) h'

/-- The stored block, of a mixed block of real numbers. -/
theorem scaled_of (O : FVec Ideal S128x256 .f32) (gain : FVec Ideal S1x256 .f32) (o : Fin 128 → Fin 256 → ℝ)
    (hO : ∀ y l, O (ix2 y l) = (o y l : EReal)) (y : Fin 128) (l : Fin 256) :
    k0_pay1 O gain sameHead (k0_pay114 (mulf O O)) (k0_pay116 (mulf O O)) (k0_pay117 (mulf O O)) (ix2 y l)
      = scaled (o y) l (gain (ix2 (0 : Fin 1) l)) := by
  pointwise [k0_pay1, k0_pay114, k0_pay115, k0_pay116, k0_pay117, sameHead_at, hO]
  have t : ∀ x : Fin 256, (if x.val / 64 = l.val / 64 then (1 : EReal) else 0) = ((if x.val / 64 = l.val / 64 then (1 : ℝ) else 0 : ℝ) : EReal) := fun x => by
    split_ifs <;> rfl
  have z : ∀ a : ℝ, (a : EReal) * (a : EReal) - (a : EReal) * (a : EReal) = 0 := fun a => by
    rw [← EReal.coe_mul, ← EReal.coe_sub, sub_self, EReal.coe_zero]
  have s1 : ∑ x : Fin 256, (o y x : EReal) * (o y x : EReal) * (if x.val / 64 = l.val / 64 then (1 : EReal) else 0)
      = ((∑ x : Fin 64, o y ⟨l.val / 64 * 64 + x.val, by omega⟩ * o y ⟨l.val / 64 * 64 + x.val, by omega⟩ : ℝ) : EReal) := by
    rw [← sum_head (fun k => o y k * o y k) (l.val / 64) (by omega), coe_sum]
    exact Finset.sum_congr rfl fun x _ => by rw [t, EReal.coe_mul, EReal.coe_mul]
  have s2 : ∑ x : Fin 256, ((o y x : EReal) * (o y x : EReal) - (o y x : EReal) * (o y x : EReal)) * (if x.val / 64 = l.val / 64 then (1 : EReal) else 0) = 0 :=
    Finset.sum_eq_zero fun x _ => by rw [z, zero_mul]
  have s3 : ∑ x : Fin 256, ((o y x : EReal) * (o y x : EReal) - (o y x : EReal) * (o y x : EReal) - ((o y x : EReal) * (o y x : EReal) - (o y x : EReal) * (o y x : EReal)))
      * (if x.val / 64 = l.val / 64 then (1 : EReal) else 0) = 0 :=
    Finset.sum_eq_zero fun x _ => by rw [z, sub_zero, zero_mul]
  have s : ∑ x : Fin 256, (o y x : EReal) * (o y x : EReal) * (if x.val / 64 = l.val / 64 then (1 : EReal) else 0)
      + ∑ x : Fin 256, ((o y x : EReal) * (o y x : EReal) - (o y x : EReal) * (o y x : EReal)) * (if x.val / 64 = l.val / 64 then (1 : EReal) else 0)
      + ∑ x : Fin 256, ((o y x : EReal) * (o y x : EReal) - (o y x : EReal) * (o y x : EReal) - ((o y x : EReal) * (o y x : EReal) - (o y x : EReal) * (o y x : EReal)))
        * (if x.val / 64 = l.val / 64 then (1 : EReal) else 0)
      = ((∑ x : Fin 64, o y ⟨l.val / 64 * 64 + x.val, by omega⟩ * o y ⟨l.val / 64 * 64 + x.val, by omega⟩ : ℝ) : EReal) := by
    rw [s1, s2, s3, add_zero, add_zero]
  unfold scaled
  exact congrArg (fun w : EReal => (o y l : EReal) * Ideal.rsqrt (w * Ideal.ofBits FTy.f32 0x3C800000#32 + Ideal.ofBits FTy.f32 0x358637BD#32)
    * gain (ix2 (0 : Fin 1) l) * Ideal.ofBits FTy.f32 0x3F4CCCCD#32) s

/-- The lanes of a group of 32, of all the lanes. -/
theorem sum_group (f : Fin 256 → ℝ) (n : Fin 8) :
    ∑ k : Fin 256, (if k.val / 32 = n.val then f k else 0) = ∑ x : Fin 32, f ⟨32 * n.val + x.val, by omega⟩ := by
  rw [← (finProdFinEquiv (m := 8) (n := 32)).sum_comp _, Fintype.sum_prod_type, Finset.sum_eq_single n]
  · refine Finset.sum_congr rfl fun x _ => ?_
    have e : (finProdFinEquiv (n, x)).val = 32 * n.val + x.val := by simp [finProdFinEquiv]; omega
    rw [if_pos (by omega)]
    exact congrArg f (Fin.ext e)
  · intro j _ hj
    refine Finset.sum_eq_zero fun x _ => ?_
    have e : (finProdFinEquiv (j, x)).val = 32 * j.val + x.val := by simp [finProdFinEquiv]; omega
    rw [if_neg (fun h' => hj (Fin.ext (by omega)))]
  · intro h'; exact absurd (Finset.mem_univ _) h'

/-- A product of a stacked row and a key, of real numbers: over the 32 lanes of the row's group. -/
theorem stacked_coe (x0 : Vec Ideal S128x256 .bf16) (q : Fin 128 → Fin 256 → ℝ) (hq : ∀ y l, x0 (ix2 y l) = (q y l : EReal))
    (k : Fin 256 → ℝ) (r : Fin 1024) :
    ∑ l : Fin 256, stacked x0 (ix2 r l) * (k l : EReal) = ((dot32 (q ⟨r.val % 128, by omega⟩) k ⟨r.val / 128, by omega⟩ : ℝ) : EReal) := by
  have e := sum_group (fun l => q ⟨r.val % 128, by omega⟩ l * k l) ⟨r.val / 128, by omega⟩
  unfold dot32
  rw [← e, coe_sum]
  refine Finset.sum_congr rfl fun l _ => ?_
  rw [stacked_at]
  split_ifs with h
  · rw [hq, ← EReal.coe_mul]
  · rw [zero_mul, EReal.coe_zero]

variable (c : Dev nD) (i : grid0.Coords)
    (arg2 : Memref sig .tc .vmem S128x256 .bf16) (harg2 : arg2.IsWhole)
    (arg3 : Memref sig .tc .vmem S1x256x4096 .bf16) (harg3 : arg3.IsWhole)
    (arg4 : Memref sig .tc .vmem S4096x256 .bf16) (harg4 : arg4.IsWhole)
    (arg5 : Memref sig .tc .vmem S1x256x256 .bf16) (harg5 : arg5.IsWhole)
    (arg6 : Memref sig .tc .vmem S1x256x256 .bf16) (harg6 : arg6.IsWhole)
    (arg10 : Memref sig .tc .vmem S8x1024x512 .f32) (arg11 : Memref sig .tc .vmem S1024x256 .f32)
    (x0 : Vec Ideal S128x256 .bf16) (x1 : Vec Ideal S1x256x4096 .bf16) (x2 : Vec Ideal S4096x256 .bf16) (x3 x4 : Vec Ideal S1x256x256 .bf16)
    (arg7 : Memref sig .tc .vmem S1x256 .f32) (harg7 : arg7.IsWhole)
    (arg8 : Memref sig .tc .vmem S4x32 .f32) (harg8 : arg8.IsWhole)
    (x5 : Vec Ideal S1x256 .f32) (x6 : Vec Ideal S4x32 .f32)

/-- The proportion's word. -/
theorem r_at : bodyRun.sl.r c arg8 harg8 x6 (ix2 (0 : Fin 1) (0 : Fin 1))
    = lamOf (fun x => x6 (ix2 (0 : Fin 4) x)) (fun x => x6 (ix2 (1 : Fin 4) x)) (fun x => x6 (ix2 (2 : Fin 4) x)) (fun x => x6 (ix2 (3 : Fin 4) x)) := by
  simp only [bodyRun.sl.r, View.readAt_eq_ld, Memref.IsWhole.read_unread]
  pointwise [k0_pay2, lamOf]

/-- The gain's word. -/
theorem r_72_at (l : Fin 256) : bodyRun.sl.r_72 c arg7 harg7 x5 (ix2 (0 : Fin 1) l) = x5 (ix2 (0 : Fin 1) l) := by
  simp only [bodyRun.sl.r_72, View.readAt_eq_ld, Memref.IsWhole.read_unread]
  pointwise [k0_pay109]

/-- The mixed means' word, of real blocks. -/
theorem r_71_at (q : Fin 128 → Fin 256 → ℝ) (kk : Fin 4096 → Fin 256 → ℝ) (kc : Fin 256 → Fin 256 → ℝ) (vv : Fin 4096 → Fin 256 → ℝ) (vc : Fin 256 → Fin 256 → ℝ) (lam : ℝ)
    (hq : ∀ y l, x0 (ix2 y l) = (q y l : EReal)) (hk : ∀ l k, x1 (ix3 (0 : Fin 1) l k) = (kk k l : EReal)) (hkc : ∀ l k, x3 (ix3 (0 : Fin 1) l k) = (kc k l : EReal))
    (hv : ∀ k l, x2 (ix2 k l) = (vv k l : EReal)) (hvc : ∀ k l, x4 (ix3 (0 : Fin 1) k l) = (vc k l : EReal))
    (hlam : lamOf (fun x => x6 (ix2 (0 : Fin 4) x)) (fun x => x6 (ix2 (1 : Fin 4) x)) (fun x => x6 (ix2 (2 : Fin 4) x)) (fun x => x6 (ix2 (3 : Fin 4) x)) = (lam : EReal))
    (y : Fin 128) (l : Fin 256) :
    bodyRun.sl.r_71 c i arg2 harg2 arg3 harg3 arg4 harg4 arg5 harg5 arg6 harg6 arg8 harg8 arg10 arg11 x0 x1 x2 x3 x4 x6 (ix2 y l) = ((mixed (q y) kk kc vv vc lam l : ℝ) : EReal) := by
  have hs : ∀ r k, score x0 x1 r k = ((dot32 (q ⟨r.val % 128, by omega⟩) (kk k) ⟨r.val / 128, by omega⟩ : ℝ) : EReal) := fun r k => by
    rw [← stacked_coe x0 q hq (kk k) r]; exact Finset.sum_congr rfl fun l _ => by rw [hk]
  have hsc : ∀ r k, scoreC x0 x3 r k = ((dot32 (q ⟨r.val % 128, by omega⟩) (kc k) ⟨r.val / 128, by omega⟩ : ℝ) : EReal) := fun r k => by
    rw [← stacked_coe x0 q hq (kc k) r]; exact Finset.sum_congr rfl fun l _ => by rw [hkc]
  have hA : ∀ (n : Fin 8) (p : ℕ) (hp : p < 1024), p = 128 * n.val + y.val →
      bodyRun.sl.r_67 c i arg2 harg2 arg3 harg3 arg4 harg4 arg5 harg5 arg6 harg6 arg10 arg11 x0 x1 x2 x3 x4 (ix2 ⟨p, hp⟩ l) = ((meanAt (q y) kk kc vv vc n l : ℝ) : EReal) := by
    intro n p hp h
    obtain ⟨μ, hμ⟩ := r_22_real c arg2 harg2 arg3 harg3 arg5 harg5 x0 x1 x3 (fun r k => ⟨_, hs r k⟩) (fun r k => ⟨_, hsc r k⟩) ⟨p, hp⟩
    have e1 : (⟨p % 128, by omega⟩ : Fin 128) = y := Fin.ext (by dsimp only; omega)
    have e2 : (⟨p / 128, by omega⟩ : Fin 8) = n := Fin.ext (by dsimp only; omega)
    rw [r_67_coe c i arg2 harg2 arg3 harg3 arg4 harg4 arg5 harg5 arg6 harg6 arg10 arg11 x0 x1 x2 x3 x4 ⟨p, hp⟩ l _ _ (fun k => vv k l) (fun k => vc k l) μ
      (hs ⟨p, hp⟩) (hsc ⟨p, hp⟩) hμ (fun k => hv k l) (fun k => hvc k l)]
    dsimp only
    rw [e1, e2]
    rfl
  unfold bodyRun.sl.r_71 bodyRun.sl.r_68 bodyRun.sl.r_69 bodyRun.sl.r_70
  rw [mixed_of _ _ _ _ _ (bodyRun.sl.r_67 c i arg2 harg2 arg3 harg3 arg4 harg4 arg5 harg5 arg6 harg6 arg10 arg11 x0 x1 x2 x3 x4) rfl,
    r_at, hlam, hA ⟨2 * (l.val / 64), by omega⟩ _ _ rfl, hA ⟨2 * (l.val / 64) + 1, by omega⟩ _ _ rfl, ← EReal.coe_mul, ← EReal.coe_sub]
  rfl

/-- The stored block, of real blocks: the mixed means, scaled. -/
theorem stored_block (q : Fin 128 → Fin 256 → ℝ) (kk : Fin 4096 → Fin 256 → ℝ) (kc : Fin 256 → Fin 256 → ℝ) (vv : Fin 4096 → Fin 256 → ℝ) (vc : Fin 256 → Fin 256 → ℝ) (lam : ℝ)
    (hq : ∀ y l, x0 (ix2 y l) = (q y l : EReal)) (hk : ∀ l k, x1 (ix3 (0 : Fin 1) l k) = (kk k l : EReal)) (hkc : ∀ l k, x3 (ix3 (0 : Fin 1) l k) = (kc k l : EReal))
    (hv : ∀ k l, x2 (ix2 k l) = (vv k l : EReal)) (hvc : ∀ k l, x4 (ix3 (0 : Fin 1) k l) = (vc k l : EReal))
    (hlam : lamOf (fun x => x6 (ix2 (0 : Fin 4) x)) (fun x => x6 (ix2 (1 : Fin 4) x)) (fun x => x6 (ix2 (2 : Fin 4) x)) (fun x => x6 (ix2 (3 : Fin 4) x)) = (lam : EReal))
    (y : Fin 128) (l : Fin 256) :
    k0_pay1 (bodyRun.sl.r_71 c i arg2 harg2 arg3 harg3 arg4 harg4 arg5 harg5 arg6 harg6 arg8 harg8 arg10 arg11 x0 x1 x2 x3 x4 x6) (bodyRun.sl.r_72 c arg7 harg7 x5) bodyRun.sl.r_74 (bodyRun.sl.r_75 c i arg2 harg2 arg3 harg3 arg4 harg4 arg5 harg5 arg6 harg6 arg8 harg8 arg10 arg11 x0 x1 x2 x3 x4 x6) (bodyRun.sl.r_76 c i arg2 harg2 arg3 harg3 arg4 harg4 arg5 harg5 arg6 harg6 arg8 harg8 arg10 arg11 x0 x1 x2 x3 x4 x6) (bodyRun.sl.r_77 c i arg2 harg2 arg3 harg3 arg4 harg4 arg5 harg5 arg6 harg6 arg8 harg8 arg10 arg11 x0 x1 x2 x3 x4 x6) (ix2 y l)
      = scaled (mixed (q y) kk kc vv vc lam) l (x5 (ix2 (0 : Fin 1) l)) := by
  have e : bodyRun.sl.r_73 c i arg2 harg2 arg3 harg3 arg4 harg4 arg5 harg5 arg6 harg6 arg8 harg8 arg10 arg11 x0 x1 x2 x3 x4 x6 = mulf (bodyRun.sl.r_71 c i arg2 harg2 arg3 harg3 arg4 harg4 arg5 harg5 arg6 harg6 arg8 harg8 arg10 arg11 x0 x1 x2 x3 x4 x6) (bodyRun.sl.r_71 c i arg2 harg2 arg3 harg3 arg4 harg4 arg5 harg5 arg6 harg6 arg8 harg8 arg10 arg11 x0 x1 x2 x3 x4 x6) := rfl
  unfold bodyRun.sl.r_75 bodyRun.sl.r_76 bodyRun.sl.r_77
  rw [e]
  refine (scaled_of (bodyRun.sl.r_71 c i arg2 harg2 arg3 harg3 arg4 harg4 arg5 harg5 arg6 harg6 arg8 harg8 arg10 arg11 x0 x1 x2 x3 x4 x6) (bodyRun.sl.r_72 c arg7 harg7 x5) (fun y => mixed (q y) kk kc vv vc lam)
    (r_71_at c i arg2 harg2 arg3 harg3 arg4 harg4 arg5 harg5 arg6 harg6 arg10 arg11 x0 x1 x2 x3 x4 arg8 harg8 x6 q kk kc vv vc lam hq hk hkc hv hvc hlam) y l).trans ?_
  rw [r_72_at]

end Cert.DiffIdeal.Rows

end
-- ==== Proof.DiffBlocks.lean ====
/- The blocks the differential attention's launch reads at a point, as elements of the arguments, and the place of its output
block. -/
module

public import proofs.«01_k».proof.Proof.DiffIdealFrame
public import Idealize.ShloMosaic.Lib.Pointwise
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DiffIdeal.Rows

open Cert.DiffIdeal Cert.DiffIdeal.Gen Cert.DiffIdeal.Body

/-- The facts of a point that the value rests on: the block each window is on. -/
structure At (t : Fin cfg0.N) : Prop where
  w0 : win0_0.index t = ![t.val, 0]
  w1 : win0_1.index t = ![t.val / 32, 0, 0]
  w2 : win0_2.index t = ![t.val / 32, 0]
  w3 : win0_3.index t = ![t.val / 32, 0, 0]
  w4 : win0_4.index t = ![t.val / 32, 0, 0]
  w5 : win0_5.index t = ![0, 0]
  w6 : win0_6.index t = ![0, 0]
  w7 : win0_7.index t = ![t.val, 0]

theorem index_at (t : Fin cfg0.N) : At t := by
  have h := (by decide +kernel : ∀ t : Fin grid0.N, win0_0.index t = ![t.val, 0] ∧ win0_1.index t = ![t.val / 32, 0, 0]
    ∧ win0_2.index t = ![t.val / 32, 0] ∧ win0_3.index t = ![t.val / 32, 0, 0] ∧ win0_4.index t = ![t.val / 32, 0, 0] ∧ win0_5.index t = ![0, 0]
    ∧ win0_6.index t = ![0, 0] ∧ win0_7.index t = ![t.val, 0]) t
  obtain ⟨h0, h1, h2, h3, h4, h5, h6, h7⟩ := h
  exact ⟨h0, h1, h2, h3, h4, h5, h6, h7⟩

variable (m : (ℓ : Loc nD τ sig) → Buf (Elt Ideal) ℓ)

theorem points_lt (t : Fin cfg0.N) : t.val < 64 := by
  have := t.isLt; have h : cfg0.N = 64 := N_0; omega

/-- The token of a query block's row, of a batch's key, and the batch. -/
abbrev tok (t : Fin cfg0.N) (y : Fin 128) : Fin 8192 := ⟨t.val * 128 + y.val, by have := points_lt t; omega⟩
abbrev keyTok (t : Fin cfg0.N) (k : Fin 4096) : Fin 8192 := ⟨t.val / 32 * 4096 + k.val, by have := points_lt t; omega⟩
abbrev batch (t : Fin cfg0.N) : Fin 2 := ⟨t.val / 32, by have := points_lt t; omega⟩

/-- The query block at a point, an element. -/
theorem block0 (c : Dev nD) (t : Fin cfg0.N) (y : Fin 128) (l : Fin 256) :
    iblk m c 0 t (ix2 y l) = m ((c : Thread nD τ).loc main_arg0) (ix2 (tok t y) l) := by
  have e := (index_at t).w0
  blk_ext [iblk, V, e]

/-- The batch's keys at a point, an element: the host's keys, transposed. -/
theorem block1 (c : Dev nD) (t : Fin cfg0.N) (l : Fin 256) (k : Fin 4096) :
    iblk m c 1 t (ix3 0 l k) = m ((c : Thread nD τ).loc main_arg1) (ix2 (keyTok t k) l) := by
  have e := (index_at t).w1
  blk_ext! [iblk, e]

/-- The batch's values at a point, an element. -/
theorem block2 (c : Dev nD) (t : Fin cfg0.N) (k : Fin 4096) (l : Fin 256) :
    iblk m c 2 t (ix2 k l) = m ((c : Thread nD τ).loc main_arg2) (ix2 (keyTok t k) l) := by
  have e := (index_at t).w2
  blk_ext [iblk, V, e]

/-- The batch's cached keys at a point, an element: the host's, the heads side by side and transposed. -/
theorem block3 (c : Dev nD) (t : Fin cfg0.N) (l : Fin 256) (k : Fin 256) :
    iblk m c 3 t (ix3 0 l k) = m ((c : Thread nD τ).loc main_arg3) (ix4 (batch t) ⟨l.val / 64, by omega⟩ k ⟨l.val % 64, by omega⟩) := by
  have e := (index_at t).w3
  blk_ext! [iblk, e]

/-- The batch's cached values at a point, an element: the host's, the heads side by side. -/
theorem block4 (c : Dev nD) (t : Fin cfg0.N) (k : Fin 256) (l : Fin 256) :
    iblk m c 4 t (ix3 0 k l) = m ((c : Thread nD τ).loc main_arg4) (ix4 (batch t) ⟨l.val / 64, by omega⟩ k ⟨l.val % 64, by omega⟩) := by
  have e := (index_at t).w4
  blk_ext! [iblk, e]

/-- The gain at a point, an element: the host's, repeated for every head. -/
theorem block5 (c : Dev nD) (t : Fin cfg0.N) (l : Fin 256) :
    iblk m c 5 t (ix2 0 l) = m ((c : Thread nD τ).loc main_arg5) (ix1 ⟨l.val % 64, by omega⟩) := by
  have e := (index_at t).w5
  blk_ext! [iblk, e]

/-- The proportion's rows at a point, an element. -/
theorem block6 (c : Dev nD) (t : Fin cfg0.N) (k : Fin 4) (l : Fin 32) :
    iblk m c 6 t (ix2 k l) = m ((c : Thread nD τ).loc main_arg6) (ix2 k l) := by
  have e := (index_at t).w6
  blk_ext [iblk, V, e]

/-- The place of an element of the output block in the result. -/
theorem place7 (t : Fin cfg0.N) (y : Fin 128) (l : Fin 256) : ((cfg0.win 7).blk t).view.emb (ix2 y l) = ix2 (tok t y) l := by
  have e := (index_at t).w7
  blk_ext [e]

end Cert.DiffIdeal.Rows

end
-- ==== Proof.DiffOutcome.lean ====
/- The differential attention's result over real arguments, and what it is for arguments to be real. -/
module

public import proofs.«01_k».proof.Proof.DiffSpec

@[expose] public section

noncomputable section

open Idealize.ShloMosaic Idealize.SL.Sem

namespace Cert.DiffAttn

/-- The result at a token and a lane: the batch's 4096 fresh keys and values, and its 256 cached ones by head. -/
def outcome (q k v : Fin 8192 → Fin 256 → ℝ) (ck cv : Fin 2 → Fin 4 → Fin 256 → Fin 64 → ℝ) (lam : ℝ) (r : Fin 8192) (d : Fin 256) (g : EReal) : EReal :=
  scaled (mixed (q r) (fun x => k ⟨r.val / 4096 * 4096 + x.val, by omega⟩) (fun x l => ck ⟨r.val / 4096, by omega⟩ ⟨l.val / 64, by omega⟩ x ⟨l.val % 64, by omega⟩)
    (fun x => v ⟨r.val / 4096 * 4096 + x.val, by omega⟩) (fun x l => cv ⟨r.val / 4096, by omega⟩ ⟨l.val / 64, by omega⟩ x ⟨l.val % 64, by omega⟩) lam) d g

/-- The arguments are these real numbers, and the proportion of the last one's rows is `lam`. -/
structure RealArgs (a0 a1 a2 : Fin 8192 → Fin 256 → EReal) (a3 a4 : Fin 2 → Fin 4 → Fin 256 → Fin 64 → EReal) (a6 : Fin 4 → Fin 32 → EReal)
    (q k v : Fin 8192 → Fin 256 → ℝ) (ck cv : Fin 2 → Fin 4 → Fin 256 → Fin 64 → ℝ) (lam : ℝ) : Prop where
  hq : ∀ r l, a0 r l = (q r l : EReal)
  hk : ∀ r l, a1 r l = (k r l : EReal)
  hv : ∀ r l, a2 r l = (v r l : EReal)
  hck : ∀ b h x l, a3 b h x l = (ck b h x l : EReal)
  hcv : ∀ b h x l, a4 b h x l = (cv b h x l : EReal)
  hlam : lamOf (a6 0) (a6 1) (a6 2) (a6 3) = (lam : EReal)

end Cert.DiffAttn

end
-- ==== Proof.DiffValue.lean ====
/- What the differential attention's launch leaves, of real arguments. -/
module

public import proofs.«01_k».proof.Proof.DiffOut
public import proofs.«01_k».proof.Proof.DiffBlocks
public import proofs.«01_k».proof.Proof.DiffOutcome

@[expose] public section

set_option maxRecDepth 16384

noncomputable section

open Idealize.ShloMosaic Idealize.ShloMosaic.TcCoe Idealize.SL.Sem
open Idealize.ShloMosaic.Pipeline (Dat)

namespace Cert.DiffIdeal.Rows

open Cert.DiffIdeal Cert.DiffIdeal.Gen Cert.DiffIdeal.Body Cert.DiffAttn

variable (m : (ℓ : Loc nD τ sig) → Buf (Elt Ideal) ℓ)

/-- The arguments in memory are these real numbers. -/
abbrev RealMem (c : Dev nD) (q k v : Fin 8192 → Fin 256 → ℝ) (ck cv : Fin 2 → Fin 4 → Fin 256 → Fin 64 → ℝ) (lam : ℝ) : Prop :=
  RealArgs (fun r l => m ((c : Thread nD τ).loc main_arg0) (ix2 r l)) (fun r l => m ((c : Thread nD τ).loc main_arg1) (ix2 r l))
    (fun r l => m ((c : Thread nD τ).loc main_arg2) (ix2 r l)) (fun b h x l => m ((c : Thread nD τ).loc main_arg3) (ix4 b h x l))
    (fun b h x l => m ((c : Thread nD τ).loc main_arg4) (ix4 b h x l)) (fun s x => m ((c : Thread nD τ).loc main_arg6) (ix2 s x)) q k v ck cv lam

variable {q k v : Fin 8192 → Fin 256 → ℝ} {ck cv : Fin 2 → Fin 4 → Fin 256 → Fin 64 → ℝ} {lam : ℝ}

/-- The kernel's result array: at every token and lane the outcome. -/
def value (q k v : Fin 8192 → Fin 256 → ℝ) (ck cv : Fin 2 → Fin 4 → Fin 256 → Fin 64 → ℝ) (lam : ℝ) (c : Dev nD) : Buf (Elt Ideal) ((c : Thread nD τ).loc main_v13) := fun i =>
  outcome q k v ck cv lam (i 0) (i 1) (m ((c : Thread nD τ).loc main_arg5) (ix1 ⟨(i 1).val % 64, by omega⟩))

/-- The output block at a point, an element. -/
theorem outBlock_at (c : Dev nD) (H : RealMem m c q k v ck cv lam) (t : Fin cfg0.N) (y : Fin 128) (l : Fin 256) :
    outBlock m c t (ix2 y l) = outcome q k v ck cv lam (tok t y) l (m ((c : Thread nD τ).loc main_arg5) (ix1 ⟨l.val % 64, by omega⟩)) := by
  unfold outBlock
  delta pointRun bodyRun
  dsimp only
  rw [View.canon_unit_zero (by funext x; fin_cases x <;> rfl)]
  refine (stored_block c (grid0.coords t) (buf0 t) (whole0 t) (buf1 t) (whole1 t) (buf2 t) (whole2 t) (buf3 t) (whole3 t) (buf4 t) (whole4 t) scores accs
    (iblk m c 0 t) (iblk m c 1 t) (iblk m c 2 t) (iblk m c 3 t) (iblk m c 4 t) (buf5 t) (whole5 t) (buf6 t) (whole6 t) (iblk m c 5 t) (iblk m c 6 t)
    (fun y => q (tok t y)) (fun x => k (keyTok t x)) (fun x l => ck (batch t) ⟨l.val / 64, by omega⟩ x ⟨l.val % 64, by omega⟩)
    (fun x => v (keyTok t x)) (fun x l => cv (batch t) ⟨l.val / 64, by omega⟩ x ⟨l.val % 64, by omega⟩) lam
    (fun y l => (block0 m c t y l).trans (H.hq _ _)) (fun l x => (block1 m c t l x).trans (H.hk _ _)) (fun l x => (block3 m c t l x).trans (H.hck _ _ _ _))
    (fun x l => (block2 m c t x l).trans (H.hv _ _)) (fun x l => (block4 m c t x l).trans (H.hcv _ _ _ _)) ?_ y l).trans ?_
  · simp only [block6]
    exact H.hlam
  · rw [block5]
    unfold outcome
    have hb : (tok t y).val / 4096 = t.val / 32 := by dsimp only [tok]; omega
    simp only [hb]

/-- The result array after the launch. -/
theorem array_eq (c : Dev nD) (H : RealMem m c q k v ck cv lam) : (dats m 0 c).arrAt 7 cfg0.N = value m q k v ck cv lam c := by
  refine (dats m 0 c).arrAt_eq_of_covers 7 _ (by decide +kernel) fun t hf y => ?_
  idx_vars y
  rw [place7]
  blk_simp [value]
  rw [after7]
  exact outBlock_at m c H t _ _

end Cert.DiffIdeal.Rows

end
-- ==== Proof.DiffRefValue.lean ====
/- What the differential attention's reference computes, an element at a time. -/
module

public import proofs.«01_k».proof.Proof.DiffSpec
public import proofs.«01_k».proof.Proof.Gen.DiffRefIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.DiffRefIdeal.Rows

open Cert.DiffRefIdeal Cert.DiffRefIdeal.Gen Cert.DiffRefIdeal.Read Cert.DiffAttn
open Cert.DiffIdeal.Rows (coe_sum IsReal)

variable (x0 x1 x2 : (⟨S8192x256, .bf16⟩ : BufTy).Contents (Elt Ideal)) (x3 x4 : (⟨S2x4x256x64, .f32⟩ : BufTy).Contents (Elt Ideal)) (x5 : (⟨S64, .f32⟩ : BufTy).Contents (Elt Ideal)) (x6 : (⟨S4x32, .f32⟩ : BufTy).Contents (Elt Ideal))

/-- The first half's scaled score, -/
theorem v38_at (b : Fin 2) (h : Fin 4) (q : Fin 4096) (k : Fin 4352) :
    val_main_v38 (F := Ideal) x0 x1 x3 (ix4 b h q k)
      = (∑ x : Fin 32, x0 (ix2 ⟨b.val * 4096 + q.val, by omega⟩ ⟨h.val * 64 + x.val, by omega⟩)
          * (if h1 : k.val < 4096 then x1 (ix2 ⟨b.val * 4096 + k.val, by omega⟩ ⟨h.val * 64 + x.val, by omega⟩) else x3 (ix4 b h ⟨k.val - 4096, by omega⟩ ⟨x.val, by omega⟩)))
        * Ideal.ofBits FTy.f32 0x3E3504F3#32 := by
  pointwise [val_main_v0, val_main_v1, val_main_v2, val_main_v3, val_main_v4, val_main_v5, val_main_v9, val_main_v10, val_main_v11, val_main_v12, val_main_v34, val_main_v35, val_main_v36, val_main_cst_2, val_main_v37, val_main_v38]

/-- the second half's, -/
theorem v43_at (b : Fin 2) (h : Fin 4) (q : Fin 4096) (k : Fin 4352) :
    val_main_v43 (F := Ideal) x0 x1 x3 (ix4 b h q k)
      = (∑ x : Fin 32, x0 (ix2 ⟨b.val * 4096 + q.val, by omega⟩ ⟨h.val * 64 + 32 + x.val, by omega⟩)
          * (if h1 : k.val < 4096 then x1 (ix2 ⟨b.val * 4096 + k.val, by omega⟩ ⟨h.val * 64 + 32 + x.val, by omega⟩) else x3 (ix4 b h ⟨k.val - 4096, by omega⟩ ⟨32 + x.val, by omega⟩)))
        * Ideal.ofBits FTy.f32 0x3E3504F3#32 := by
  pointwise [val_main_v0, val_main_v1, val_main_v2, val_main_v3, val_main_v4, val_main_v5, val_main_v13, val_main_v14, val_main_v15, val_main_v16, val_main_v39, val_main_v40, val_main_v41, val_main_cst_3, val_main_v42, val_main_v43]

/-- the values, -/
theorem v17_at (b : Fin 2) (h : Fin 4) (k : Fin 4352) (d : Fin 64) :
    val_main_v17 (F := Ideal) x2 x4 (ix4 b h k d)
      = if h1 : k.val < 4096 then x2 (ix2 ⟨b.val * 4096 + k.val, by omega⟩ ⟨h.val * 64 + d.val, by omega⟩) else x4 (ix4 b h ⟨k.val - 4096, by omega⟩ d) := by
  pointwise [val_main_v6, val_main_v7, val_main_v8, val_main_v17]

/-- the proportion, -/
theorem v33_at : val_main_v33 (F := Ideal) x6 ix0
    = lamOf (fun x => x6 (ix2 (0 : Fin 4) x)) (fun x => x6 (ix2 (1 : Fin 4) x)) (fun x => x6 (ix2 (2 : Fin 4) x)) (fun x => x6 (ix2 (3 : Fin 4) x)) := by
  pointwise [val_main_v18, val_main_v19, val_main_v20, val_main_v21, val_main_v22, val_main_cst, val_main_v23, val_main_v24, val_main_v25, val_main_v26, val_main_v27, val_main_v28, val_main_v29, val_main_cst_0, val_main_v30, val_main_v31, val_main_v32, val_main_cst_1, val_main_v33, lamOf]

/-- A maximum over the indices that drop to one, from below everything, is real when the elements are. -/
theorem max_real {s t u : Shape} {axes : List (Fin s.rank)} (x : FVec Ideal s .f32) (init : FVec Ideal u .f32)
    (h : s.ReducesTo axes t) (hu : 0 < u.numel) (j : t.Idx) (hi : ∀ i, init i = (⊥ : EReal))
    (k : s.Idx) (hk : h.drop k = j) (hx : ∀ i, IsReal (x i)) : IsReal (Host.reduce (FloatOps.maximumf (F := Ideal) (φ := .f32)) x init h hu j) := by
  have e : Host.reduce (FloatOps.maximumf (F := Ideal) (φ := .f32)) x init h hu j = _ := Host.reduce_eq_fold (max : EReal → EReal → EReal) x init h hu j
  rw [e, hi]
  exact IsReal.fold _ (fun k => hx _) _ ⟨k, Finset.mem_filter.mpr ⟨Finset.mem_univ _, hk⟩⟩

theorem negInf : Ideal.ofBits FTy.f32 0xFF800000#32 = ⊥ := by
  simp [Ideal.ofBits, Ideal.ieee]

/-- Every row has a key. -/
theorem row_key (b : Fin 2) (h : Fin 4) (q : Fin 4096) : (reducesTo_S2x4x4096x4352_S2x4x4096_d3).drop (ix4 b h q (0 : Fin 4352)) = ix3 b h q := by
  funext a
  fin_cases a <;> rfl

/-- A row's weights before they are normalised: any scores, any array in the place of the row maxima. -/
theorem shifted_at (s : FVec Ideal S2x4x4096x4352 .f32) (M : FVec Ideal S2x4x4096 .f32) (b : Fin 2) (h : Fin 4) (q : Fin 4096) (k : Fin 4352) :
    Host.exp (subf s (broadcastInDim S2x4x4096x4352 ![0, 1, 2, 3] bcast_S2x4x4096x1_S2x4x4096x4352_0_1_2_3
        (broadcastInDim S2x4x4096x1 ![0, 1, 2] bcast_S2x4x4096_S2x4x4096x1_0_1_2
          (maximumf (broadcastInDim S2x4x4096 ![] bcast_S_S2x4x4096 (constant (F := Ideal) S_ .f32 0xFF800000#32)) M)))) (ix4 b h q k)
      = Ideal.exp (s (ix4 b h q k) - max (Ideal.ofBits FTy.f32 0xFF800000#32) (M (ix3 b h q))) := by
  pointwise []

/-- the first half's row maximum, a real number, -/
theorem v44_real (hs : ∀ i, IsReal (val_main_v38 (F := Ideal) x0 x1 x3 i)) (b : Fin 2) (h : Fin 4) (q : Fin 4096) :
    IsReal (val_main_v44 (F := Ideal) x0 x1 x3 (ix3 b h q)) := by
  unfold val_main_v44
  exact max_real _ _ _ _ _ (fun i => (val_main_cst_4_apply i).trans negInf) _ (row_key b h q) hs

/-- the first half's weights before they are normalised, -/
theorem v50_at (b : Fin 2) (h : Fin 4) (q : Fin 4096) (k : Fin 4352) :
    val_main_v50 (F := Ideal) x0 x1 x3 (ix4 b h q k)
      = Ideal.exp (val_main_v38 (F := Ideal) x0 x1 x3 (ix4 b h q k) - max (Ideal.ofBits FTy.f32 0xFF800000#32) (val_main_v44 (F := Ideal) x0 x1 x3 (ix3 b h q))) := by
  unfold val_main_v50 val_main_v49 val_main_v48 val_main_v47 val_main_v46 val_main_v45 val_main_cst_5
  exact shifted_at _ _ b h q k

/-- the second half's row maximum, a real number, -/
theorem v55_real (hs : ∀ i, IsReal (val_main_v43 (F := Ideal) x0 x1 x3 i)) (b : Fin 2) (h : Fin 4) (q : Fin 4096) :
    IsReal (val_main_v55 (F := Ideal) x0 x1 x3 (ix3 b h q)) := by
  unfold val_main_v55
  exact max_real _ _ _ _ _ (fun i => (val_main_cst_7_apply i).trans negInf) _ (row_key b h q) hs

/-- the second half's weights before they are normalised, -/
theorem v61_at (b : Fin 2) (h : Fin 4) (q : Fin 4096) (k : Fin 4352) :
    val_main_v61 (F := Ideal) x0 x1 x3 (ix4 b h q k)
      = Ideal.exp (val_main_v43 (F := Ideal) x0 x1 x3 (ix4 b h q k) - max (Ideal.ofBits FTy.f32 0xFF800000#32) (val_main_v55 (F := Ideal) x0 x1 x3 (ix3 b h q))) := by
  unfold val_main_v61 val_main_v60 val_main_v59 val_main_v58 val_main_v57 val_main_v56 val_main_cst_8
  exact shifted_at _ _ b h q k

/-- the first half's weights, -/
theorem v54_at (b : Fin 2) (h : Fin 4) (q : Fin 4096) (k : Fin 4352) :
    val_main_v54 (F := Ideal) x0 x1 x3 (ix4 b h q k)
      = Ideal.div (val_main_v50 (F := Ideal) x0 x1 x3 (ix4 b h q k)) (∑ x : Fin 4352, val_main_v50 (F := Ideal) x0 x1 x3 (ix4 b h q x)) := by
  pointwise [val_main_cst_6, val_main_v51, val_main_v52, val_main_v53, val_main_v54]

/-- the second half's weights, -/
theorem v65_at (b : Fin 2) (h : Fin 4) (q : Fin 4096) (k : Fin 4352) :
    val_main_v65 (F := Ideal) x0 x1 x3 (ix4 b h q k)
      = Ideal.div (val_main_v61 (F := Ideal) x0 x1 x3 (ix4 b h q k)) (∑ x : Fin 4352, val_main_v61 (F := Ideal) x0 x1 x3 (ix4 b h q x)) := by
  pointwise [val_main_cst_9, val_main_v62, val_main_v63, val_main_v64, val_main_v65]

/-- the head's mixed means, -/
theorem v69_at (b : Fin 2) (h : Fin 4) (q : Fin 4096) (d : Fin 64) :
    val_main_v69 (F := Ideal) x0 x1 x2 x3 x4 x6 (ix4 b h q d)
      = ∑ x : Fin 4352, (val_main_v54 (F := Ideal) x0 x1 x3 (ix4 b h q x) - val_main_v33 (F := Ideal) x6 ix0 * val_main_v65 (F := Ideal) x0 x1 x3 (ix4 b h q x))
        * val_main_v17 (F := Ideal) x2 x4 (ix4 b h x d) := by
  pointwise [val_main_v66, val_main_v67, val_main_v68, val_main_v69]

/-- and the result. -/
theorem v86_at (r : Fin 8192) (c : Fin 256) :
    val_main_v86 (F := Ideal) x0 x1 x2 x3 x4 x5 x6 (ix2 r c)
      = val_main_v69 (F := Ideal) x0 x1 x2 x3 x4 x6 (ix4 ⟨r.val / 4096, by omega⟩ ⟨c.val / 64, by omega⟩ ⟨r.val % 4096, by omega⟩ ⟨c.val % 64, by omega⟩)
          * Ideal.rsqrt (Ideal.div (∑ x : Fin 64, val_main_v69 (F := Ideal) x0 x1 x2 x3 x4 x6 (ix4 ⟨r.val / 4096, by omega⟩ ⟨c.val / 64, by omega⟩ ⟨r.val % 4096, by omega⟩ x)
              * val_main_v69 (F := Ideal) x0 x1 x2 x3 x4 x6 (ix4 ⟨r.val / 4096, by omega⟩ ⟨c.val / 64, by omega⟩ ⟨r.val % 4096, by omega⟩ x))
            (Ideal.ofBits FTy.f32 0x42800000#32) + Ideal.ofBits FTy.f32 0x358637BD#32)
        * x5 (ix1 ⟨c.val % 64, by omega⟩) * Ideal.ofBits FTy.f32 0x3F4CCCCD#32 := by
  pointwise [val_main_v70, val_main_cst_10, val_main_v71, val_main_v72, val_main_cst_11, val_main_v73, val_main_v74, val_main_cst_12, val_main_v75, val_main_v76, val_main_v77, val_main_v78, val_main_v79, val_main_v80, val_main_v81, val_main_v82, val_main_cst_13, val_main_v83, val_main_v84, val_main_v85, val_main_v86]

end Cert.DiffRefIdeal.Rows

end
-- ==== Proof.DiffRefReal.lean ====
/- The differential attention's reference over real arguments. -/
module

public import proofs.«01_k».proof.Proof.DiffRefValue
public import proofs.«01_k».proof.Proof.DiffOutcome

@[expose] public section

set_option maxRecDepth 16384

noncomputable section

open Idealize.ShloMosaic Idealize.ShloMosaic.TcCoe Idealize.SL.Sem

namespace Cert.DiffRefIdeal.Rows

open Cert.DiffRefIdeal Cert.DiffRefIdeal.Gen Cert.DiffRefIdeal.Read Cert.DiffAttn
open Cert.DiffIdeal.Rows (coe_sum IsReal)

/-- Two runs of keys in one. -/
theorem sum_joined (f : Fin 4352 → ℝ) : ∑ k, f k = ∑ k : Fin 4096, f ⟨k.val, by omega⟩ + ∑ k : Fin 256, f ⟨4096 + k.val, by omega⟩ :=
  Fin.sum_univ_add (a := 4096) (b := 256) f

/-- The mean over the joined keys. -/
theorem mean_joined (T w : Fin 4352 → ℝ) (s : Fin 4096 → ℝ) (sc : Fin 256 → ℝ) (v : Fin 4096 → ℝ) (vc : Fin 256 → ℝ)
    (hs : ∀ k : Fin 4096, T ⟨k.val, by omega⟩ = s k) (hsc : ∀ k : Fin 256, T ⟨4096 + k.val, by omega⟩ = sc k)
    (hv : ∀ k : Fin 4096, w ⟨k.val, by omega⟩ = v k) (hvc : ∀ k : Fin 256, w ⟨4096 + k.val, by omega⟩ = vc k) :
    ∑ k, Real.exp (scale * T k) / (∑ x, Real.exp (scale * T x)) * w k = mean s sc v vc := by
  unfold mean
  rw [← Finset.sum_congr rfl fun k _ => (div_mul_eq_mul_div (Real.exp (scale * T k)) (∑ x, Real.exp (scale * T x)) (w k)).symm, ← Finset.sum_div, sum_joined, sum_joined]
  simp only [hs, hsc, hv, hvc]

/-- A softmax weight of real scores: the shift drops out. -/
theorem softmax_coe {n : ℕ} (s : Fin n → ℝ) (μ : ℝ) (k : Fin n) :
    Ideal.div (Ideal.exp ((s k : EReal) - (μ : EReal))) (∑ x, Ideal.exp ((s x : EReal) - (μ : EReal))) = ((Real.exp (s k) / ∑ x, Real.exp (s x) : ℝ) : EReal) := by
  have e : ∀ x, Ideal.exp ((s x : EReal) - (μ : EReal)) = ((Real.exp (s x) * Real.exp (-μ) : ℝ) : EReal) := fun x => by
    rw [← EReal.coe_sub, Ideal.exp_coe, sub_eq_add_neg, Real.exp_add]
  have hp : 0 < ∑ x, Real.exp (s x) * Real.exp (-μ) := Finset.sum_pos (fun x _ => mul_pos (Real.exp_pos _) (Real.exp_pos _)) ⟨k, Finset.mem_univ _⟩
  simp only [e]
  rw [← coe_sum, div_coe _ _ hp.ne', ← Finset.sum_mul, mul_div_mul_right _ _ (Real.exp_pos _).ne']

/-- A weight with its shift as the reference has it. -/
theorem shift_of (f g : Fin 4352 → EReal) (M : EReal) (s : Fin 4352 → ℝ) (hM : IsReal M) (hf : ∀ k, f k = (s k : EReal))
    (hg : ∀ k, g k = Ideal.exp (f k - max (Ideal.ofBits FTy.f32 0xFF800000#32) M)) (k : Fin 4352) :
    Ideal.div (g k) (∑ x, g x) = ((Real.exp (s k) / ∑ x, Real.exp (s x) : ℝ) : EReal) := by
  obtain ⟨μ, rfl⟩ := hM
  have e : ∀ k, g k = Ideal.exp ((s k : EReal) - (μ : EReal)) := fun k => by rw [hg, hf, negInf, max_eq_right bot_le]
  simp only [e]
  exact softmax_coe s μ k

variable (x0 x1 x2 : (⟨S8192x256, .bf16⟩ : BufTy).Contents (Elt Ideal)) (x3 x4 : (⟨S2x4x256x64, .f32⟩ : BufTy).Contents (Elt Ideal)) (x5 : (⟨S64, .f32⟩ : BufTy).Contents (Elt Ideal)) (x6 : (⟨S4x32, .f32⟩ : BufTy).Contents (Elt Ideal))
variable {q k v : Fin 8192 → Fin 256 → ℝ} {ck cv : Fin 2 → Fin 4 → Fin 256 → Fin 64 → ℝ} {lam : ℝ}
variable (H : RealArgs (fun r l => x0 (ix2 r l)) (fun r l => x1 (ix2 r l)) (fun r l => x2 (ix2 r l)) (fun b h x l => x3 (ix4 b h x l)) (fun b h x l => x4 (ix4 b h x l)) (fun s x => x6 (ix2 s x)) q k v ck cv lam)

/-- A score of the joined keys, of the `n`-th 32 lanes. -/
def joinedDot (q k : Fin 8192 → Fin 256 → ℝ) (ck : Fin 2 → Fin 4 → Fin 256 → Fin 64 → ℝ) (b : Fin 2) (r : Fin 4096) (n : Fin 8) (x : Fin 4352) : ℝ :=
  if h : x.val < 4096 then dot32 (q ⟨b.val * 4096 + r.val, by omega⟩) (k ⟨b.val * 4096 + x.val, by omega⟩) n
  else dot32 (q ⟨b.val * 4096 + r.val, by omega⟩) (fun l => ck b ⟨l.val / 64, by omega⟩ ⟨x.val - 4096, by omega⟩ ⟨l.val % 64, by omega⟩) n

include H in
/-- A scaled score of real arguments: `o` the first lane of the half within its head. -/
theorem score_coe (b : Fin 2) (h : Fin 4) (r : Fin 4096) (x : Fin 4352) (s : Fin 2) :
    (∑ y : Fin 32, x0 (ix2 ⟨b.val * 4096 + r.val, by omega⟩ ⟨h.val * 64 + 32 * s.val + y.val, by omega⟩)
          * (if h1 : x.val < 4096 then x1 (ix2 ⟨b.val * 4096 + x.val, by omega⟩ ⟨h.val * 64 + 32 * s.val + y.val, by omega⟩) else x3 (ix4 b h ⟨x.val - 4096, by omega⟩ ⟨32 * s.val + y.val, by omega⟩)))
        * Ideal.ofBits FTy.f32 0x3E3504F3#32
      = ((scale * joinedDot q k ck b r ⟨2 * h.val + s.val, by omega⟩ x : ℝ) : EReal) := by
  have hl : ∀ y : Fin 32, (⟨h.val * 64 + 32 * s.val + y.val, by omega⟩ : Fin 256) = ⟨32 * (2 * h.val + s.val) + y.val, by omega⟩ := fun y => Fin.ext (by dsimp only; omega)
  unfold joinedDot dot32
  split_ifs with h1
  · have e : ∀ y : Fin 32, x0 (ix2 ⟨b.val * 4096 + r.val, by omega⟩ ⟨h.val * 64 + 32 * s.val + y.val, by omega⟩) * x1 (ix2 ⟨b.val * 4096 + x.val, by omega⟩ ⟨h.val * 64 + 32 * s.val + y.val, by omega⟩)
        = ((q ⟨b.val * 4096 + r.val, by omega⟩ ⟨32 * (2 * h.val + s.val) + y.val, by omega⟩ : ℝ) : EReal) * ((k ⟨b.val * 4096 + x.val, by omega⟩ ⟨32 * (2 * h.val + s.val) + y.val, by omega⟩ : ℝ) : EReal) := fun y => by
      rw [hl]; exact congrArg₂ (· * ·) (H.hq _ _) (H.hk _ _)
    rw [Finset.sum_congr rfl fun y _ => e y, sum_mul_coe, ofBits_scale, ← EReal.coe_mul, mul_comm]
  · have e : ∀ y : Fin 32, x0 (ix2 ⟨b.val * 4096 + r.val, by omega⟩ ⟨h.val * 64 + 32 * s.val + y.val, by omega⟩) * x3 (ix4 b h ⟨x.val - 4096, by omega⟩ ⟨32 * s.val + y.val, by omega⟩)
        = ((q ⟨b.val * 4096 + r.val, by omega⟩ ⟨32 * (2 * h.val + s.val) + y.val, by omega⟩ : ℝ) : EReal)
          * ((ck b ⟨(32 * (2 * h.val + s.val) + y.val) / 64, by omega⟩ ⟨x.val - 4096, by omega⟩ ⟨(32 * (2 * h.val + s.val) + y.val) % 64, by omega⟩ : ℝ) : EReal) := fun y => by
      rw [hl]
      refine congrArg₂ (· * ·) (H.hq _ _) ((H.hck _ _ _ _).trans ?_)
      have e1 : h = ⟨(32 * (2 * h.val + s.val) + y.val) / 64, by omega⟩ := Fin.ext (by dsimp only; omega)
      have e2 : (⟨32 * s.val + y.val, by omega⟩ : Fin 64) = ⟨(32 * (2 * h.val + s.val) + y.val) % 64, by omega⟩ := Fin.ext (by dsimp only; omega)
      rw [← e1, ← e2]
    rw [Finset.sum_congr rfl fun y _ => e y, sum_mul_coe, ofBits_scale, ← EReal.coe_mul, mul_comm]

include H in
theorem v38_coe (b : Fin 2) (h : Fin 4) (r : Fin 4096) (x : Fin 4352) :
    val_main_v38 (F := Ideal) x0 x1 x3 (ix4 b h r x) = ((scale * joinedDot q k ck b r ⟨2 * h.val, by omega⟩ x : ℝ) : EReal) := by
  refine (v38_at x0 x1 x3 b h r x).trans (Eq.trans ?_ (score_coe x0 x1 x2 x3 x4 x6 H b h r x 0))
  refine congrArg (· * _) (Finset.sum_congr rfl fun y _ => ?_)
  have e1 : (⟨h.val * 64 + y.val, by omega⟩ : Fin 256) = ⟨h.val * 64 + 32 * (0 : Fin 2).val + y.val, by omega⟩ := Fin.ext (by simp)
  have e2 : (⟨y.val, by omega⟩ : Fin 64) = ⟨32 * (0 : Fin 2).val + y.val, by omega⟩ := Fin.ext (by simp)
  rw [e1, e2]

include H in
theorem v43_coe (b : Fin 2) (h : Fin 4) (r : Fin 4096) (x : Fin 4352) :
    val_main_v43 (F := Ideal) x0 x1 x3 (ix4 b h r x) = ((scale * joinedDot q k ck b r ⟨2 * h.val + 1, by omega⟩ x : ℝ) : EReal) :=
  (v43_at x0 x1 x3 b h r x).trans (score_coe x0 x1 x2 x3 x4 x6 H b h r x 1)

include H in
theorem v54_coe (b : Fin 2) (h : Fin 4) (r : Fin 4096) (x : Fin 4352) :
    val_main_v54 (F := Ideal) x0 x1 x3 (ix4 b h r x)
      = ((Real.exp (scale * joinedDot q k ck b r ⟨2 * h.val, by omega⟩ x) / ∑ y, Real.exp (scale * joinedDot q k ck b r ⟨2 * h.val, by omega⟩ y) : ℝ) : EReal) := by
  refine (v54_at x0 x1 x3 b h r x).trans (shift_of (fun x => val_main_v38 (F := Ideal) x0 x1 x3 (ix4 b h r x)) (fun x => val_main_v50 (F := Ideal) x0 x1 x3 (ix4 b h r x))
    (val_main_v44 (F := Ideal) x0 x1 x3 (ix3 b h r)) (fun x => scale * joinedDot q k ck b r ⟨2 * h.val, by omega⟩ x) ?_ (v38_coe x0 x1 x2 x3 x4 x6 H b h r) (v50_at x0 x1 x3 b h r) x)
  refine v44_real x0 x1 x3 (fun i => ?_) b h r
  obtain ⟨a, b, c, d, rfl⟩ : ∃ a b c d, i = ix4 a b c d := ⟨i 0, i 1, i 2, i 3, eq_ix4 i⟩
  exact ⟨_, v38_coe x0 x1 x2 x3 x4 x6 H a b c d⟩

include H in
theorem v65_coe (b : Fin 2) (h : Fin 4) (r : Fin 4096) (x : Fin 4352) :
    val_main_v65 (F := Ideal) x0 x1 x3 (ix4 b h r x)
      = ((Real.exp (scale * joinedDot q k ck b r ⟨2 * h.val + 1, by omega⟩ x) / ∑ y, Real.exp (scale * joinedDot q k ck b r ⟨2 * h.val + 1, by omega⟩ y) : ℝ) : EReal) := by
  refine (v65_at x0 x1 x3 b h r x).trans (shift_of (fun x => val_main_v43 (F := Ideal) x0 x1 x3 (ix4 b h r x)) (fun x => val_main_v61 (F := Ideal) x0 x1 x3 (ix4 b h r x))
    (val_main_v55 (F := Ideal) x0 x1 x3 (ix3 b h r)) (fun x => scale * joinedDot q k ck b r ⟨2 * h.val + 1, by omega⟩ x) ?_ (v43_coe x0 x1 x2 x3 x4 x6 H b h r) (v61_at x0 x1 x3 b h r) x)
  refine v55_real x0 x1 x3 (fun i => ?_) b h r
  obtain ⟨a, b, c, d, rfl⟩ : ∃ a b c d, i = ix4 a b c d := ⟨i 0, i 1, i 2, i 3, eq_ix4 i⟩
  exact ⟨_, v43_coe x0 x1 x2 x3 x4 x6 H a b c d⟩

/-- A joined value at a lane. -/
def joinedVal (v : Fin 8192 → Fin 256 → ℝ) (cv : Fin 2 → Fin 4 → Fin 256 → Fin 64 → ℝ) (b : Fin 2) (l : Fin 256) (x : Fin 4352) : ℝ :=
  if h : x.val < 4096 then v ⟨b.val * 4096 + x.val, by omega⟩ l else cv b ⟨l.val / 64, by omega⟩ ⟨x.val - 4096, by omega⟩ ⟨l.val % 64, by omega⟩

include H in
theorem v17_coe (b : Fin 2) (h : Fin 4) (x : Fin 4352) (d : Fin 64) :
    val_main_v17 (F := Ideal) x2 x4 (ix4 b h x d) = ((joinedVal v cv b ⟨h.val * 64 + d.val, by omega⟩ x : ℝ) : EReal) := by
  refine (v17_at x2 x4 b h x d).trans ?_
  unfold joinedVal
  split_ifs with h1
  · exact H.hv _ _
  · refine (H.hcv _ _ _ _).trans ?_
    have e1 : h = ⟨(h.val * 64 + d.val) / 64, by omega⟩ := Fin.ext (by dsimp only; omega)
    have e2 : d = ⟨(h.val * 64 + d.val) % 64, by omega⟩ := Fin.ext (by dsimp only; omega)
    dsimp only
    rw [← e1, ← e2]

/-- The mean over the joined keys and values is the mean of the fresh and the cached ones. -/
theorem mean_at (b : Fin 2) (r : Fin 4096) (n : Fin 8) (l : Fin 256) :
    ∑ x, Real.exp (scale * joinedDot q k ck b r n x) / (∑ y, Real.exp (scale * joinedDot q k ck b r n y)) * joinedVal v cv b l x
      = meanAt (q ⟨b.val * 4096 + r.val, by omega⟩) (fun x => k ⟨b.val * 4096 + x.val, by omega⟩) (fun x l => ck b ⟨l.val / 64, by omega⟩ x ⟨l.val % 64, by omega⟩)
        (fun x => v ⟨b.val * 4096 + x.val, by omega⟩) (fun x l => cv b ⟨l.val / 64, by omega⟩ x ⟨l.val % 64, by omega⟩) n l := by
  have hx : ∀ x : Fin 256, ¬ 4096 + x.val < 4096 := fun x => by omega
  have hs : ∀ x : Fin 256, (⟨4096 + x.val - 4096, by omega⟩ : Fin 256) = x := fun x => Fin.ext (by dsimp only; omega)
  refine mean_joined _ _ _ _ _ _ (fun x => ?_) (fun x => ?_) (fun x => ?_) (fun x => ?_)
  · unfold joinedDot; rw [dif_pos x.isLt]
  · unfold joinedDot; rw [dif_neg (hx x)]; simp only [hs]
  · unfold joinedVal; rw [dif_pos x.isLt]
  · unfold joinedVal; rw [dif_neg (hx x)]; simp only [hs]

include H in
/-- The head's mixed means of real arguments. -/
theorem v69_coe (b : Fin 2) (h : Fin 4) (r : Fin 4096) (d : Fin 64) :
    val_main_v69 (F := Ideal) x0 x1 x2 x3 x4 x6 (ix4 b h r d)
      = ((mixed (q ⟨b.val * 4096 + r.val, by omega⟩) (fun x => k ⟨b.val * 4096 + x.val, by omega⟩) (fun x l => ck b ⟨l.val / 64, by omega⟩ x ⟨l.val % 64, by omega⟩)
        (fun x => v ⟨b.val * 4096 + x.val, by omega⟩) (fun x l => cv b ⟨l.val / 64, by omega⟩ x ⟨l.val % 64, by omega⟩) lam ⟨h.val * 64 + d.val, by omega⟩ : ℝ) : EReal) := by
  have e : val_main_v33 (F := Ideal) x6 ix0 = (lam : EReal) := (v33_at x6).trans H.hlam
  refine (v69_at x0 x1 x2 x3 x4 x6 b h r d).trans ?_
  have t : ∀ x : Fin 4352, (val_main_v54 (F := Ideal) x0 x1 x3 (ix4 b h r x) - val_main_v33 (F := Ideal) x6 ix0 * val_main_v65 (F := Ideal) x0 x1 x3 (ix4 b h r x))
        * val_main_v17 (F := Ideal) x2 x4 (ix4 b h x d)
      = (((Real.exp (scale * joinedDot q k ck b r ⟨2 * h.val, by omega⟩ x) / ∑ y, Real.exp (scale * joinedDot q k ck b r ⟨2 * h.val, by omega⟩ y))
          * joinedVal v cv b ⟨h.val * 64 + d.val, by omega⟩ x
          - lam * ((Real.exp (scale * joinedDot q k ck b r ⟨2 * h.val + 1, by omega⟩ x) / ∑ y, Real.exp (scale * joinedDot q k ck b r ⟨2 * h.val + 1, by omega⟩ y))
            * joinedVal v cv b ⟨h.val * 64 + d.val, by omega⟩ x) : ℝ) : EReal) := fun x => by
    rw [e, v54_coe x0 x1 x2 x3 x4 x6 H, v65_coe x0 x1 x2 x3 x4 x6 H, v17_coe x0 x1 x2 x3 x4 x6 H, ← EReal.coe_mul, ← EReal.coe_sub, ← EReal.coe_mul]
    exact congrArg _ (by ring)
  rw [Finset.sum_congr rfl fun x _ => t x, ← coe_sum, Finset.sum_sub_distrib, ← Finset.mul_sum, mean_at, mean_at]
  unfold mixed
  have e1 : (⟨2 * h.val, by omega⟩ : Fin 8) = ⟨2 * ((h.val * 64 + d.val) / 64), by omega⟩ := Fin.ext (by dsimp only; omega)
  have e2 : (⟨2 * h.val + 1, by omega⟩ : Fin 8) = ⟨2 * ((h.val * 64 + d.val) / 64) + 1, by omega⟩ := Fin.ext (by dsimp only; omega)
  rw [e1, e2]

include H in
/-- The reference's result at a token and a lane, of real arguments. -/
theorem ref_at (r : Fin 8192) (d : Fin 256) :
    val_main_v86 (F := Ideal) x0 x1 x2 x3 x4 x5 x6 (ix2 r d) = outcome q k v ck cv lam r d (x5 (ix1 ⟨d.val % 64, by omega⟩)) := by
  refine (v86_at x0 x1 x2 x3 x4 x5 x6 r d).trans ?_
  have er : (⟨r.val / 4096 * 4096 + r.val % 4096, by omega⟩ : Fin 8192) = r := Fin.ext (by dsimp only; omega)
  have ed : (⟨d.val / 64 * 64 + d.val % 64, by omega⟩ : Fin 256) = d := Fin.ext (by dsimp only; omega)
  have o : ∀ x : Fin 64, val_main_v69 (F := Ideal) x0 x1 x2 x3 x4 x6 (ix4 ⟨r.val / 4096, by omega⟩ ⟨d.val / 64, by omega⟩ ⟨r.val % 4096, by omega⟩ x) = _ :=
    fun x => v69_coe x0 x1 x2 x3 x4 x6 H _ _ _ x
  simp only [o, er, ed]
  rw [sum_mul_coe, div_64]
  rfl

end Cert.DiffRefIdeal.Rows

end
-- ==== Proof.DiffClaim.lean ====
/- The differential attention's value claim: over real arguments the launch leaves the array that the reference's term is. -/
module

public import proofs.«01_k».proof.Defs
public import proofs.«01_k».proof.Proof.DiffFinite
public import proofs.«01_k».proof.Proof.DiffValue
public import proofs.«01_k».proof.Proof.DiffRefReal
public import proofs.«01_k».proof.Proof.Gen.DiffRefIdeal.Run

@[expose] public section

noncomputable section

open Idealize.ShloMosaic Idealize.SL.Sem

namespace Cert.DiffAttn

open Cert.DiffIdeal.Rows (RealMem)

/-- The real numbers that admitted arguments are, on one device. -/
theorem realMem_of (m : (ℓ : Loc Cert.DiffIdeal.nD Cert.DiffIdeal.τ Cert.DiffIdeal.sig) → Buf (Elt Ideal) ℓ) (hp : Cert.Pre_DiffIdeal_diff_finite m) (c : Dev Cert.DiffIdeal.nD) :
    ∃ q k v ck cv lam, RealMem m c q k v ck cv lam := by
  obtain ⟨h0, h1, h2, h3, h4, h6⟩ := Cert.Pre_diff_finite.Rows.real_args _ _ _ _ _ _ _ (hp c)
  choose q hq using h0
  choose k hk using h1
  choose v hv using h2
  choose ck hck using h3
  choose cv hcv using h4
  obtain ⟨lam, hlam⟩ := lamOf_real (fun x => h6 (ix2 0 x)) (fun x => h6 (ix2 1 x)) (fun x => h6 (ix2 2 x)) (fun x => h6 (ix2 3 x))
  exact ⟨fun r l => q (ix2 r l), fun r l => k (ix2 r l), fun r l => v (ix2 r l), fun b h x l => ck (ix4 b h x l), fun b h x l => cv (ix4 b h x l), lam,
    fun r l => hq _, fun r l => hk _, fun r l => hv _, fun b h x l => hck _, fun b h x l => hcv _, hlam⟩

/-- The differential attention and its reference, from the same finite arguments, end with the same array. -/
theorem diff_claim : Cert.algebraic_DiffIdeal_DiffRefIdeal_pre_diff_finite := by
  intro m g m' g' hp hm
  choose q k v ck cv lam H using realMem_of m hp
  refine ⟨fun c => Cert.DiffIdeal.Rows.value m (q c) (k c) (v c) (ck c) (cv c) (lam c) c, ?_, ?_⟩
  · refine (θ_run _ _ _).mono (fun r h c => ?_) (θ_run_and (Cert.DiffIdeal.Gen.frame_of m g (Cert.DiffIdeal.Body.dats m) (Cert.DiffIdeal.Body.A_eq m) (Cert.DiffIdeal.Body.run m g)) (Cert.DiffIdeal.Body.run m g))
    exact ⟨((h.2 c).1 7).trans (Cert.DiffIdeal.Rows.array_eq m c (H c)), h.1 c⟩
  · refine (θ_run _ _ _).mono (fun r h c => ?_) (Cert.DiffRefIdeal.Value.run m' g')
    obtain ⟨h0, h1, h2, h3, h4, h5, h6⟩ := hm c
    refine ⟨(h c).1.trans ?_, (h c).2⟩
    refine (Cert.DiffRefIdeal.Read.val_main_v86_eq m' c).trans ?_
    rw [h0, h1, h2, h3, h4, h5, h6]
    funext i
    obtain ⟨a, b, rfl⟩ : ∃ a b, i = ix2 a b := ⟨i 0, i 1, eq_ix2 i⟩
    exact Cert.DiffRefIdeal.Rows.ref_at _ _ _ _ _ _ _ (H c) a b

end Cert.DiffAttn

end
-- ==== Proof.CtxNorm.lean ====
/- The context attention's normalised blocks over real numbers: every lane divided by the root mean square of its group. -/
module

public import proofs.«01_k».proof.Proof.DiffOut
public import proofs.«01_k».proof.Proof.Gen.CtxIdeal.Frame

@[expose] public section

set_option maxRecDepth 16384

noncomputable section

open Idealize.ShloMosaic Idealize.ShloMosaic.TcCoe Idealize.SL.Sem

namespace Cert.CtxAttn

/-- A lane of a row, divided by the root mean square of the lane's 64 and multiplied by a gain. -/
def norm64 (x : Fin 256 → ℝ) (l : Fin 256) (g : EReal) : EReal :=
  (x l : EReal) * Ideal.rsqrt (((∑ j : Fin 64, x ⟨l.val / 64 * 64 + j.val, by omega⟩ * x ⟨l.val / 64 * 64 + j.val, by omega⟩ : ℝ) : EReal) * Ideal.ofBits FTy.f32 0x3C800000#32
    + Ideal.ofBits FTy.f32 0x358637BD#32) * g

/-- The same over the lane's 32. -/
def norm32 (x : Fin 256 → ℝ) (l : Fin 256) (g : EReal) : EReal :=
  (x l : EReal) * Ideal.rsqrt (((∑ j : Fin 32, x ⟨32 * (l.val / 32) + j.val, by omega⟩ * x ⟨32 * (l.val / 32) + j.val, by omega⟩ : ℝ) : EReal) * Ideal.ofBits FTy.f32 0x3D000000#32
    + Ideal.ofBits FTy.f32 0x358637BD#32) * g

/-- A state: a sequence's keys first and its values second, a head's 64 lanes together, of rows of all tokens. -/
def stateAt (keys vals : Fin 8192 → Fin 256 → EReal) (b : Fin 32) (s : Fin 2) (h : Fin 4) (r : Fin 256) (d : Fin 64) : EReal :=
  if s.val = 0 then keys ⟨b.val * 256 + r.val, by omega⟩ ⟨64 * h.val + d.val, by omega⟩ else vals ⟨b.val * 256 + r.val, by omega⟩ ⟨64 * h.val + d.val, by omega⟩

/-- The keys of the context tokens are these real numbers. -/
structure RealKeys (a : Fin 16384 → Fin 2560 → EReal) (k k' : Fin 8192 → Fin 256 → ℝ) : Prop where
  hk : ∀ r l, a ⟨r.val, by omega⟩ ⟨768 + l.val, by omega⟩ = (k r l : EReal)
  hk' : ∀ r l, a ⟨r.val, by omega⟩ ⟨1536 + l.val, by omega⟩ = (k' r l : EReal)

end Cert.CtxAttn

namespace Cert.CtxIdeal.Rows

open Cert.CtxIdeal Cert.CtxIdeal.Gen Cert.CtxAttn
open Cert.DiffIdeal.Rows (coe_sum sum_head sum_group)

/-- Whether two lanes are of the same `w`, as a number. -/
abbrev same (w : ℕ) (k l : Fin 256) : ℝ := if k.val / w = l.val / w then 1 else 0

/-- The body's quotient of a lane by 64 or by 32. -/
theorem quot64 : ∀ k : Fin 256, (Scalar.select
      (IntOp.andi
        (IntOp.cmpi CmpIPredicate.ne
          (IntOp.subi (BitVec.setWidth 32 (IntOp.cmpi CmpIPredicate.sgt (BitVec.ofNat 32 k.val) 0#32)) (BitVec.setWidth 32 (IntOp.cmpi CmpIPredicate.slt (BitVec.ofNat 32 k.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32)) = BitVec.ofNat 32 (k.val / 64) := by decide +kernel

theorem quot32 : ∀ k : Fin 256, (Scalar.select
      (IntOp.andi
        (IntOp.cmpi CmpIPredicate.ne
          (IntOp.subi (BitVec.setWidth 32 (IntOp.cmpi CmpIPredicate.sgt (BitVec.ofNat 32 k.val) 0#32)) (BitVec.setWidth 32 (IntOp.cmpi CmpIPredicate.slt (BitVec.ofNat 32 k.val) 0#32)))
          (Scalar.subi (Scalar.extui (Scalar.cmpi CmpIPredicate.sgt 32#32 0#32)) (Scalar.extui (Scalar.cmpi CmpIPredicate.slt 32#32 0#32))))
        (IntOp.cmpi CmpIPredicate.ne (IntOp.remsi ArithUnit.vector (BitVec.ofNat 32 k.val) 32#32) 0#32))
      (IntOp.subi (IntOp.divsi ArithUnit.vector (BitVec.ofNat 32 k.val) 32#32) 1#32)
      (IntOp.divsi ArithUnit.vector (BitVec.ofNat 32 k.val) 32#32)) = BitVec.ofNat 32 (k.val / 32) := by decide +kernel

/-- Two small numbers compared, as a number. -/
theorem compared (a b : ℕ) (ha : a < 8) (hb : b < 8) :
    FloatOps.sitofp (F := Ideal) FTy.f32 (BitVec.setWidth 32 (IntOp.cmpi .eq (BitVec.ofNat 32 a) (BitVec.ofNat 32 b))) = ((if a = b then (1 : ℝ) else 0 : ℝ) : EReal) := by
  have key : ∀ a b : Fin 8, IntOp.cmpi .eq (BitVec.ofNat 32 a.val) (BitVec.ofNat 32 b.val) = if a.val = b.val then 1#1 else 0#1 := by decide +kernel
  rw [key ⟨a, ha⟩ ⟨b, hb⟩]
  dsimp only
  split_ifs with h
  · have e : (BitVec.setWidth 32 1#1).toInt = 1 := by decide
    show ((((BitVec.setWidth 32 1#1).toInt : ℝ)) : EReal) = _
    rw [e]; norm_num
  · have e : (BitVec.setWidth 32 0#1).toInt = 0 := by decide
    show ((((BitVec.setWidth 32 0#1).toInt : ℝ)) : EReal) = _
    rw [e]; norm_num

/-- The matrix with a one where two lanes are of the same 64. -/
def ones64 : FVec Ideal S256x256 .bf16 :=
  k0_pay16 (F := Ideal) (iota .tc S256x256 32 [0] iota_S256x256_d0_w32) 64#32 k0_pay14 k0_pay15 (Scalar.extui (Scalar.cmpi .sgt 64#32 0#32)) 0#32

/-- The matrix with a one where two lanes are of the same 32. -/
def ones32 : FVec Ideal S256x256 .bf16 := k0_pay51 (F := Ideal) (iota .tc S256x256 32 [0] iota_S256x256_d0_w32) 32#32 k0_pay49 k0_pay50

theorem ones64_at (k l : Fin 256) : ones64 (ix2 k l) = (same 64 k l : EReal) := by
  unfold ones64
  pointwise [k0_pay16, k0_pay14, k0_pay15]
  rw [quot64 k, quot64 l]
  exact compared _ _ (by omega) (by omega)

theorem ones32_at (k l : Fin 256) : ones32 (ix2 k l) = (same 32 k l : EReal) := by
  unfold ones32
  pointwise [k0_pay51, k0_pay49, k0_pay50]
  rw [quot32 k, quot32 l]
  exact compared _ _ (by omega) (by omega)

/-- A sum of squares over weighted lanes, split as the body splits it: the second and the third part are nothing. -/
theorem split_sum (o w : Fin 256 → ℝ) :
    ∑ x, (o x : EReal) * (o x : EReal) * (w x : EReal)
      + ∑ x, ((o x : EReal) * (o x : EReal) - (o x : EReal) * (o x : EReal)) * (w x : EReal)
      + ∑ x, ((o x : EReal) * (o x : EReal) - (o x : EReal) * (o x : EReal) - ((o x : EReal) * (o x : EReal) - (o x : EReal) * (o x : EReal))) * (w x : EReal)
      = ((∑ x, o x * o x * w x : ℝ) : EReal) := by
  have z : ∀ a : ℝ, (a : EReal) * (a : EReal) - (a : EReal) * (a : EReal) = 0 := fun a => by
    rw [← EReal.coe_mul, ← EReal.coe_sub, sub_self, EReal.coe_zero]
  simp only [z, sub_zero, zero_mul, Finset.sum_const_zero, add_zero]
  rw [coe_sum]
  exact Finset.sum_congr rfl fun x _ => by rw [EReal.coe_mul, EReal.coe_mul]

/-- A block normalised over 64 lanes, as the body has it. -/
def normed64 (x : FVec Ideal S256x256 .f32) (g : FVec Ideal S1x256 .f32) : FVec Ideal S256x256 .f32 :=
  k0_pay22 x g ones64 (k0_pay19 (k0_pay13 x)) (k0_pay20 (k0_pay13 x))
    (k0_pay21 (k0_pay13 x) (iota .tc S256x256 32 [0] iota_S256x256_d0_w32) 64#32 k0_pay14 k0_pay15 (Scalar.extui (Scalar.cmpi .sgt 64#32 0#32)) 0#32)

/-- A block normalised over 32 lanes, as the body has it. -/
def normed32 (x : FVec Ideal S256x256 .f32) (g : FVec Ideal S1x256 .f32) : FVec Ideal S256x256 .f32 :=
  k0_pay57 x g (k0_pay55 (k0_pay48 x) (iota .tc S256x256 32 [0] iota_S256x256_d0_w32) 32#32 k0_pay49 k0_pay50)
    (k0_pay56 (k0_pay48 x) (iota .tc S256x256 32 [0] iota_S256x256_d0_w32) 32#32 k0_pay49 k0_pay50)

theorem normed64_at (x : FVec Ideal S256x256 .f32) (g : FVec Ideal S1x256 .f32) (o : Fin 256 → Fin 256 → ℝ) (hx : ∀ y l, x (ix2 y l) = (o y l : EReal)) (y l : Fin 256) :
    normed64 x g (ix2 y l) = norm64 (o y) l (g (ix2 (0 : Fin 1) l)) := by
  unfold normed64 k0_pay21
  change k0_pay22 x g ones64 (k0_pay19 (k0_pay13 x)) (k0_pay20 (k0_pay13 x)) (matmul dot_S256x256_S256x256_S256x256_1_0_0_1_n_n none (k0_pay17 (k0_pay13 x)) ones64 (constant S256x256 .f32 0x00000000#32)) (ix2 y l) = _
  pointwise [k0_pay22, k0_pay20, k0_pay19, k0_pay18, k0_pay17, k0_pay13, ones64_at, hx]
  have s := split_sum (o y) (fun k => same 64 k l)
  rw [sum_head (fun k => o y k * o y k) (l.val / 64) (by omega)] at s
  exact congrArg (fun w : EReal => (o y l : EReal) * Ideal.rsqrt (w * Ideal.ofBits FTy.f32 0x3C800000#32 + Ideal.ofBits FTy.f32 0x358637BD#32) * g (ix2 (0 : Fin 1) l)) s

theorem normed32_at (x : FVec Ideal S256x256 .f32) (g : FVec Ideal S1x256 .f32) (o : Fin 256 → Fin 256 → ℝ) (hx : ∀ y l, x (ix2 y l) = (o y l : EReal)) (y l : Fin 256) :
    normed32 x g (ix2 y l) = norm32 (o y) l (g (ix2 (0 : Fin 1) l)) := by
  unfold normed32 k0_pay55 k0_pay56
  change k0_pay57 x g (addf (matmul dot_S256x256_S256x256_S256x256_1_0_0_1_n_n none (k0_pay52 (k0_pay48 x)) ones32 (constant S256x256 .f32 0x00000000#32)) (matmul dot_S256x256_S256x256_S256x256_1_0_0_1_n_n none (k0_pay54 (k0_pay48 x)) ones32 (constant S256x256 .f32 0x00000000#32)))
    (matmul dot_S256x256_S256x256_S256x256_1_0_0_1_n_n none (truncf .bf16 (subf (k0_pay53 (k0_pay48 x)) (extf .f32 (k0_pay54 (k0_pay48 x)) bitsLt_bf16_f32)) bitsLt_bf16_f32) ones32 (constant S256x256 .f32 0x00000000#32)) (ix2 y l) = _
  pointwise [k0_pay57, k0_pay54, k0_pay53, k0_pay52, k0_pay48, ones32_at, hx]
  have s := split_sum (o y) (fun k => same 32 k l)
  have e := sum_group (fun k => o y k * o y k) ⟨l.val / 32, by omega⟩
  have e' : ∑ k, o y k * o y k * same 32 k l = ∑ k, if k.val / 32 = l.val / 32 then o y k * o y k else 0 :=
    Finset.sum_congr rfl fun k _ => by unfold same; split_ifs <;> simp
  rw [e', e] at s
  exact congrArg (fun w : EReal => (o y l : EReal) * Ideal.rsqrt (w * Ideal.ofBits FTy.f32 0x3D000000#32 + Ideal.ofBits FTy.f32 0x358637BD#32) * g (ix2 (0 : Fin 1) l)) s

end Cert.CtxIdeal.Rows

end
-- ==== Proof.CtxValue.lean ====
/- What the context attention's launch leaves in its two states: the normalised keys and the values of every sequence, head by head. -/
module

public import proofs.«01_k».proof.Proof.CtxNorm
public import proofs.«01_k».proof.Proof.Gen.CtxIdeal.Value
public import Idealize.ShloMosaic.Lib.Pointwise
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.CtxIdeal.Rows

open Cert.CtxIdeal Cert.CtxIdeal.Gen Cert.CtxAttn

/-- Which block each window is on at a point. -/
theorem index_at : ∀ t : Fin cfg0.N, win0_1.index t = ![t.val, 3] ∧ win0_2.index t = ![t.val, 4] ∧ win0_4.index t = ![t.val, 6] ∧ win0_5.index t = ![t.val, 7]
    ∧ win0_7.index t = ![0, 0] ∧ win0_9.index t = ![0, 0] ∧ win0_14.index t = ![t.val, 0, 0, 0, 0] ∧ win0_15.index t = ![t.val, 0, 0, 0, 0] :=
  (by decide +kernel : ∀ t : Fin grid0.N, win0_1.index t = ![t.val, 3] ∧ win0_2.index t = ![t.val, 4] ∧ win0_4.index t = ![t.val, 6] ∧ win0_5.index t = ![t.val, 7]
    ∧ win0_7.index t = ![0, 0] ∧ win0_9.index t = ![0, 0] ∧ win0_14.index t = ![t.val, 0, 0, 0, 0] ∧ win0_15.index t = ![t.val, 0, 0, 0, 0])

/-! ## A state block -/

/-- A state block of two sequences: their keys `A` first and their values `B` second, a head's 64 lanes together. -/
def stateOf (A B : Fin 2 → FVec Ideal S256x256 .f32) : Vec Ideal S2x2x4x256x64 .f32 := fun y =>
  if (y 1).val = 0 then A (y 0) (ix2 (y 3) ⟨64 * (y 2).val + (y 4).val, by have h2 : (y 2).val < 4 := (y 2).isLt; have h4 : (y 4).val < 64 := (y 4).isLt; omega⟩)
  else B (y 0) (ix2 (y 3) ⟨64 * (y 2).val + (y 4).val, by have h2 : (y 2).val < 4 := (y 2).isLt; have h4 : (y 4).val < 64 := (y 4).isLt; omega⟩)

/-- A head of a block, at an index. -/
theorem head_of (A : FVec Ideal S256x256 .f32) (h : Fin 4) (sl : S256x256.Slices ![0, 64 * h.val] S256x64) (r : Fin 256) (d : Fin 64) :
    shapeCast S1x1x1x256x64 (extractStridedSlice S256x64 ![0, 64 * h.val] A sl) shapeCasts_S256x64_S1x1x1x256x64 (ix5 (0 : Fin 1) (0 : Fin 1) (0 : Fin 1) r d)
      = A (ix2 r ⟨64 * h.val + d.val, by omega⟩) := by
  pointwise []

/-- The place of a head's element in a state block. -/
theorem head_place (b s : Fin 2) (h : Fin 4) (inb : ∀ a, (![b.val, s.val, h.val, 0, 0] : Fin 5 → ℕ) a + S1x1x1x256x64.size a ≤ S2x2x4x256x64.size a) (r : Fin 256) (d : Fin 64) :
    (Rect.unit (s := S2x2x4x256x64) ![b.val, s.val, h.val, 0, 0] S1x1x1x256x64.size inb).emb (ix5 (0 : Fin 1) (0 : Fin 1) (0 : Fin 1) r d) = ix5 b s h r d := by
  funext a
  refine Fin.ext ?_
  rw [Rect.emb_apply]
  fin_cases a <;> simp [Rect.unit]

theorem stateOf_at (A B : Fin 2 → FVec Ideal S256x256 .f32) (b s : Fin 2) (h : Fin 4) (r : Fin 256) (d : Fin 64) :
    stateOf A B (ix5 b s h r d) = if s.val = 0 then A b (ix2 r ⟨64 * h.val + d.val, by omega⟩) else B b (ix2 r ⟨64 * h.val + d.val, by omega⟩) := rfl

/-- The columns of a head fit the row. -/
theorem head_slices (h : Fin 4) : S256x256.Slices ![0, 64 * h.val] S256x64 := by fin_cases h <;> decide

/-- A head's place fits the state block. -/
theorem head_inb (b s : Fin 2) (h : Fin 4) (a : Fin 5) : (![b.val, s.val, h.val, 0, 0] : Fin 5 → ℕ) a + S1x1x1x256x64.size a ≤ S2x2x4x256x64.size a := by
  fin_cases b <;> fin_cases s <;> fin_cases h <;> fin_cases a <;> decide

/-- A head of a sequence's rows, as a store of it writes it. -/
def stored (C : FVec Ideal S256x256 .f32) (h : Fin 4) : FVec Ideal S1x1x1x256x64 .f32 :=
  shapeCast S1x1x1x256x64 (extractStridedSlice S256x64 ![0, 64 * h.val] C (head_slices h)) shapeCasts_S256x64_S1x1x1x256x64

/-- The store of a head: the keys at `s` zero, the values at `s` one. -/
def piece (A B : Fin 2 → FVec Ideal S256x256 .f32) (b s : Fin 2) (h : Fin 4) : View.Piece (Elt Ideal) S2x2x4x256x64 .f32 :=
  ⟨Rect.unit ![b.val, s.val, h.val, 0, 0] S1x1x1x256x64.size (head_inb b s h), stored (if s.val = 0 then A b else B b) h⟩

/-- A stored head is the state block's. -/
theorem piece_at (A B : Fin 2 → FVec Ideal S256x256 .f32) (b s : Fin 2) (h : Fin 4) (x : (piece A B b s h).1.shape.Idx) :
    (piece A B b s h).2 x = stateOf A B ((piece A B b s h).1.emb x) := by
  change S1x1x1x256x64.Idx at x
  show stored _ h x = stateOf A B ((Rect.unit (s := S2x2x4x256x64) ![b.val, s.val, h.val, 0, 0] S1x1x1x256x64.size (head_inb b s h)).emb x)
  idx_vars x
  obtain rfl : x0 = 0 := Subsingleton.elim _ _
  obtain rfl : x1 = 0 := Subsingleton.elim _ _
  obtain rfl : x2 = 0 := Subsingleton.elim _ _
  refine (head_of (if s.val = 0 then A b else B b) h (head_slices h) x3 x4).trans ?_
  rw [head_place, stateOf_at]
  by_cases hs : s.val = 0
  · rw [if_pos hs, if_pos hs]
  · rw [if_neg hs, if_neg hs]

/-- The sixteen stores of a state block, the last first. -/
def pieces (A B : Fin 2 → FVec Ideal S256x256 .f32) : List (View.Piece (Elt Ideal) S2x2x4x256x64 .f32) :=
  [piece A B 1 1 3, piece A B 1 0 3, piece A B 1 1 2, piece A B 1 0 2, piece A B 1 1 1, piece A B 1 0 1, piece A B 1 1 0, piece A B 1 0 0,
    piece A B 0 1 3, piece A B 0 0 3, piece A B 0 1 2, piece A B 0 0 2, piece A B 0 1 1, piece A B 0 0 1, piece A B 0 1 0, piece A B 0 0 0]

/-- The stores write the state block. -/
theorem canon_pieces (A B : Fin 2 → FVec Ideal S256x256 .f32) : View.canon (pieces A B) = stateOf A B := by
  funext y
  refine View.canon_apply_of_pieces _ _ (fun p hp x => ?_) y (cover0_14 _ _ _ _ _ _ _ _ _ _ _ _ _ _ _ _ y)
  simp only [pieces, List.mem_cons, List.not_mem_nil, or_false] at hp
  rcases hp with rfl | rfl | rfl | rfl | rfl | rfl | rfl | rfl | rfl | rfl | rfl | rfl | rfl | rfl | rfl | rfl <;> exact piece_at A B _ _ _ x

/-- A sequence's rows of a block of two. -/
abbrev rowsOf (b : Fin 2) : Rect S512x256 := Rect.unit (s := S512x256) ![256 * b.val, 0] S256x256.size (by
  intro a; fin_cases b <;> fin_cases a <;> decide)

variable (x0 x1 x2 x3 x4 x5 : Vec Ideal S512x256 .f32) (x6 x7 x8 x9 x10 : Vec Ideal S1x256 .f32) (x11 : Vec Ideal S4x32 .f32)

/-- The keys of the first attention that the body stores, by sequence. -/
abbrev keys64 (b : Fin 2) : FVec Ideal S256x256 .f32 := normed64 (View.ld x1 (rowsOf b)) (k0_pay12 (View.ld x7 r0_2))

/-- The keys of the differential attention that the body stores, by sequence. -/
abbrev keys32 (b : Fin 2) : FVec Ideal S256x256 .f32 := normed32 (View.ld x4 (rowsOf b)) (k0_pay47 (View.ld x9 r0_2))

theorem keys64_0 : k0_pay186 x0 x1 x2 x3 x4 x5 x6 x7 x8 x9 x10 x11 = keys64 x1 x7 0 := rfl
theorem keys64_1 : k0_pay216 x0 x1 x2 x3 x4 x5 x6 x7 x8 x9 x10 x11 = keys64 x1 x7 1 := rfl
theorem keys32_0 : k0_pay198 x0 x1 x2 x3 x4 x5 x6 x7 x8 x9 x10 x11 = keys32 x4 x9 0 := rfl
theorem keys32_1 : k0_pay231 x0 x1 x2 x3 x4 x5 x6 x7 x8 x9 x10 x11 = keys32 x4 x9 1 := rfl

/-- The state block of the first attention. -/
theorem block14 : out0_14 x0 x1 x2 x3 x4 x5 x6 x7 x8 x9 x10 x11 = stateOf (keys64 x1 x7) (fun b => View.ld x2 (rowsOf b)) := by
  rw [← canon_pieces]
  rfl

/-- The state block of the differential attention. -/
theorem block15 : out0_15 x0 x1 x2 x3 x4 x5 x6 x7 x8 x9 x10 x11 = stateOf (keys32 x4 x9) (fun b => View.ld x5 (rowsOf b)) := by
  rw [← canon_pieces]
  rfl

end Cert.CtxIdeal.Rows

end
-- ==== Proof.CtxStates.lean ====
/- What the context attention's launch leaves in its two states, of the arguments. -/
module

public import proofs.«01_k».proof.Proof.CtxValue

@[expose] public section

set_option maxRecDepth 16384

noncomputable section

open Idealize.ShloMosaic Idealize.ShloMosaic.TcCoe Idealize.SL.Sem
open Idealize.ShloMosaic.Pipeline (Dat)

namespace Cert.CtxIdeal.Rows

open Cert.CtxIdeal Cert.CtxIdeal.Gen Cert.CtxAttn

variable (m : (ℓ : Loc nD τ sig) → Buf (Elt Ideal) ℓ)

theorem rows_lt (t : Fin cfg0.N) (y : Fin 512) : t.val * 512 + y.val < 16384 := by
  have := t.isLt; have h : cfg0.N = 16 := N_0; omega

theorem seq_lt (t : Fin cfg0.N) (b : Fin 2) : t.val * 2 + b.val < 32 := by
  have := t.isLt; have h : cfg0.N = 16 := N_0; omega

/-- The first attention's key block at a point, an element. -/
theorem block1 (c : Dev nD) (t : Fin cfg0.N) (y : Fin 512) (l : Fin 256) :
    iblk m c 1 t (ix2 y l) = m ((c : Thread nD τ).loc main_arg0) (ix2 ⟨t.val * 512 + y.val, rows_lt t y⟩ ⟨768 + l.val, by omega⟩) := by
  obtain ⟨e, -⟩ := index_at t
  blk_ext [iblk, V, e]

/-- The first attention's value block at a point, an element. -/
theorem block2 (c : Dev nD) (t : Fin cfg0.N) (y : Fin 512) (l : Fin 256) :
    iblk m c 2 t (ix2 y l) = m ((c : Thread nD τ).loc main_arg0) (ix2 ⟨t.val * 512 + y.val, rows_lt t y⟩ ⟨1024 + l.val, by omega⟩) := by
  obtain ⟨-, e, -⟩ := index_at t
  blk_ext [iblk, V, e]

/-- The differential attention's key block at a point, an element. -/
theorem block4 (c : Dev nD) (t : Fin cfg0.N) (y : Fin 512) (l : Fin 256) :
    iblk m c 4 t (ix2 y l) = m ((c : Thread nD τ).loc main_arg0) (ix2 ⟨t.val * 512 + y.val, rows_lt t y⟩ ⟨1536 + l.val, by omega⟩) := by
  obtain ⟨-, -, e, -⟩ := index_at t
  blk_ext [iblk, V, e]

/-- The differential attention's value block at a point, an element. -/
theorem block5 (c : Dev nD) (t : Fin cfg0.N) (y : Fin 512) (l : Fin 256) :
    iblk m c 5 t (ix2 y l) = m ((c : Thread nD τ).loc main_arg0) (ix2 ⟨t.val * 512 + y.val, rows_lt t y⟩ ⟨1792 + l.val, by omega⟩) := by
  obtain ⟨-, -, -, e, -⟩ := index_at t
  blk_ext [iblk, V, e]

/-- The first attention's key gains, repeated to a row. -/
theorem block7 (c : Dev nD) (t : Fin cfg0.N) (l : Fin 256) :
    iblk m c 7 t (ix2 (0 : Fin 1) l) = m ((c : Thread nD τ).loc main_arg2) (ix1 ⟨l.val % 64, by omega⟩) := by
  obtain ⟨-, -, -, -, e, -⟩ := index_at t
  blk_ext! [iblk, e]

/-- The differential attention's key gains, repeated to a row. -/
theorem block9 (c : Dev nD) (t : Fin cfg0.N) (l : Fin 256) :
    iblk m c 9 t (ix2 (0 : Fin 1) l) = m ((c : Thread nD τ).loc main_arg4) (ix1 ⟨l.val % 32, by omega⟩) := by
  obtain ⟨-, -, -, -, -, e, -⟩ := index_at t
  blk_ext! [iblk, e]

/-- The place of an element of the first state's block. -/
theorem place14 (t : Fin cfg0.N) (b s : Fin 2) (h : Fin 4) (r : Fin 256) (d : Fin 64) :
    ((cfg0.win 14).blk t).view.emb (ix5 b s h r d) = ix5 ⟨t.val * 2 + b.val, seq_lt t b⟩ s h r d := by
  obtain ⟨-, -, -, -, -, -, e, -⟩ := index_at t
  blk_ext [e]

/-- The place of an element of the second state's block. -/
theorem place15 (t : Fin cfg0.N) (b s : Fin 2) (h : Fin 4) (r : Fin 256) (d : Fin 64) :
    ((cfg0.win 15).blk t).view.emb (ix5 b s h r d) = ix5 ⟨t.val * 2 + b.val, seq_lt t b⟩ s h r d := by
  obtain ⟨-, -, -, -, -, -, -, e⟩ := index_at t
  blk_ext [e]

/-- A sequence's rows of a block, an element. -/
theorem rows_at (x : Vec Ideal S512x256 .f32) (b : Fin 2) (r l : Fin 256) : View.ld x (rowsOf b) (ix2 r l) = x (ix2 ⟨256 * b.val + r.val, by omega⟩ l) := by
  show x ((rowsOf b).emb (ix2 r l)) = _
  refine congrArg x (funext fun a => Fin.ext ?_)
  rw [Rect.emb_apply]
  fin_cases a <;> simp [Rect.unit]

/-- A gain row as the body reads it. -/
theorem gain_at (x : Vec Ideal S1x256 .f32) (l : Fin 256) : k0_pay12 (View.ld x r0_2) (ix2 (0 : Fin 1) l) = x (ix2 (0 : Fin 1) l) := by
  rw [View.ld_unit_zero (by funext a; fin_cases a <;> rfl)]
  pointwise [k0_pay12]

variable {k k' : Fin 8192 → Fin 256 → ℝ}

/-- The arguments' keys in memory are these real numbers. -/
abbrev RealMem (c : Dev nD) (k k' : Fin 8192 → Fin 256 → ℝ) : Prop :=
  RealKeys (fun r l => m ((c : Thread nD τ).loc main_arg0) (ix2 r l)) k k'

/-- The first state: the first attention's normalised keys and its values. -/
def value14 (k : Fin 8192 → Fin 256 → ℝ) (c : Dev nD) : Buf (Elt Ideal) ((c : Thread nD τ).loc main_v20_2) := fun i =>
  stateAt (fun r l => norm64 (k r) l (m ((c : Thread nD τ).loc main_arg2) (ix1 ⟨l.val % 64, by omega⟩)))
    (fun r l => m ((c : Thread nD τ).loc main_arg0) (ix2 ⟨r.val, by omega⟩ ⟨1024 + l.val, by omega⟩)) (i 0) (i 1) (i 2) (i 3) (i 4)

/-- The second state: the differential attention's normalised keys and its values. -/
def value15 (k' : Fin 8192 → Fin 256 → ℝ) (c : Dev nD) : Buf (Elt Ideal) ((c : Thread nD τ).loc main_v20_3) := fun i =>
  stateAt (fun r l => norm32 (k' r) l (m ((c : Thread nD τ).loc main_arg4) (ix1 ⟨l.val % 32, by omega⟩)))
    (fun r l => m ((c : Thread nD τ).loc main_arg0) (ix2 ⟨r.val, by omega⟩ ⟨1792 + l.val, by omega⟩)) (i 0) (i 1) (i 2) (i 3) (i 4)

/-- A token of a point's block. -/
abbrev tok (t : Fin cfg0.N) (b : Fin 2) (r : Fin 256) : Fin 8192 := ⟨(t.val * 2 + b.val) * 256 + r.val, by have := seq_lt t b; omega⟩

theorem tok_row (t : Fin cfg0.N) (b : Fin 2) (r : Fin 256) : t.val * 512 + (256 * b.val + r.val) = (tok t b r).val := by
  show _ = (t.val * 2 + b.val) * 256 + r.val; omega

/-- An element of a block's row, of the array. -/
theorem elem_at (x : FVec Ideal S16384x2560 .f32) (t : Fin cfg0.N) (b : Fin 2) (r : Fin 256) (q : Fin 2560) (h : t.val * 512 + (256 * b.val + r.val) < 16384) :
    x (ix2 ⟨t.val * 512 + (256 * b.val + r.val), h⟩ q) = x (ix2 ⟨(tok t b r).val, by omega⟩ q) := by
  congr 2
  exact Fin.ext (tok_row t b r)

theorem array_eq14 (c : Dev nD) (H : RealMem m c k k') : (dats m 0 c).arrAt 14 cfg0.N = value14 m k c := by
  refine (dats m 0 c).arrAt_eq_of_covers 14 _ (by decide +kernel) fun t hf y => ?_
  idx_vars y
  rw [place14]
  blk_simp [value14]
  rw [after0_14, block14, stateOf_at]
  unfold stateAt
  refine if_congr Iff.rfl ?_ ?_
  · refine (normed64_at _ _ (fun r l => k (tok t y0 r) l) (fun r l => ?_) _ _).trans ?_
    · rw [rows_at, block1]
      exact (elem_at _ t y0 r _ _).trans (H.hk _ _)
    · rw [gain_at, block7]
      rfl
  · rw [rows_at, block2]
    exact elem_at _ t y0 _ _ _

theorem array_eq15 (c : Dev nD) (H : RealMem m c k k') : (dats m 0 c).arrAt 15 cfg0.N = value15 m k' c := by
  refine (dats m 0 c).arrAt_eq_of_covers 15 _ (by decide +kernel) fun t hf y => ?_
  idx_vars y
  rw [place15]
  blk_simp [value15]
  rw [after0_15, block15, stateOf_at]
  unfold stateAt
  refine if_congr Iff.rfl ?_ ?_
  · refine (normed32_at _ _ (fun r l => k' (tok t y0 r) l) (fun r l => ?_) _ _).trans ?_
    · rw [rows_at, block4]
      exact (elem_at _ t y0 r _ _).trans (H.hk' _ _)
    · rw [show k0_pay47 (F := Ideal) = k0_pay12 from rfl, gain_at, block9]
      rfl
  · rw [rows_at, block5]
    exact elem_at _ t y0 _ _ _

end Cert.CtxIdeal.Rows

end
-- ==== Proof.CtxAttend.lean ====
/- The context attention's two attentions of a sequence, over real queries and keys: softmax weights of a head's scores, and the values they weigh. -/
module

public import proofs.«01_k».proof.Proof.CtxStates
public import proofs.«01_k».proof.Proof.DiffRefReal

@[expose] public section

set_option maxRecDepth 16384

noncomputable section

open Idealize.ShloMosaic Idealize.ShloMosaic.TcCoe Idealize.SL.Sem

namespace Cert.CtxAttn

open Cert.DiffIdeal.Rows (coe_sum IsReal)
open Cert.DiffAttn

/-- A softmax weight of real scores. -/
def weight (s : Fin 256 → ℝ) (x : Fin 256) : ℝ := Real.exp (s x) / ∑ y, Real.exp (s y)

/-- A score over the 64 lanes of a head. -/
def score64 (q k : Fin 256 → ℝ) (h : Fin 4) : ℝ := (∑ j : Fin 64, q ⟨h.val * 64 + j.val, by omega⟩ * k ⟨h.val * 64 + j.val, by omega⟩) * (1 / 8)

/-- A score over the 32 lanes of half a head. -/
def score32 (q k : Fin 256 → ℝ) (n : Fin 8) : ℝ := dot32 q k n * scale

/-- The first attention's result for a query: the values under the softmax weights. -/
def attended (q : Fin 256 → ℝ) (k : Fin 256 → Fin 256 → ℝ) (v : Fin 256 → EReal) (h : Fin 4) : EReal :=
  ∑ x, (weight (fun y => score64 q (k y) h) x : EReal) * v x

/-- The differential attention's result for a query: the values under the difference of the two halves' weights. -/
def contrasted (lam : ℝ) (q : Fin 256 → ℝ) (k : Fin 256 → Fin 256 → ℝ) (v : Fin 256 → ℝ) (h : Fin 4) : ℝ :=
  ∑ x, (weight (fun y => score32 q (k y) ⟨2 * h.val, by omega⟩) x - lam * weight (fun y => score32 q (k y) ⟨2 * h.val + 1, by omega⟩) x) * v x

theorem eighth : Ideal.ofBits FTy.f32 0x3E000000#32 = ((1 / 8 : ℝ) : EReal) := by
  simp [Ideal.ofBits, Ideal.ieee, -EReal.coe_mul]; norm_num

theorem sum_exp_pos (s : Fin 256 → ℝ) : 0 < ∑ y, Real.exp (s y) := Finset.sum_pos (fun _ _ => Real.exp_pos _) ⟨0, Finset.mem_univ _⟩

/-- A sum times a positive real number, term by term. -/
theorem sum_times {ι : Type} (s : Finset ι) (f : ι → EReal) (c : ℝ) (hc : 0 ≤ c) : (∑ x ∈ s, f x) * (c : EReal) = ∑ x ∈ s, f x * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

/-- The values under unnormalised weights, divided by the weights' sum. -/
theorem attend_coe (s : Fin 256 → ℝ) (μ : ℝ) (e : Fin 256 → EReal) (he : ∀ x, e x = Ideal.exp ((s x : EReal) - (μ : EReal))) (v : Fin 256 → EReal) :
    Ideal.div (∑ x, e x * v x) (∑ x, e x) = ∑ x, (weight s x : EReal) * v x := by
  have e' : ∀ x, e x = ((Real.exp (s x) * Real.exp (-μ) : ℝ) : EReal) := fun x => by
    rw [he, ← EReal.coe_sub, Ideal.exp_coe, sub_eq_add_neg, Real.exp_add]
  have hp : 0 < ∑ x, Real.exp (s x) * Real.exp (-μ) := Finset.sum_pos (fun x _ => mul_pos (Real.exp_pos _) (Real.exp_pos _)) ⟨0, Finset.mem_univ _⟩
  have hne : ((∑ x, Real.exp (s x) * Real.exp (-μ) : ℝ) : EReal) ≠ 0 := by simpa using hp.ne'
  simp only [e']
  rw [← coe_sum]
  unfold Ideal.div
  rw [if_neg hne, ← EReal.coe_inv, sum_times _ _ _ (inv_nonneg.2 hp.le)]
  refine Finset.sum_congr rfl fun x _ => ?_
  rw [mul_right_comm, ← EReal.coe_mul]
  congr 2
  rw [← Finset.sum_mul, ← div_eq_mul_inv, mul_div_mul_right _ _ (Real.exp_pos _).ne']
  rfl

/-- A weight as the inverse of the sum times the unnormalised weight. -/
theorem weight_coe (s : Fin 256 → ℝ) (μ : ℝ) (e : Fin 256 → EReal) (he : ∀ x, e x = Ideal.exp ((s x : EReal) - (μ : EReal))) (x : Fin 256) :
    e x * Ideal.div (Ideal.ofBits FTy.f32 0x3F800000#32) (∑ y, e y) = (weight s x : EReal) := by
  have e' : ∀ x, e x = ((Real.exp (s x) * Real.exp (-μ) : ℝ) : EReal) := fun x => by
    rw [he, ← EReal.coe_sub, Ideal.exp_coe, sub_eq_add_neg, Real.exp_add]
  have hp : 0 < ∑ x, Real.exp (s x) * Real.exp (-μ) := Finset.sum_pos (fun x _ => mul_pos (Real.exp_pos _) (Real.exp_pos _)) ⟨0, Finset.mem_univ _⟩
  have one : Ideal.ofBits FTy.f32 0x3F800000#32 = ((1 : ℝ) : EReal) := by simp [Ideal.ofBits, Ideal.ieee, -EReal.coe_mul]; norm_num
  simp only [e']
  rw [← coe_sum, one, div_coe _ _ hp.ne', ← EReal.coe_mul]
  congr 1
  rw [← Finset.sum_mul, mul_one_div, mul_div_mul_right _ _ (Real.exp_pos _).ne']
  rfl

end Cert.CtxAttn

namespace Cert.CtxIdeal.Rows

open Cert.CtxIdeal Cert.CtxIdeal.Gen Cert.CtxAttn Cert.DiffAttn
open Cert.DiffIdeal.Rows (coe_sum sum_head sum_group IsReal)
open Cert.DiffRefIdeal.Rows (negInf)

/-- The half heads of the lanes, as the body has them. -/
def halves : IVec S1x256 32 := k0_pay71 k0_pay68 k0_pay69 k0_pay70 0#32

/-- Whether a lane is of a head, as the body's comparison has it. -/
theorem select_head (n : ℕ) (hn : n < 4) (l : Fin 256) (a b : EReal) :
    Scalar.select (IntOp.cmpi .eq (k0_pay2 (ix2 (0 : Fin 1) l)) (BitVec.ofNat 32 n)) a b = if l.val / 64 = n then a else b := by
  have key : ∀ l : Fin 256, ∀ n : Fin 4, IntOp.cmpi .eq (k0_pay2 (ix2 (0 : Fin 1) l)) (BitVec.ofNat 32 n.val) = if l.val / 64 = n.val then 1#1 else 0#1 := by
    decide +kernel
  rw [key l ⟨n, hn⟩]
  by_cases h : l.val / 64 = n
  · rw [if_pos h, if_pos h]; rfl
  · rw [if_neg h, if_neg h]; rfl

/-- Whether a lane is of half a head, as the body's comparison has it. -/
theorem select_half (n : ℕ) (hn : n < 8) (l : Fin 256) (a b : EReal) :
    Scalar.select (IntOp.cmpi .eq (halves (ix2 (0 : Fin 1) l)) (BitVec.ofNat 32 n)) a b = if l.val / 32 = n then a else b := by
  have key : ∀ l : Fin 256, ∀ n : Fin 8, IntOp.cmpi .eq (halves (ix2 (0 : Fin 1) l)) (BitVec.ofNat 32 n.val) = if l.val / 32 = n.val then 1#1 else 0#1 := by
    decide +kernel
  rw [key l ⟨n, hn⟩]
  by_cases h : l.val / 32 = n
  · rw [if_pos h, if_pos h]; rfl
  · rw [if_neg h, if_neg h]; rfl

/-- The queries with every lane outside one group at zero. -/
def masked (lanes : IVec S1x256 32) (q : FVec Ideal S256x256 .bf16) (n : BitVec 32) : FVec Ideal S256x256 .bf16 :=
  select (broadcastTo S256x256 (shapeCast S1x256 (cmpi .eq lanes (broadcast S1x256 n)) shapeCasts_S1x256_S1x256) broadcasts_S1x256_S256x256) q
    (broadcast S256x256 (Scalar.ofBits (F := Ideal) .bf16 0x0000#16))

theorem masked_at (lanes : IVec S1x256 32) (q : FVec Ideal S256x256 .bf16) (n : BitVec 32) (y l : Fin 256) :
    masked lanes q n (ix2 y l) = Scalar.select (IntOp.cmpi .eq (lanes (ix2 (0 : Fin 1) l)) n) (q (ix2 y l)) (0 : EReal) := by
  unfold masked
  pointwise []

/-- The queries under each other four times, each copy with the lanes of one head only. -/
def stack64 (q : FVec Ideal S256x256 .bf16) : FVec Ideal S1024x256 .bf16 :=
  concatenate S1024x256 0 [⟨S256x256, masked k0_pay2 q 0#32⟩, ⟨S256x256, masked k0_pay2 q 1#32⟩, ⟨S256x256, masked k0_pay2 q 2#32⟩, ⟨S256x256, masked k0_pay2 q 3#32⟩]
    concatenates_S256x256_S256x256_S256x256_S256x256_S1024x256_d0

theorem stack64_at (q : FVec Ideal S256x256 .bf16) (r : Fin 1024) (l : Fin 256) :
    stack64 q (ix2 r l) = if l.val / 64 = r.val / 256 then q (ix2 ⟨r.val % 256, by omega⟩ l) else 0 := by
  unfold stack64
  pointwise [masked_at]
  generalize hR : (if l.val / 64 = r.val / 256 then q (ix2 ⟨r.val % 256, by omega⟩ l) else 0) = R
  have at' (n : ℕ) (hn : n < 4) (y : Fin 256) (hy : y.val + 256 * n = r.val) :
      Scalar.select (IntOp.cmpi .eq (k0_pay2 (ix2 (0 : Fin 1) l)) (BitVec.ofNat 32 n)) (q (ix2 y l)) 0 = R := by
    rw [select_head n hn l, ← hR]
    refine if_congr (by omega) ?_ rfl
    exact congrArg q (congrArg (ix2 · l) (Fin.ext (by dsimp only; omega)))
  split_ifs
  all_goals
    first
    | exact at' 0 (by omega) _ (by dsimp only; omega)
    | exact at' 1 (by omega) _ (by dsimp only; omega)
    | exact at' 2 (by omega) _ (by dsimp only; omega)
    | exact at' 3 (by omega) _ (by dsimp only; omega)

/-- The queries under each other eight times, each copy with the lanes of half a head only. -/
def stack32 (q : FVec Ideal S256x256 .bf16) : FVec Ideal S2048x256 .bf16 :=
  concatenate S2048x256 0 [⟨S256x256, masked halves q 0#32⟩, ⟨S256x256, masked halves q 1#32⟩, ⟨S256x256, masked halves q 2#32⟩, ⟨S256x256, masked halves q 3#32⟩,
      ⟨S256x256, masked halves q 4#32⟩, ⟨S256x256, masked halves q 5#32⟩, ⟨S256x256, masked halves q 6#32⟩, ⟨S256x256, masked halves q 7#32⟩]
    concatenates_S256x256_S256x256_S256x256_S256x256_S256x256_S256x256_S256x256_S256x256_S2048x256_d0

theorem stack32_at (q : FVec Ideal S256x256 .bf16) (r : Fin 2048) (l : Fin 256) :
    stack32 q (ix2 r l) = if l.val / 32 = r.val / 256 then q (ix2 ⟨r.val % 256, by omega⟩ l) else 0 := by
  unfold stack32
  pointwise [masked_at]
  generalize hR : (if l.val / 32 = r.val / 256 then q (ix2 ⟨r.val % 256, by omega⟩ l) else 0) = R
  have at' (n : ℕ) (hn : n < 8) (y : Fin 256) (hy : y.val + 256 * n = r.val) :
      Scalar.select (IntOp.cmpi .eq (halves (ix2 (0 : Fin 1) l)) (BitVec.ofNat 32 n)) (q (ix2 y l)) 0 = R := by
    rw [select_half n hn l, ← hR]
    refine if_congr (by omega) ?_ rfl
    exact congrArg q (congrArg (ix2 · l) (Fin.ext (by dsimp only; omega)))
  split_ifs
  all_goals
    first
    | exact at' 0 (by omega) _ (by dsimp only; omega)
    | exact at' 1 (by omega) _ (by dsimp only; omega)
    | exact at' 2 (by omega) _ (by dsimp only; omega)
    | exact at' 3 (by omega) _ (by dsimp only; omega)
    | exact at' 4 (by omega) _ (by dsimp only; omega)
    | exact at' 5 (by omega) _ (by dsimp only; omega)
    | exact at' 6 (by omega) _ (by dsimp only; omega)
    | exact at' 7 (by omega) _ (by dsimp only; omega)

/-- The first attention's scaled scores, as the body has them. -/
def scores64 (q k : FVec Ideal S256x256 .f32) : FVec Ideal S1024x256 .f32 :=
  mulf (matmul dot_S1024x256_S256x256_S1024x256_1_1_0_0_n_n none (stack64 (truncf .bf16 q bitsLt_bf16_f32)) (truncf .bf16 k bitsLt_bf16_f32) (constant S1024x256 .f32 0x00000000#32))
    (broadcast S1024x256 (Scalar.ofBits (F := Ideal) .f32 0x3E000000#32))

/-- The differential attention's scaled scores, as the body has them. -/
def scores32 (q k : FVec Ideal S256x256 .f32) : FVec Ideal S2048x256 .f32 :=
  mulf (matmul dot_S2048x256_S256x256_S2048x256_1_1_0_0_n_n none (stack32 (truncf .bf16 q bitsLt_bf16_f32)) (truncf .bf16 k bitsLt_bf16_f32) (constant S2048x256 .f32 0x00000000#32))
    (broadcast S2048x256 (Scalar.ofBits (F := Ideal) .f32 0x3E3504F3#32))

variable {q k : FVec Ideal S256x256 .f32} {Q K : Fin 256 → Fin 256 → ℝ} (hq : ∀ y l, q (ix2 y l) = (Q y l : EReal)) (hk : ∀ y l, k (ix2 y l) = (K y l : EReal))

include hq hk in
theorem scores64_at (r : Fin 1024) (x : Fin 256) :
    scores64 q k (ix2 r x) = ((score64 (Q ⟨r.val % 256, by omega⟩) (K x) ⟨r.val / 256, by omega⟩ : ℝ) : EReal) := by
  unfold scores64
  pointwise [stack64_at, hk]
  have e := sum_head (fun l => Q ⟨r.val % 256, by omega⟩ l * K x l) (r.val / 256) (by omega)
  unfold score64
  rw [← e, EReal.coe_mul, coe_sum]
  refine congrArg₂ (· * ·) (Finset.sum_congr rfl fun l _ => ?_) eighth
  split_ifs with h
  · rw [hq, mul_one, ← EReal.coe_mul]
  · rw [zero_mul, mul_zero, EReal.coe_zero]

include hq hk in
theorem scores32_at (r : Fin 2048) (x : Fin 256) :
    scores32 q k (ix2 r x) = ((score32 (Q ⟨r.val % 256, by omega⟩) (K x) ⟨r.val / 256, by omega⟩ : ℝ) : EReal) := by
  unfold scores32
  pointwise [stack32_at, hk]
  have e := sum_group (fun l => Q ⟨r.val % 256, by omega⟩ l * K x l) ⟨r.val / 256, by omega⟩
  unfold score32 dot32
  rw [← e, EReal.coe_mul, coe_sum]
  refine congrArg₂ (· * ·) (Finset.sum_congr rfl fun l _ => ?_) ofBits_scale
  split_ifs with h
  · rw [hq, ← EReal.coe_mul]
  · rw [zero_mul, EReal.coe_zero]

/-- Unnormalised weights of the first attention. -/
def expo64 (s : FVec Ideal S1024x256 .f32) : FVec Ideal S1024x256 .f32 :=
  exp (subf s (broadcastTo S1024x256 (shapeCast S1024x1 (multiReduction .maximumf [1] S1024 s 0xFF800000#32 reduces_S1024x256_S1024 (.inl rfl) rfl) shapeCasts_S1024_S1024x1) broadcasts_S1024x1_S1024x256))

/-- Unnormalised weights of the differential attention. -/
def expo32 (s : FVec Ideal S2048x256 .f32) : FVec Ideal S2048x256 .f32 :=
  exp (subf s (broadcastTo S2048x256 (shapeCast S2048x1 (multiReduction .maximumf [1] S2048 s 0xFF800000#32 reduces_S2048x256_S2048 (.inl rfl) rfl) shapeCasts_S2048_S2048x1) broadcasts_S2048x1_S2048x256))

theorem expo64_at (s : FVec Ideal S1024x256 .f32) (σ : Fin 1024 → Fin 256 → ℝ) (hs : ∀ r x, s (ix2 r x) = (σ r x : EReal)) (r : Fin 1024) :
    ∃ μ : ℝ, ∀ x, expo64 s (ix2 r x) = Ideal.exp ((σ r x : EReal) - (μ : EReal)) := by
  have h : ∃ M : EReal, IsReal M ∧ ∀ x, expo64 s (ix2 r x) = Ideal.exp (s (ix2 r x) - M) := by
    refine ⟨Finset.univ.fold Max.max ⊥ fun l : Fin 256 => s (ix2 r l), IsReal.fold _ (fun l => ⟨_, hs r l⟩) _ ⟨0, Finset.mem_univ _⟩, fun x => ?_⟩
    unfold expo64
    pointwise []
    rw [negInf]
  obtain ⟨M, ⟨μ, rfl⟩, h⟩ := h
  exact ⟨μ, fun x => by rw [h, hs]⟩

theorem expo32_at (s : FVec Ideal S2048x256 .f32) (σ : Fin 2048 → Fin 256 → ℝ) (hs : ∀ r x, s (ix2 r x) = (σ r x : EReal)) (r : Fin 2048) :
    ∃ μ : ℝ, ∀ x, expo32 s (ix2 r x) = Ideal.exp ((σ r x : EReal) - (μ : EReal)) := by
  have h : ∃ M : EReal, IsReal M ∧ ∀ x, expo32 s (ix2 r x) = Ideal.exp (s (ix2 r x) - M) := by
    refine ⟨Finset.univ.fold Max.max ⊥ fun l : Fin 256 => s (ix2 r l), IsReal.fold _ (fun l => ⟨_, hs r l⟩) _ ⟨0, Finset.mem_univ _⟩, fun x => ?_⟩
    unfold expo32
    pointwise []
    rw [negInf]
  obtain ⟨M, ⟨μ, rfl⟩, h⟩ := h
  exact ⟨μ, fun x => by rw [h, hs]⟩

/-- Of rows stacked by head, a lane's head's, as the body has it. -/
def heads4 (A : FVec Ideal S1024x256 .f32) : FVec Ideal S256x256 .f32 := k0_pay82 k0_pay2 A (k0_pay81 k0_pay2)

theorem heads4_at (A : FVec Ideal S1024x256 .f32) (y l : Fin 256) : heads4 A (ix2 y l) = A (ix2 ⟨256 * (l.val / 64) + y.val, by omega⟩ l) := by
  unfold heads4
  pointwise [k0_pay82, k0_pay81]
  have e0 := select_head 0 (by omega) l
  have e1 := select_head 1 (by omega) l
  have e2 := select_head 2 (by omega) l
  have e3 := select_head 3 (by omega) l
  refine (congrArg₂ (· + ·) (congrArg₂ (· + ·) (congrArg₂ (· + ·) (e0 _ _) (e1 _ _)) (e2 _ _)) (e3 _ _)).trans ?_
  obtain h | h | h | h : l.val / 64 = 0 ∨ l.val / 64 = 1 ∨ l.val / 64 = 2 ∨ l.val / 64 = 3 := by omega
  all_goals
    simp only [h, reduceIte, Nat.reduceEqDiff, OfNat.ofNat_ne_zero, OfNat.zero_ne_ofNat, zero_ne_one, one_ne_zero, OfNat.ofNat_ne_one, OfNat.one_ne_ofNat, zero_add, add_zero, mul_zero, mul_one]

end Cert.CtxIdeal.Rows

end
-- ==== Proof.CtxArgs.lean ====
/- The context attention's arguments as real numbers, and its two attentions' results of them. -/
module

public import proofs.«01_k».proof.Proof.CtxAttend

@[expose] public section

noncomputable section

open Idealize.ShloMosaic Idealize.SL.Sem

namespace Cert.CtxAttn

open Cert.DiffIdeal.Rows (coe_sum IsReal)
open Cert.DiffAttn

theorem eps : Ideal.ofBits FTy.f32 0x358637BD#32 = ((8796093 / 8796093022208 : ℝ) : EReal) := by
  simp [Ideal.ofBits, Ideal.ieee, -EReal.coe_mul]; norm_num

theorem part64 : Ideal.ofBits FTy.f32 0x3C800000#32 = ((1 / 64 : ℝ) : EReal) := by
  simp [Ideal.ofBits, Ideal.ieee, -EReal.coe_mul]; norm_num

theorem part32 : Ideal.ofBits FTy.f32 0x3D000000#32 = ((1 / 32 : ℝ) : EReal) := by
  simp [Ideal.ofBits, Ideal.ieee, -EReal.coe_mul]; norm_num

/-- A real lane divided by the root of a nonnegative mean, times a real gain, is real. -/
theorem scaled_real (x S c : ℝ) (hS : 0 ≤ S) (hc : 0 ≤ c) {g : EReal} (hg : IsReal g) :
    IsReal ((x : EReal) * Ideal.rsqrt ((S : EReal) * (c : EReal) + ((8796093 / 8796093022208 : ℝ) : EReal)) * g) := by
  obtain ⟨g, rfl⟩ := hg
  have hp : 0 < S * c + 8796093 / 8796093022208 := add_pos_of_nonneg_of_pos (mul_nonneg hS hc) (by norm_num)
  rw [← EReal.coe_mul, ← EReal.coe_add, Ideal.rsqrt_coe, if_neg (not_lt.2 hp.le), if_neg hp.ne', ← EReal.coe_mul, ← EReal.coe_mul]
  exact ⟨_, rfl⟩

theorem norm64_real (x : Fin 256 → ℝ) (l : Fin 256) {g : EReal} (hg : IsReal g) : IsReal (norm64 x l g) := by
  unfold norm64
  rw [eps, part64]
  exact scaled_real _ _ _ (Finset.sum_nonneg fun _ _ => mul_self_nonneg _) (by norm_num) hg

theorem norm32_real (x : Fin 256 → ℝ) (l : Fin 256) {g : EReal} (hg : IsReal g) : IsReal (norm32 x l g) := by
  unfold norm32
  rw [eps, part32]
  exact scaled_real _ _ _ (Finset.sum_nonneg fun _ _ => mul_self_nonneg _) (by norm_num) hg

/-- The `x`-th token of a token's sequence. -/
def mate (r : Fin 8192) (x : Fin 256) : Fin 8192 := ⟨r.val / 256 * 256 + x.val, by omega⟩

/-- The first attention's result at a token and a lane. -/
def result64 (q k : Fin 8192 → Fin 256 → ℝ) (v : Fin 8192 → Fin 256 → EReal) (r : Fin 8192) (l : Fin 256) : EReal :=
  attended (q r) (fun x => k (mate r x)) (fun x => v (mate r x) l) ⟨l.val / 64, by omega⟩

/-- The differential attention's result at a token and a lane, normalised over its head and scaled. -/
def result32 (lam : ℝ) (q k v : Fin 8192 → Fin 256 → ℝ) (r : Fin 8192) (l : Fin 256) (g : EReal) : EReal :=
  norm64 (fun l => contrasted lam (q r) (fun x => k (mate r x)) (fun x => v (mate r x) l) ⟨l.val / 64, by omega⟩) l g * Ideal.ofBits FTy.f32 0x3F4CCCCD#32

/-- Real arguments: the queries, keys and values of the context tokens, the normalised queries and keys, and the proportion. -/
structure RealCtx (a : Fin 16384 → Fin 2560 → EReal) (g1 g2 : Fin 64 → EReal) (g3 g4 : Fin 32 → EReal) (la : Fin 4 → Fin 32 → EReal)
    (q k q' k' v' Q K Q' K' : Fin 8192 → Fin 256 → ℝ) (lam : ℝ) : Prop extends RealKeys a k k' where
  hq : ∀ r l, a ⟨r.val, by omega⟩ ⟨512 + l.val, by omega⟩ = (q r l : EReal)
  hq' : ∀ r l, a ⟨r.val, by omega⟩ ⟨1280 + l.val, by omega⟩ = (q' r l : EReal)
  hv' : ∀ r l, a ⟨r.val, by omega⟩ ⟨1792 + l.val, by omega⟩ = (v' r l : EReal)
  hQ : ∀ r l, norm64 (q r) l (g1 ⟨l.val % 64, by omega⟩) = (Q r l : EReal)
  hK : ∀ r l, norm64 (k r) l (g2 ⟨l.val % 64, by omega⟩) = (K r l : EReal)
  hQ' : ∀ r l, norm32 (q' r) l (g3 ⟨l.val % 32, by omega⟩) = (Q' r l : EReal)
  hK' : ∀ r l, norm32 (k' r) l (g4 ⟨l.val % 32, by omega⟩) = (K' r l : EReal)
  hlam : lamOf (la 0) (la 1) (la 2) (la 3) = (lam : EReal)

end Cert.CtxAttn

end
-- ==== Proof.CtxFinite.lean ====
/- Arguments of the context attention that the precondition admits are real numbers. -/
module

public import proofs.«01_k».proof.Proof.CtxArgs
public import proofs.«01_k».proof.Proof.DiffFinite
public import proofs.«01_k».proof.Proof.Gen.Pre_ctx_finite
public import Idealize.ShloMosaic.Lib.Pointwise

@[expose] public section

noncomputable section

open Idealize.ShloMosaic Idealize.SL.Sem

namespace Cert.Pre_ctx_finite.Rows

open Cert.Pre_ctx_finite Cert.Pre_ctx_finite.Gen
open Cert.DiffIdeal.Rows (IsReal)
open Cert.DiffAttn Cert.CtxAttn
open Cert.Pre_diff_finite.Rows (all_real)

/-- A context token's columns from the 512th on, an element. -/
theorem slice_at (x : FVec Ideal S16384x2560 .f32) (h : S16384x2560.Slices ![0, 512] S8192x512) (r : Fin 8192) (l : Fin 512) :
    extractStridedSlice S8192x512 ![0, 512] x h (ix2 r l) = x (ix2 ⟨r.val, by omega⟩ ⟨512 + l.val, by omega⟩) := by
  pointwise []

/-- A context token's columns from the 1280th on, an element. -/
theorem slice'_at (x : FVec Ideal S16384x2560 .f32) (h : S16384x2560.Slices ![0, 1280] S8192x768) (r : Fin 8192) (l : Fin 768) :
    extractStridedSlice S8192x768 ![0, 1280] x h (ix2 r l) = x (ix2 ⟨r.val, by omega⟩ ⟨1280 + l.val, by omega⟩) := by
  pointwise []

variable (x0 : FVec Ideal S16384x2560 .f32) (x1 x2 : FVec Ideal S64 .f32) (x3 x4 : FVec Ideal S32 .f32) (x5 : FVec Ideal S64 .f32) (x6 : FVec Ideal S4x32 .f32)

/-- The precondition makes the queries and keys, the second values, the gains and the proportion's rows real. -/
theorem real_args (h : fn (F := Ideal) x0 x1 x2 x3 x4 x5 x6 = fun _ => 1#1) :
    (∀ (r : Fin 8192) (l : Fin 512), IsReal (x0 (ix2 ⟨r.val, by omega⟩ ⟨512 + l.val, by omega⟩)))
      ∧ (∀ (r : Fin 8192) (l : Fin 768), IsReal (x0 (ix2 ⟨r.val, by omega⟩ ⟨1280 + l.val, by omega⟩)))
      ∧ (∀ i, IsReal (x1 i)) ∧ (∀ i, IsReal (x2 i)) ∧ (∀ i, IsReal (x3 i)) ∧ (∀ i, IsReal (x4 i)) ∧ ∀ i, IsReal (x6 i) := by
  have e := congrFun h ix0
  unfold fn fn_part1 fn_part2 at e
  dsimp only at e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e0, e0'⟩ := IntOp.andi_eq_one.1 e
  exact ⟨fun r l => slice_at x0 _ r l ▸ all_real _ _ _ _ e0 (ix2 r l), fun r l => slice'_at x0 _ r l ▸ all_real _ _ _ _ e0' (ix2 r l),
    all_real _ _ _ _ e1, all_real _ _ _ _ e2, all_real _ _ _ _ e3, all_real _ _ _ _ e4, all_real _ _ _ _ e6⟩

/-- The real numbers that admitted arguments are. -/
theorem real_ctx (h : fn (F := Ideal) x0 x1 x2 x3 x4 x5 x6 = fun _ => 1#1) :
    ∃ q k q' k' v' Q K Q' K' lam, RealCtx (fun r l => x0 (ix2 r l)) (fun d => x1 (ix1 d)) (fun d => x2 (ix1 d)) (fun d => x3 (ix1 d)) (fun d => x4 (ix1 d)) (fun s x => x6 (ix2 s x))
      q k q' k' v' Q K Q' K' lam := by
  obtain ⟨a, b, h1, h2, h3, h4, h6⟩ := real_args x0 x1 x2 x3 x4 x5 x6 h
  choose q hq using fun (r : Fin 8192) (l : Fin 256) => a r ⟨l.val, by omega⟩
  choose k hk using fun (r : Fin 8192) (l : Fin 256) => a r ⟨256 + l.val, by omega⟩
  choose q' hq' using fun (r : Fin 8192) (l : Fin 256) => b r ⟨l.val, by omega⟩
  choose k' hk' using fun (r : Fin 8192) (l : Fin 256) => b r ⟨256 + l.val, by omega⟩
  choose v' hv' using fun (r : Fin 8192) (l : Fin 256) => b r ⟨512 + l.val, by omega⟩
  choose Q hQ using fun (r : Fin 8192) (l : Fin 256) => norm64_real (q r) l (h1 (ix1 ⟨l.val % 64, by omega⟩))
  choose K hK using fun (r : Fin 8192) (l : Fin 256) => norm64_real (k r) l (h2 (ix1 ⟨l.val % 64, by omega⟩))
  choose Q' hQ' using fun (r : Fin 8192) (l : Fin 256) => norm32_real (q' r) l (h3 (ix1 ⟨l.val % 32, by omega⟩))
  choose K' hK' using fun (r : Fin 8192) (l : Fin 256) => norm32_real (k' r) l (h4 (ix1 ⟨l.val % 32, by omega⟩))
  obtain ⟨lam, hlam⟩ := lamOf_real (fun x => h6 (ix2 (0 : Fin 4) x)) (fun x => h6 (ix2 (1 : Fin 4) x)) (fun x => h6 (ix2 (2 : Fin 4) x)) (fun x => h6 (ix2 (3 : Fin 4) x))
  have sh : ∀ (n o : ℕ) (l : Fin 256) (h : n + (o + l.val) < 2560), (⟨n + (o + l.val), h⟩ : Fin 2560) = ⟨n + o + l.val, by omega⟩ := fun n o l h => Fin.ext (by dsimp only; omega)
  refine ⟨q, k, q', k', v', Q, K, Q', K', lam, { hk := fun r l => ?_, hk' := fun r l => ?_, hq := hq, hq' := hq', hv' := fun r l => ?_, hQ := hQ, hK := hK, hQ' := hQ', hK' := hK', hlam := hlam }⟩
  · exact (congrArg (fun i => x0 (ix2 _ i)) (sh 512 256 l _).symm).trans (hk r l)
  · exact (congrArg (fun i => x0 (ix2 _ i)) (sh 1280 256 l _).symm).trans (hk' r l)
  · exact (congrArg (fun i => x0 (ix2 _ i)) (sh 1280 512 l _).symm).trans (hv' r l)

end Cert.Pre_ctx_finite.Rows

end
-- ==== Proof.CtxOutputs.lean ====
/- What the context attention's body stores of its two attentions: each sequence's results, and the block of two sequences. -/
module

public import proofs.«01_k».proof.Proof.CtxAttend

@[expose] public section

set_option maxRecDepth 16384

noncomputable section

open Idealize.ShloMosaic Idealize.ShloMosaic.TcCoe Idealize.SL.Sem

namespace Cert.CtxIdeal.Rows

open Cert.CtxIdeal Cert.CtxIdeal.Gen Cert.CtxAttn Cert.DiffAttn
open Cert.DiffIdeal.Rows (coe_sum IsReal)

/-! ## The first attention -/

/-- The values under weights, divided by the weights' sums, as the body has them. -/
def quotient (E : FVec Ideal S1024x256 .f32) (v : FVec Ideal S256x256 .f32) : FVec Ideal S1024x256 .f32 :=
  divf (matmul dot_S1024x256_S256x256_S1024x256_1_0_0_1_n_n none (truncf .bf16 E bitsLt_bf16_f32) (truncf .bf16 v bitsLt_bf16_f32) (constant S1024x256 .f32 0x00000000#32))
    (broadcastTo S1024x256 (shapeCast S1024x1 (multiReduction .add [1] S1024 E 0x00000000#32 reduces_S1024x256_S1024 (.inl rfl) rfl) shapeCasts_S1024_S1024x1) broadcasts_S1024x1_S1024x256)

theorem quotient_at (E : FVec Ideal S1024x256 .f32) (v : FVec Ideal S256x256 .f32) (r : Fin 1024) (l : Fin 256) :
    quotient E v (ix2 r l) = Ideal.div (∑ x : Fin 256, E (ix2 r x) * v (ix2 x l)) (∑ x : Fin 256, E (ix2 r x)) := by
  unfold quotient
  pointwise []

/-- The first attention of a sequence, as the body has it. -/
def full (q k v : FVec Ideal S256x256 .f32) : FVec Ideal S256x256 .f32 := heads4 (quotient (expo64 (scores64 q k)) v)

variable {q k : FVec Ideal S256x256 .f32} {Q K : Fin 256 → Fin 256 → ℝ} (hq : ∀ y l, q (ix2 y l) = (Q y l : EReal)) (hk : ∀ y l, k (ix2 y l) = (K y l : EReal))

include hq hk in
theorem full_at (v : FVec Ideal S256x256 .f32) (y l : Fin 256) :
    full q k v (ix2 y l) = attended (Q y) K (fun x => v (ix2 x l)) ⟨l.val / 64, by omega⟩ := by
  unfold full
  rw [heads4_at, quotient_at]
  obtain ⟨μ, hμ⟩ := expo64_at (scores64 q k) _ (scores64_at hq hk) ⟨256 * (l.val / 64) + y.val, by omega⟩
  refine (attend_coe _ μ _ hμ _).trans ?_
  have e1 : (⟨(256 * (l.val / 64) + y.val) % 256, by omega⟩ : Fin 256) = y := Fin.ext (by dsimp only; omega)
  have e2 : (⟨(256 * (l.val / 64) + y.val) / 256, by omega⟩ : Fin 4) = ⟨l.val / 64, by omega⟩ := Fin.ext (by dsimp only; omega)
  unfold attended
  simp only [e1, e2]

/-! ## The differential attention -/

/-- The normalised weights, as the body has them. -/
def probs (E : FVec Ideal S2048x256 .f32) : FVec Ideal S2048x256 .f32 :=
  mulf E (broadcastTo S2048x256 (divf (broadcast S2048x1 (Scalar.ofBits (F := Ideal) .f32 0x3F800000#32))
    (shapeCast S2048x1 (multiReduction .add [1] S2048 E 0x00000000#32 reduces_S2048x256_S2048 (.inl rfl) rfl) shapeCasts_S2048_S2048x1)) broadcasts_S2048x1_S2048x256)

theorem probs_at (E : FVec Ideal S2048x256 .f32) (r : Fin 2048) (x : Fin 256) :
    probs E (ix2 r x) = E (ix2 r x) * Ideal.div (Ideal.ofBits FTy.f32 0x3F800000#32) (∑ y : Fin 256, E (ix2 r y)) := by
  unfold probs
  pointwise []

include hq hk in
/-- The weights over real queries and keys. -/
theorem probs_coe (r : Fin 2048) (x : Fin 256) :
    probs (expo32 (scores32 q k)) (ix2 r x) = (weight (fun y => score32 (Q ⟨r.val % 256, by omega⟩) (K y) ⟨r.val / 256, by omega⟩) x : EReal) := by
  rw [probs_at]
  obtain ⟨μ, hμ⟩ := expo32_at (scores32 q k) _ (scores32_at hq hk) r
  exact weight_coe _ μ _ hμ x

/-- The two halves' weights of every head, subtracted, as the body has them. -/
def differ (lam : FVec Ideal S1x1 .f32) (P : FVec Ideal S2048x256 .f32) : FVec Ideal S1024x256 .f32 :=
  concatenate S1024x256 0
    [⟨S256x256, subf (extractStridedSlice S256x256 ![0, 0] P slices_S2048x256_o0_0_S256x256)
        (mulf (broadcastTo S256x256 lam broadcasts_S1x1_S256x256) (extractStridedSlice S256x256 ![256, 0] P slices_S2048x256_o256_0_S256x256))⟩,
      ⟨S256x256, subf (extractStridedSlice S256x256 ![512, 0] P slices_S2048x256_o512_0_S256x256)
        (mulf (broadcastTo S256x256 lam broadcasts_S1x1_S256x256) (extractStridedSlice S256x256 ![768, 0] P slices_S2048x256_o768_0_S256x256))⟩,
      ⟨S256x256, subf (extractStridedSlice S256x256 ![1024, 0] P slices_S2048x256_o1024_0_S256x256)
        (mulf (broadcastTo S256x256 lam broadcasts_S1x1_S256x256) (extractStridedSlice S256x256 ![1280, 0] P slices_S2048x256_o1280_0_S256x256))⟩,
      ⟨S256x256, subf (extractStridedSlice S256x256 ![1536, 0] P slices_S2048x256_o1536_0_S256x256)
        (mulf (broadcastTo S256x256 lam broadcasts_S1x1_S256x256) (extractStridedSlice S256x256 ![1792, 0] P slices_S2048x256_o1792_0_S256x256))⟩]
    concatenates_S256x256_S256x256_S256x256_S256x256_S1024x256_d0

theorem differ_at (lam : FVec Ideal S1x1 .f32) (P : FVec Ideal S2048x256 .f32) (r : Fin 1024) (x : Fin 256) :
    differ lam P (ix2 r x) = (P (ix2 ⟨512 * (r.val / 256) + r.val % 256, by omega⟩ x)
      - lam (ix2 (0 : Fin 1) (0 : Fin 1)) * P (ix2 ⟨512 * (r.val / 256) + 256 + r.val % 256, by omega⟩ x) : EReal) := by
  unfold differ
  pointwise []
  have at' (a b : Fin 2048) (ha : a.val = 512 * (r.val / 256) + r.val % 256) (hb : b.val = 512 * (r.val / 256) + 256 + r.val % 256) :
      (P (ix2 a x) - lam (ix2 (0 : Fin 1) (0 : Fin 1)) * P (ix2 b x) : EReal) = (P (ix2 ⟨512 * (r.val / 256) + r.val % 256, by omega⟩ x)
      - lam (ix2 (0 : Fin 1) (0 : Fin 1)) * P (ix2 ⟨512 * (r.val / 256) + 256 + r.val % 256, by omega⟩ x) : EReal) :=
    congrArg₂ (fun a b => (P (ix2 a x) - lam (ix2 (0 : Fin 1) (0 : Fin 1)) * P (ix2 b x) : EReal)) (Fin.ext ha) (Fin.ext hb)
  split_ifs <;> exact at' _ _ (by dsimp only; omega) (by dsimp only; omega)

/-- The values under the subtracted weights, as the body has them. -/
def mixture (W : FVec Ideal S1024x256 .f32) (v : FVec Ideal S256x256 .f32) : FVec Ideal S1024x256 .f32 :=
  matmul dot_S1024x256_S256x256_S1024x256_1_0_0_1_n_n none (truncf .bf16 W bitsLt_bf16_f32) (truncf .bf16 v bitsLt_bf16_f32) (constant S1024x256 .f32 0x00000000#32)

theorem mixture_at (W : FVec Ideal S1024x256 .f32) (v : FVec Ideal S256x256 .f32) (r : Fin 1024) (l : Fin 256) :
    mixture W v (ix2 r l) = ∑ x : Fin 256, W (ix2 r x) * v (ix2 x l) := by
  unfold mixture
  pointwise []

/-- The differential attention of a sequence before it is normalised, as the body has it. -/
def contrast (lam : FVec Ideal S1x1 .f32) (q k v : FVec Ideal S256x256 .f32) : FVec Ideal S256x256 .f32 :=
  heads4 (mixture (differ lam (probs (expo32 (scores32 q k)))) v)

include hq hk in
theorem contrast_at (lam : FVec Ideal S1x1 .f32) (L : ℝ) (hL : lam (ix2 (0 : Fin 1) (0 : Fin 1)) = (L : EReal)) (v : FVec Ideal S256x256 .f32) (V : Fin 256 → Fin 256 → ℝ)
    (hv : ∀ y l, v (ix2 y l) = (V y l : EReal)) (y l : Fin 256) :
    contrast lam q k v (ix2 y l) = ((contrasted L (Q y) K (fun x => V x l) ⟨l.val / 64, by omega⟩ : ℝ) : EReal) := by
  unfold contrast
  rw [heads4_at, mixture_at]
  unfold contrasted
  rw [coe_sum]
  refine Finset.sum_congr rfl fun x _ => ?_
  rw [differ_at, probs_coe hq hk, probs_coe hq hk, hL, hv, ← EReal.coe_mul, ← EReal.coe_sub, ← EReal.coe_mul]
  have e1 : (⟨(512 * ((256 * (l.val / 64) + y.val) / 256) + (256 * (l.val / 64) + y.val) % 256) % 256, by omega⟩ : Fin 256) = y := Fin.ext (by dsimp only; omega)
  have e2 : (⟨(512 * ((256 * (l.val / 64) + y.val) / 256) + (256 * (l.val / 64) + y.val) % 256) / 256, by omega⟩ : Fin 8) = ⟨2 * (l.val / 64), by omega⟩ := Fin.ext (by dsimp only; omega)
  have e3 : (⟨(512 * ((256 * (l.val / 64) + y.val) / 256) + 256 + (256 * (l.val / 64) + y.val) % 256) % 256, by omega⟩ : Fin 256) = y := Fin.ext (by dsimp only; omega)
  have e4 : (⟨(512 * ((256 * (l.val / 64) + y.val) / 256) + 256 + (256 * (l.val / 64) + y.val) % 256) / 256, by omega⟩ : Fin 8) = ⟨2 * (l.val / 64) + 1, by omega⟩ := Fin.ext (by dsimp only; omega)
  dsimp only
  simp only [e1, e2, e3, e4]

/-- The differential attention's result, normalised and scaled, as the body has it. -/
def finished (O : FVec Ideal S256x256 .f32) (g : FVec Ideal S1x256 .f32) : FVec Ideal S256x256 .f32 :=
  mulf (normed64 O g) (broadcast S256x256 (Scalar.ofBits (F := Ideal) .f32 0x3F4CCCCD#32))

theorem finished_at (O : FVec Ideal S256x256 .f32) (g : FVec Ideal S1x256 .f32) (o : Fin 256 → Fin 256 → ℝ) (ho : ∀ y l, O (ix2 y l) = (o y l : EReal)) (y l : Fin 256) :
    finished O g (ix2 y l) = norm64 (o y) l (g (ix2 (0 : Fin 1) l)) * Ideal.ofBits FTy.f32 0x3F4CCCCD#32 := by
  have e : finished O g (ix2 y l) = normed64 O g (ix2 y l) * Ideal.ofBits FTy.f32 0x3F4CCCCD#32 := by
    unfold finished
    pointwise []
  rw [e, normed64_at O g o ho]

/-- The proportion of the differential attention. -/
theorem lam_at (x11 : Vec Ideal S4x32 .f32) : k0_pay3 (F := Ideal) (View.ld x11 r0_0) (ix2 (0 : Fin 1) (0 : Fin 1))
    = lamOf (fun x => x11 (ix2 (0 : Fin 4) x)) (fun x => x11 (ix2 (1 : Fin 4) x)) (fun x => x11 (ix2 (2 : Fin 4) x)) (fun x => x11 (ix2 (3 : Fin 4) x)) := by
  rw [View.ld_unit_zero (by funext a; fin_cases a <;> rfl)]
  pointwise [k0_pay3, lamOf]

/-! ## A block of two sequences -/

/-- A block of two sequences' rows. -/
def blockOf (A : Fin 2 → FVec Ideal S256x256 .f32) : Vec Ideal S512x256 .f32 := fun y =>
  A ⟨(y 0).val / 256, by have h : (y 0).val < 512 := (y 0).isLt; omega⟩ (ix2 ⟨(y 0).val % 256, by omega⟩ (y 1))

/-- The store of a sequence's rows. -/
def part (A : Fin 2 → FVec Ideal S256x256 .f32) (b : Fin 2) : View.Piece (Elt Ideal) S512x256 .f32 := ⟨rowsOf b, A b⟩

theorem part_at (A : Fin 2 → FVec Ideal S256x256 .f32) (b : Fin 2) (x : (part A b).1.shape.Idx) : (part A b).2 x = blockOf A ((part A b).1.emb x) := by
  change S256x256.Idx at x
  show A b x = blockOf A ((rowsOf b).emb x)
  idx_vars x
  have e : (rowsOf b).emb (ix2 x0 x1) = ix2 ⟨256 * b.val + x0.val, by omega⟩ x1 := by
    funext a
    refine Fin.ext ?_
    rw [Rect.emb_apply]
    fin_cases a <;> simp [Rect.unit]
  rw [e]
  unfold blockOf
  have e1 : (⟨(256 * b.val + x0.val) / 256, by omega⟩ : Fin 2) = b := Fin.ext (by dsimp only; omega)
  have e2 : (⟨(256 * b.val + x0.val) % 256, by omega⟩ : Fin 256) = x0 := Fin.ext (by dsimp only; omega)
  show A b (ix2 x0 x1) = A ⟨(256 * b.val + x0.val) / 256, _⟩ (ix2 ⟨(256 * b.val + x0.val) % 256, _⟩ x1)
  rw [e1, e2]

/-- The two stores write the block. -/
theorem canon_parts (A : Fin 2 → FVec Ideal S256x256 .f32) : View.canon [part A 1, part A 0] = blockOf A := by
  funext y
  refine View.canon_apply_of_pieces _ _ (fun p hp x => ?_) y (cover0_12 _ _ y)
  simp only [List.mem_cons, List.not_mem_nil, or_false] at hp
  rcases hp with rfl | rfl <;> exact part_at A _ x

variable (x0 x1 x2 x3 x4 x5 : Vec Ideal S512x256 .f32) (x6 x7 x8 x9 x10 : Vec Ideal S1x256 .f32) (x11 : Vec Ideal S4x32 .f32)

/-- The queries of the first attention, by sequence. -/
abbrev queries64 (b : Fin 2) : FVec Ideal S256x256 .f32 := normed64 (View.ld x0 (rowsOf b)) (k0_pay12 (View.ld x6 r0_2))

/-- The queries of the differential attention, by sequence. -/
abbrev queries32 (b : Fin 2) : FVec Ideal S256x256 .f32 := normed32 (View.ld x3 (rowsOf b)) (k0_pay12 (View.ld x8 r0_2))

/-- The first attention's block, by sequence. -/
abbrev fulls (b : Fin 2) : FVec Ideal S256x256 .f32 := full (queries64 x0 x6 b) (keys64 x1 x7 b) (View.ld x2 (rowsOf b))

/-- The differential attention's block before it is normalised, by sequence. -/
abbrev contrasts (b : Fin 2) : FVec Ideal S256x256 .f32 := contrast (k0_pay3 (View.ld x11 r0_0)) (queries32 x3 x8 b) (keys32 x4 x9 b) (View.ld x5 (rowsOf b))

/-- The first attention's stored block. -/
theorem block12 : out0_12 x0 x1 x2 x3 x4 x5 x6 x7 x8 x9 x10 x11 = blockOf (fulls x0 x1 x2 x6 x7) := by
  rw [← canon_parts]
  rfl

/-- The differential attention's stored block. -/
theorem block13 : out0_13 x0 x1 x2 x3 x4 x5 x6 x7 x8 x9 x10 x11 = blockOf (fun b => finished (contrasts x3 x4 x5 x8 x9 x11 b) (k0_pay12 (View.ld x10 r0_2))) := by
  rw [← canon_parts]
  rfl

end Cert.CtxIdeal.Rows

end
-- ==== Proof.CtxResults.lean ====
/- What the context attention's launch leaves in its two results, of the arguments. -/
module

public import proofs.«01_k».proof.Proof.CtxArgs
public import proofs.«01_k».proof.Proof.CtxOutputs

@[expose] public section

set_option maxRecDepth 16384

noncomputable section

open Idealize.ShloMosaic Idealize.ShloMosaic.TcCoe Idealize.SL.Sem
open Idealize.ShloMosaic.Pipeline (Dat)

namespace Cert.CtxIdeal.Rows

open Cert.CtxIdeal Cert.CtxIdeal.Gen Cert.CtxAttn Cert.DiffAttn

/-- Which block the windows of the queries, the gains, the proportion and the results are on at a point. -/
theorem index_out : ∀ t : Fin cfg0.N, win0_0.index t = ![t.val, 2] ∧ win0_3.index t = ![t.val, 5] ∧ win0_6.index t = ![0, 0] ∧ win0_8.index t = ![0, 0]
    ∧ win0_10.index t = ![0, 0] ∧ win0_11.index t = ![0, 0] ∧ win0_12.index t = ![t.val, 0] ∧ win0_13.index t = ![t.val, 0] :=
  (by decide +kernel : ∀ t : Fin grid0.N, win0_0.index t = ![t.val, 2] ∧ win0_3.index t = ![t.val, 5] ∧ win0_6.index t = ![0, 0] ∧ win0_8.index t = ![0, 0]
    ∧ win0_10.index t = ![0, 0] ∧ win0_11.index t = ![0, 0] ∧ win0_12.index t = ![t.val, 0] ∧ win0_13.index t = ![t.val, 0])

variable (m : (ℓ : Loc nD τ sig) → Buf (Elt Ideal) ℓ)

/-- The first attention's query block at a point, an element. -/
theorem block0 (c : Dev nD) (t : Fin cfg0.N) (y : Fin 512) (l : Fin 256) :
    iblk m c 0 t (ix2 y l) = m ((c : Thread nD τ).loc main_arg0) (ix2 ⟨t.val * 512 + y.val, rows_lt t y⟩ ⟨512 + l.val, by omega⟩) := by
  obtain ⟨e, -⟩ := index_out t
  blk_ext [iblk, V, e]

/-- The differential attention's query block at a point, an element. -/
theorem block3 (c : Dev nD) (t : Fin cfg0.N) (y : Fin 512) (l : Fin 256) :
    iblk m c 3 t (ix2 y l) = m ((c : Thread nD τ).loc main_arg0) (ix2 ⟨t.val * 512 + y.val, rows_lt t y⟩ ⟨1280 + l.val, by omega⟩) := by
  obtain ⟨-, e, -⟩ := index_out t
  blk_ext [iblk, V, e]

/-- The first attention's query gains, repeated to a row. -/
theorem block6 (c : Dev nD) (t : Fin cfg0.N) (l : Fin 256) :
    iblk m c 6 t (ix2 (0 : Fin 1) l) = m ((c : Thread nD τ).loc main_arg1) (ix1 ⟨l.val % 64, by omega⟩) := by
  obtain ⟨-, -, e, -⟩ := index_out t
  blk_ext! [iblk, e]

/-- The differential attention's query gains, repeated to a row. -/
theorem block8 (c : Dev nD) (t : Fin cfg0.N) (l : Fin 256) :
    iblk m c 8 t (ix2 (0 : Fin 1) l) = m ((c : Thread nD τ).loc main_arg3) (ix1 ⟨l.val % 32, by omega⟩) := by
  obtain ⟨-, -, -, e, -⟩ := index_out t
  blk_ext! [iblk, e]

/-- The result's gains, repeated to a row. -/
theorem block10 (c : Dev nD) (t : Fin cfg0.N) (l : Fin 256) :
    iblk m c 10 t (ix2 (0 : Fin 1) l) = m ((c : Thread nD τ).loc main_arg5) (ix1 ⟨l.val % 64, by omega⟩) := by
  obtain ⟨-, -, -, -, e, -⟩ := index_out t
  blk_ext! [iblk, e]

/-- The proportion's rows. -/
theorem block11 (c : Dev nD) (t : Fin cfg0.N) (s : Fin 4) (x : Fin 32) :
    iblk m c 11 t (ix2 s x) = m ((c : Thread nD τ).loc main_arg6) (ix2 s x) := by
  obtain ⟨-, -, -, -, -, e, -⟩ := index_out t
  blk_ext [iblk, V, e]

theorem out_lt (t : Fin cfg0.N) (y : Fin 512) : t.val * 512 + y.val < 8192 := by
  have := t.isLt; have h : cfg0.N = 16 := N_0; omega

/-- The place of an element of the first result's block. -/
theorem place12 (t : Fin cfg0.N) (y : Fin 512) (l : Fin 256) : ((cfg0.win 12).blk t).view.emb (ix2 y l) = ix2 ⟨t.val * 512 + y.val, out_lt t y⟩ l := by
  obtain ⟨-, -, -, -, -, -, e, -⟩ := index_out t
  blk_ext [e]

/-- The place of an element of the second result's block. -/
theorem place13 (t : Fin cfg0.N) (y : Fin 512) (l : Fin 256) : ((cfg0.win 13).blk t).view.emb (ix2 y l) = ix2 ⟨t.val * 512 + y.val, out_lt t y⟩ l := by
  obtain ⟨-, -, -, -, -, -, -, e⟩ := index_out t
  blk_ext [e]

/-- The arguments in memory are these real numbers. -/
abbrev RealArr (c : Dev nD) (q k q' k' v' Q K Q' K' : Fin 8192 → Fin 256 → ℝ) (lam : ℝ) : Prop :=
  RealCtx (fun r l => m ((c : Thread nD τ).loc main_arg0) (ix2 r l)) (fun d => m ((c : Thread nD τ).loc main_arg1) (ix1 d)) (fun d => m ((c : Thread nD τ).loc main_arg2) (ix1 d))
    (fun d => m ((c : Thread nD τ).loc main_arg3) (ix1 d)) (fun d => m ((c : Thread nD τ).loc main_arg4) (ix1 d)) (fun s x => m ((c : Thread nD τ).loc main_arg6) (ix2 s x))
    q k q' k' v' Q K Q' K' lam

/-- The first result: the first attention's. -/
def value12 (Q K : Fin 8192 → Fin 256 → ℝ) (c : Dev nD) : Buf (Elt Ideal) ((c : Thread nD τ).loc main_v20_0) := fun i =>
  result64 Q K (fun r l => m ((c : Thread nD τ).loc main_arg0) (ix2 ⟨r.val, by omega⟩ ⟨1024 + l.val, by omega⟩)) (i 0) (i 1)

/-- The second result: the differential attention's. -/
def value13 (lam : ℝ) (Q' K' v' : Fin 8192 → Fin 256 → ℝ) (c : Dev nD) : Buf (Elt Ideal) ((c : Thread nD τ).loc main_v20_1) := fun i =>
  result32 lam Q' K' v' (i 0) (i 1) (m ((c : Thread nD τ).loc main_arg5) (ix1 ⟨(i 1).val % 64, by omega⟩))

theorem blockOf_at (A : Fin 2 → FVec Ideal S256x256 .f32) (b : Fin 2) (r l : Fin 256) : blockOf A (ix2 ⟨256 * b.val + r.val, by omega⟩ l) = A b (ix2 r l) := by
  have e1 : (⟨(256 * b.val + r.val) / 256, by omega⟩ : Fin 2) = b := Fin.ext (by dsimp only; omega)
  have e2 : (⟨(256 * b.val + r.val) % 256, by omega⟩ : Fin 256) = r := Fin.ext (by dsimp only; omega)
  show A ⟨(256 * b.val + r.val) / 256, _⟩ (ix2 ⟨(256 * b.val + r.val) % 256, _⟩ l) = _
  rw [e1, e2]

/-- A row of a block, by sequence. -/
theorem split_row (y : Fin 512) : ∃ (b : Fin 2) (r : Fin 256), y = ⟨256 * b.val + r.val, by omega⟩ :=
  ⟨⟨y.val / 256, by omega⟩, ⟨y.val % 256, by omega⟩, Fin.ext (by dsimp only; omega)⟩

theorem mate_tok (t : Fin cfg0.N) (b : Fin 2) (r x : Fin 256) : mate (tok t b r) x = tok t b x :=
  Fin.ext (by show ((t.val * 2 + b.val) * 256 + r.val) / 256 * 256 + x.val = (t.val * 2 + b.val) * 256 + x.val; omega)

theorem tok_out (t : Fin cfg0.N) (b : Fin 2) (r : Fin 256) (h : t.val * 512 + (256 * b.val + r.val) < 8192) : (⟨t.val * 512 + (256 * b.val + r.val), h⟩ : Fin 8192) = tok t b r :=
  Fin.ext (tok_row t b r)

variable {q k q' k' v' Q K Q' K' : Fin 8192 → Fin 256 → ℝ} {lam : ℝ}

variable (c : Dev nD) (H : RealArr m c q k q' k' v' Q K Q' K' lam)

include H

theorem queries64_at (t : Fin cfg0.N) (b : Fin 2) (y l : Fin 256) : queries64 (iblk m c 0 t) (iblk m c 6 t) b (ix2 y l) = (Q (tok t b y) l : EReal) := by
  refine (normed64_at _ _ (fun r l => q (tok t b r) l) (fun r l => ?_) _ _).trans ?_
  · rw [rows_at, block0]
    exact (elem_at _ t b r _ _).trans (H.hq _ _)
  · rw [gain_at, block6]
    exact H.hQ _ _

theorem keys64_at (t : Fin cfg0.N) (b : Fin 2) (y l : Fin 256) : keys64 (iblk m c 1 t) (iblk m c 7 t) b (ix2 y l) = (K (tok t b y) l : EReal) := by
  refine (normed64_at _ _ (fun r l => k (tok t b r) l) (fun r l => ?_) _ _).trans ?_
  · rw [rows_at, block1]
    exact (elem_at _ t b r _ _).trans (H.hk _ _)
  · rw [gain_at, block7]
    exact H.hK _ _

theorem queries32_at (t : Fin cfg0.N) (b : Fin 2) (y l : Fin 256) : queries32 (iblk m c 3 t) (iblk m c 8 t) b (ix2 y l) = (Q' (tok t b y) l : EReal) := by
  refine (normed32_at _ _ (fun r l => q' (tok t b r) l) (fun r l => ?_) _ _).trans ?_
  · rw [rows_at, block3]
    exact (elem_at _ t b r _ _).trans (H.hq' _ _)
  · rw [gain_at, block8]
    exact H.hQ' _ _

theorem keys32_at (t : Fin cfg0.N) (b : Fin 2) (y l : Fin 256) : keys32 (iblk m c 4 t) (iblk m c 9 t) b (ix2 y l) = (K' (tok t b y) l : EReal) := by
  refine (normed32_at _ _ (fun r l => k' (tok t b r) l) (fun r l => ?_) _ _).trans ?_
  · rw [rows_at, block4]
    exact (elem_at _ t b r _ _).trans (H.hk' _ _)
  · rw [show k0_pay47 (F := Ideal) = k0_pay12 from rfl, gain_at, block9]
    exact H.hK' _ _

theorem values32_at (t : Fin cfg0.N) (b : Fin 2) (y l : Fin 256) : View.ld (iblk m c 5 t) (rowsOf b) (ix2 y l) = (v' (tok t b y) l : EReal) := by
  rw [rows_at, block5]
  exact (elem_at _ t b y _ _).trans (H.hv' _ _)

theorem lam_mem (t : Fin cfg0.N) : k0_pay3 (F := Ideal) (View.ld (iblk m c 11 t) r0_0) (ix2 (0 : Fin 1) (0 : Fin 1)) = (lam : EReal) := by
  rw [lam_at]
  simp only [block11]
  exact H.hlam

/-- The first result's array. -/
theorem array_eq12 : (dats m 0 c).arrAt 12 cfg0.N = value12 m Q K c := by
  refine (dats m 0 c).arrAt_eq_of_covers 12 _ (by decide +kernel) fun t hf y => ?_
  idx_vars y
  rw [place12]
  obtain ⟨b, r, rfl⟩ := split_row y0
  blk_simp [value12]
  rw [after0_12, block12, blockOf_at]
  refine (full_at (queries64_at m c H t b) (keys64_at m c H t b) _ r y1).trans ?_
  rw [tok_out]
  show _ = result64 Q K (fun r l => m ((c : Thread nD τ).loc main_arg0) (ix2 ⟨r.val, by omega⟩ ⟨1024 + l.val, by omega⟩)) (tok t b r) y1
  unfold result64
  refine congrArg₂ (fun K v => attended (Q (tok t b r)) K v ⟨y1.val / 64, _⟩) (funext fun x => ?_) (funext fun x => ?_)
  · rw [mate_tok]
  · rw [mate_tok, rows_at, block2]
    exact elem_at _ t b x _ _

/-- The second result's array. -/
theorem array_eq13 : (dats m 0 c).arrAt 13 cfg0.N = value13 m lam Q' K' v' c := by
  refine (dats m 0 c).arrAt_eq_of_covers 13 _ (by decide +kernel) fun t hf y => ?_
  idx_vars y
  rw [place13]
  obtain ⟨b, r, rfl⟩ := split_row y0
  blk_simp [value13]
  rw [after0_13, block13, blockOf_at]
  refine (finished_at _ _ _ (contrast_at (queries32_at m c H t b) (keys32_at m c H t b) _ lam (lam_mem m c H t) _ _ (values32_at m c H t b)) r y1).trans ?_
  rw [tok_out]
  show _ = result32 lam Q' K' v' (tok t b r) y1 (m ((c : Thread nD τ).loc main_arg5) (ix1 ⟨y1.val % 64, by omega⟩))
  unfold result32
  rw [gain_at, block10]
  simp only [mate_tok]

end Cert.CtxIdeal.Rows

end
-- ==== Proof.CtxRefValue.lean ====
/- What the context attention's reference computes of its two states, an element at a time. -/
module

public import proofs.«01_k».proof.Proof.CtxNorm
public import proofs.«01_k».proof.Proof.Gen.CtxRefIdeal.Read
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.CtxRefIdeal.Rows

open Cert.CtxRefIdeal Cert.CtxRefIdeal.Gen Cert.CtxRefIdeal.Read Cert.CtxAttn Cert.DiffAttn

/-- A 32nd. -/
theorem div_32 (x : ℝ) : Ideal.div (x : EReal) (Ideal.ofBits FTy.f32 0x42000000#32) = (x : EReal) * Ideal.ofBits FTy.f32 0x3D000000#32 := by
  have e : Ideal.ofBits FTy.f32 0x42000000#32 = ((32 : ℝ) : EReal) := by simp [Ideal.ofBits, Ideal.ieee, -EReal.coe_mul]; norm_num
  have e' : Ideal.ofBits FTy.f32 0x3D000000#32 = ((1 / 32 : ℝ) : EReal) := by simp [Ideal.ofBits, Ideal.ieee, -EReal.coe_mul]; norm_num
  rw [e, e', div_coe _ _ (by norm_num), ← EReal.coe_mul]
  exact congrArg _ (by ring)

variable (x0 : (⟨S16384x2560, .f32⟩ : BufTy).Contents (Elt Ideal)) (x2 : (⟨S64, .f32⟩ : BufTy).Contents (Elt Ideal)) (x4 : (⟨S32, .f32⟩ : BufTy).Contents (Elt Ideal))

/-- A first attention's key before it is normalised. -/
theorem key_at (b : Fin 32) (h : Fin 4) (r : Fin 256) (d : Fin 64) : val_main_v3 (F := Ideal) x0 (ix4 b h r d) = x0 (ix2 ⟨b.val * 256 + r.val, by omega⟩ ⟨768 + (64 * h.val + d.val), by omega⟩) := by
  pointwise [val_main_v0, val_main_v1, val_main_v2, val_main_v3]
  congr 2 <;> exact Fin.ext (by dsimp only; omega)

/-- A first attention's value. -/
theorem value_at (b : Fin 32) (h : Fin 4) (r : Fin 256) (d : Fin 64) : val_main_v20 (F := Ideal) x0 (ix4 b h r d) = x0 (ix2 ⟨b.val * 256 + r.val, by omega⟩ ⟨1024 + (64 * h.val + d.val), by omega⟩) := by
  pointwise [val_main_v17, val_main_v18, val_main_v19, val_main_v20]
  congr 2 <;> exact Fin.ext (by dsimp only; omega)

/-- A differential attention's key before it is normalised, of the `s`-th half of a head. -/
theorem key'_at (b : Fin 32) (h : Fin 4) (r : Fin 256) (s : Fin 2) (d : Fin 32) : val_main_v25 (F := Ideal) x0 (ix5 b h r s d) = x0 (ix2 ⟨b.val * 256 + r.val, by omega⟩ ⟨1536 + (64 * h.val + (32 * s.val + d.val)), by omega⟩) := by
  pointwise [val_main_v21, val_main_v22, val_main_v23, val_main_v24, val_main_v25]
  congr 2 <;> exact Fin.ext (by dsimp only; omega)

/-- A differential attention's value. -/
theorem value'_at (b : Fin 32) (h : Fin 4) (r : Fin 256) (d : Fin 64) : val_main_v42 (F := Ideal) x0 (ix4 b h r d) = x0 (ix2 ⟨b.val * 256 + r.val, by omega⟩ ⟨1792 + (64 * h.val + d.val), by omega⟩) := by
  pointwise [val_main_v39, val_main_v40, val_main_v41, val_main_v42]
  congr 2 <;> exact Fin.ext (by dsimp only; omega)

/-- A first attention's normalised key. -/
theorem normed_at (b : Fin 32) (h : Fin 4) (r : Fin 256) (d : Fin 64) : val_main_v16 (F := Ideal) x0 x2 (ix4 b h r d)
    = val_main_v3 (F := Ideal) x0 (ix4 b h r d) * Ideal.rsqrt (Ideal.div (∑ j : Fin 64, val_main_v3 (F := Ideal) x0 (ix4 b h r j) * val_main_v3 (F := Ideal) x0 (ix4 b h r j)) (Ideal.ofBits FTy.f32 0x42800000#32)
        + Ideal.ofBits FTy.f32 0x358637BD#32) * x2 (ix1 d) := by
  pointwise [val_main_v4, val_main_v5, val_main_v6, val_main_v7, val_main_v8, val_main_v9, val_main_v10, val_main_v11, val_main_v12, val_main_v13, val_main_v14, val_main_v15, val_main_v16, val_main_cst, val_main_cst_0, val_main_cst_1]

/-- A differential attention's normalised key. -/
theorem normed'_at (b : Fin 32) (h : Fin 4) (r : Fin 256) (s : Fin 2) (d : Fin 32) : val_main_v38 (F := Ideal) x0 x4 (ix5 b h r s d)
    = val_main_v25 (F := Ideal) x0 (ix5 b h r s d) * Ideal.rsqrt (Ideal.div (∑ j : Fin 32, val_main_v25 (F := Ideal) x0 (ix5 b h r s j) * val_main_v25 (F := Ideal) x0 (ix5 b h r s j)) (Ideal.ofBits FTy.f32 0x42000000#32)
        + Ideal.ofBits FTy.f32 0x358637BD#32) * x4 (ix1 d) := by
  pointwise [val_main_v26, val_main_v27, val_main_v28, val_main_v29, val_main_v30, val_main_v31, val_main_v32, val_main_v33, val_main_v34, val_main_v35, val_main_v36, val_main_v37, val_main_v38, val_main_cst_2, val_main_cst_3, val_main_cst_4]

/-- The first state, of its two parts. -/
theorem state_at (b : Fin 32) (s : Fin 2) (h : Fin 4) (r : Fin 256) (d : Fin 64) : val_main_v45 (F := Ideal) x0 x2 (ix5 b s h r d)
    = if s.val = 0 then val_main_v16 (F := Ideal) x0 x2 (ix4 b h r d) else val_main_v20 (F := Ideal) x0 (ix4 b h r d) := by
  pointwise [val_main_v43, val_main_v44, val_main_v45]
  rw [dite_eq_ite]
  exact if_congr (by omega) rfl rfl

/-- The second state, of its two parts. -/
theorem state'_at (b : Fin 32) (s : Fin 2) (h : Fin 4) (r : Fin 256) (d : Fin 64) : val_main_v49 (F := Ideal) x0 x4 (ix5 b s h r d)
    = if s.val = 0 then val_main_v38 (F := Ideal) x0 x4 (ix5 b h r ⟨d.val / 32, by omega⟩ ⟨d.val % 32, by omega⟩) else val_main_v42 (F := Ideal) x0 (ix4 b h r d) := by
  pointwise [val_main_v46, val_main_v47, val_main_v48, val_main_v49]
  rw [dite_eq_ite]
  exact if_congr (by omega) rfl rfl

variable {k k' : Fin 8192 → Fin 256 → ℝ} (H : RealKeys (fun r l => x0 (ix2 r l)) k k')

include H in
/-- The first state over real keys. -/
theorem ref45_at (b : Fin 32) (s : Fin 2) (h : Fin 4) (r : Fin 256) (d : Fin 64) : val_main_v45 (F := Ideal) x0 x2 (ix5 b s h r d)
    = stateAt (fun r l => norm64 (k r) l (x2 (ix1 ⟨l.val % 64, by omega⟩))) (fun r l => x0 (ix2 ⟨r.val, by omega⟩ ⟨1024 + l.val, by omega⟩)) b s h r d := by
  have e : ∀ j : Fin 64, val_main_v3 (F := Ideal) x0 (ix4 b h r j) = (k ⟨b.val * 256 + r.val, by omega⟩ ⟨64 * h.val + j.val, by omega⟩ : EReal) := fun j =>
    (key_at x0 b h r j).trans (H.hk ⟨b.val * 256 + r.val, by omega⟩ ⟨64 * h.val + j.val, by omega⟩)
  rw [state_at, normed_at, value_at]
  simp only [e]
  rw [sum_mul_coe, div_64]
  have e1 : ∀ j : Fin 64, (⟨(64 * h.val + d.val) / 64 * 64 + j.val, by omega⟩ : Fin 256) = ⟨64 * h.val + j.val, by omega⟩ := fun j => Fin.ext (by dsimp only; omega)
  have e2 : (⟨(64 * h.val + d.val) % 64, by omega⟩ : Fin 64) = d := Fin.ext (by dsimp only; omega)
  unfold stateAt norm64
  simp only [e1, e2]

include H in
/-- The second state over real keys. -/
theorem ref49_at (b : Fin 32) (s : Fin 2) (h : Fin 4) (r : Fin 256) (d : Fin 64) : val_main_v49 (F := Ideal) x0 x4 (ix5 b s h r d)
    = stateAt (fun r l => norm32 (k' r) l (x4 (ix1 ⟨l.val % 32, by omega⟩))) (fun r l => x0 (ix2 ⟨r.val, by omega⟩ ⟨1792 + l.val, by omega⟩)) b s h r d := by
  have e : ∀ (s : Fin 2) (j : Fin 32), val_main_v25 (F := Ideal) x0 (ix5 b h r s j) = (k' ⟨b.val * 256 + r.val, by omega⟩ ⟨64 * h.val + (32 * s.val + j.val), by omega⟩ : EReal) := fun s j =>
    (key'_at x0 b h r s j).trans (H.hk' ⟨b.val * 256 + r.val, by omega⟩ ⟨64 * h.val + (32 * s.val + j.val), by omega⟩)
  rw [state'_at, normed'_at, value'_at]
  simp only [e]
  rw [sum_mul_coe, div_32]
  have e1 : ∀ j : Fin 32, (⟨64 * h.val + (32 * (d.val / 32) + j.val), by omega⟩ : Fin 256) = ⟨32 * ((64 * h.val + d.val) / 32) + j.val, by omega⟩ := fun j => Fin.ext (by dsimp only; omega)
  have e2 : (⟨d.val % 32, by omega⟩ : Fin 32) = ⟨(64 * h.val + d.val) % 32, by omega⟩ := Fin.ext (by dsimp only; omega)
  have e3 : (⟨64 * h.val + (32 * (d.val / 32) + d.val % 32), by omega⟩ : Fin 256) = ⟨64 * h.val + d.val, by omega⟩ := Fin.ext (by dsimp only; omega)
  unfold stateAt norm32
  simp only [e1, e2, e3]

end Cert.CtxRefIdeal.Rows

end
-- ==== Proof.CtxRefStages.lean ====
/- What the context attention's reference computes of its two attentions, an element at a time. -/
module

public import proofs.«01_k».proof.Proof.CtxRefValue
public import proofs.«01_k».proof.Proof.CtxArgs
public import proofs.«01_k».proof.Proof.DiffRefReal

@[expose] public section

set_option maxRecDepth 16384

noncomputable section

open Idealize.ShloMosaic Idealize.ShloMosaic.TcCoe Idealize.SL.Sem

namespace Cert.CtxRefIdeal.Rows

open Cert.CtxRefIdeal Cert.CtxRefIdeal.Gen Cert.CtxRefIdeal.Read Cert.CtxAttn Cert.DiffAttn
open Cert.DiffIdeal.Rows (coe_sum IsReal)
open Cert.DiffRefIdeal.Rows (max_real negInf softmax_coe)

variable (x0 : (⟨S16384x2560, .f32⟩ : BufTy).Contents (Elt Ideal)) (x1 x2 : (⟨S64, .f32⟩ : BufTy).Contents (Elt Ideal)) (x3 x4 : (⟨S32, .f32⟩ : BufTy).Contents (Elt Ideal))
  (x5 : (⟨S64, .f32⟩ : BufTy).Contents (Elt Ideal)) (x6 : (⟨S4x32, .f32⟩ : BufTy).Contents (Elt Ideal))

/-- A first attention's query before it is normalised. -/
theorem query_at (b : Fin 32) (h : Fin 4) (r : Fin 256) (d : Fin 64) : val_main_v53 (F := Ideal) x0 (ix4 b h r d) = x0 (ix2 ⟨b.val * 256 + r.val, by omega⟩ ⟨512 + (64 * h.val + d.val), by omega⟩) := by
  pointwise [val_main_v50, val_main_v51, val_main_v52, val_main_v53]
  congr 2 <;> exact Fin.ext (by dsimp only; omega)

/-- A differential attention's query before it is normalised, of the `s`-th half of a head. -/
theorem query'_at (b : Fin 32) (h : Fin 4) (r : Fin 256) (s : Fin 2) (d : Fin 32) : val_main_v86 (F := Ideal) x0 (ix5 b h r s d) = x0 (ix2 ⟨b.val * 256 + r.val, by omega⟩ ⟨1280 + (64 * h.val + (32 * s.val + d.val)), by omega⟩) := by
  pointwise [val_main_v82, val_main_v83, val_main_v84, val_main_v85, val_main_v86]
  congr 2 <;> exact Fin.ext (by dsimp only; omega)

/-- A first attention's normalised query. -/
theorem normedq_at (b : Fin 32) (h : Fin 4) (r : Fin 256) (d : Fin 64) : val_main_v66 (F := Ideal) x0 x1 (ix4 b h r d)
    = val_main_v53 (F := Ideal) x0 (ix4 b h r d) * Ideal.rsqrt (Ideal.div (∑ j : Fin 64, val_main_v53 (F := Ideal) x0 (ix4 b h r j) * val_main_v53 (F := Ideal) x0 (ix4 b h r j)) (Ideal.ofBits FTy.f32 0x42800000#32)
        + Ideal.ofBits FTy.f32 0x358637BD#32) * x1 (ix1 d) := by
  pointwise [val_main_v54, val_main_v55, val_main_v56, val_main_v57, val_main_v58, val_main_v59, val_main_v60, val_main_v61, val_main_v62, val_main_v63, val_main_v64, val_main_v65, val_main_v66, val_main_cst_5, val_main_cst_6, val_main_cst_7]

/-- A differential attention's normalised query. -/
theorem normedq'_at (b : Fin 32) (h : Fin 4) (r : Fin 256) (s : Fin 2) (d : Fin 32) : val_main_v99 (F := Ideal) x0 x3 (ix5 b h r s d)
    = val_main_v86 (F := Ideal) x0 (ix5 b h r s d) * Ideal.rsqrt (Ideal.div (∑ j : Fin 32, val_main_v86 (F := Ideal) x0 (ix5 b h r s j) * val_main_v86 (F := Ideal) x0 (ix5 b h r s j)) (Ideal.ofBits FTy.f32 0x42000000#32)
        + Ideal.ofBits FTy.f32 0x358637BD#32) * x3 (ix1 d) := by
  pointwise [val_main_v87, val_main_v88, val_main_v89, val_main_v90, val_main_v91, val_main_v92, val_main_v93, val_main_v94, val_main_v95, val_main_v96, val_main_v97, val_main_v98, val_main_v99, val_main_cst_12, val_main_cst_13, val_main_cst_14]

/-- A first attention's score. -/
theorem v69_at (b : Fin 32) (h : Fin 4) (r x : Fin 256) : val_main_v69 (F := Ideal) x0 x1 x2 (ix4 b h r x)
    = (∑ j : Fin 64, val_main_v66 (F := Ideal) x0 x1 (ix4 b h r j) * val_main_v16 (F := Ideal) x0 x2 (ix4 b h x j)) * Ideal.ofBits FTy.f32 0x3E000000#32 := by
  pointwise [val_main_v67, val_main_v68, val_main_v69, val_main_cst_8]

/-- A score of the first halves, -/
theorem v122_at (b : Fin 32) (h : Fin 4) (r x : Fin 256) : val_main_v122 (F := Ideal) x0 x3 x4 (ix4 b h r x)
    = (∑ j : Fin 32, val_main_v99 (F := Ideal) x0 x3 (ix5 b h r (0 : Fin 2) j) * val_main_v38 (F := Ideal) x0 x4 (ix5 b h x (0 : Fin 2) j)) * Ideal.ofBits FTy.f32 0x3E3504F3#32 := by
  pointwise [val_main_v116, val_main_v117, val_main_v118, val_main_v119, val_main_v120, val_main_v121, val_main_v122, val_main_cst_18]

/-- and one of the second halves. -/
theorem v129_at (b : Fin 32) (h : Fin 4) (r x : Fin 256) : val_main_v129 (F := Ideal) x0 x3 x4 (ix4 b h r x)
    = (∑ j : Fin 32, val_main_v99 (F := Ideal) x0 x3 (ix5 b h r (1 : Fin 2) j) * val_main_v38 (F := Ideal) x0 x4 (ix5 b h x (1 : Fin 2) j)) * Ideal.ofBits FTy.f32 0x3E3504F3#32 := by
  pointwise [val_main_v123, val_main_v124, val_main_v125, val_main_v126, val_main_v127, val_main_v128, val_main_v129, val_main_cst_19]

/-- The proportion. -/
theorem v115_at : val_main_v115 (F := Ideal) x6 ix0
    = lamOf (fun x => x6 (ix2 (0 : Fin 4) x)) (fun x => x6 (ix2 (1 : Fin 4) x)) (fun x => x6 (ix2 (2 : Fin 4) x)) (fun x => x6 (ix2 (3 : Fin 4) x)) := by
  pointwise [val_main_v100, val_main_v101, val_main_v102, val_main_v103, val_main_v104, val_main_v105, val_main_v106, val_main_v107, val_main_v108, val_main_v109, val_main_v110, val_main_v111, val_main_v112, val_main_v113, val_main_v114, val_main_v115, val_main_cst_15, val_main_cst_16, val_main_cst_17, lamOf]

/-- Every row has a key. -/
theorem row_key (b : Fin 32) (h : Fin 4) (r : Fin 256) : (reducesTo_S32x4x256x256_S32x4x256_d3).drop (ix4 b h r (0 : Fin 256)) = ix3 b h r := by
  funext a
  fin_cases a <;> rfl

/-- A row's weights before they are normalised: any scores, any array in the place of the row maxima. -/
theorem shifted_at (s : FVec Ideal S32x4x256x256 .f32) (M : FVec Ideal S32x4x256 .f32) (b : Fin 32) (h : Fin 4) (r x : Fin 256) :
    Host.exp (subf s (broadcastInDim S32x4x256x256 ![0, 1, 2, 3] bcast_S32x4x256x1_S32x4x256x256_0_1_2_3
        (broadcastInDim S32x4x256x1 ![0, 1, 2] bcast_S32x4x256_S32x4x256x1_0_1_2
          (maximumf (broadcastInDim S32x4x256 ![] bcast_S_S32x4x256 (constant (F := Ideal) S_ .f32 0xFF800000#32)) M)))) (ix4 b h r x)
      = Ideal.exp (s (ix4 b h r x) - max (Ideal.ofBits FTy.f32 0xFF800000#32) (M (ix3 b h r))) := by
  pointwise []

/-- A row's quotients by its sum: any array in the place of the weights before they are normalised. -/
theorem quotients_at (e : FVec Ideal S32x4x256x256 .f32) (b : Fin 32) (h : Fin 4) (r x : Fin 256) :
    Host.divf e (broadcastInDim S32x4x256x256 ![0, 1, 2, 3] bcast_S32x4x256x1_S32x4x256x256_0_1_2_3
        (broadcastInDim S32x4x256x1 ![0, 1, 2] bcast_S32x4x256_S32x4x256x1_0_1_2
          (Host.reduceAdd e (constant (F := Ideal) S_ .f32 0x00000000#32) reducesTo_S32x4x256x256_S32x4x256_d3 h_S_))) (ix4 b h r x)
      = Ideal.div (e (ix4 b h r x)) (∑ y : Fin 256, e (ix4 b h r y)) := by
  pointwise []

/-- A row's weights as the reference has them: any real scores, and the row maxima of them. -/
theorem weights_at (s e : FVec Ideal S32x4x256x256 .f32) (M : FVec Ideal S32x4x256 .f32) (t : Fin 32 → Fin 4 → Fin 256 → Fin 256 → ℝ)
    (hs : ∀ b h r x, s (ix4 b h r x) = (t b h r x : EReal))
    (hM : M = Host.reduce (FloatOps.maximumf (F := Ideal) (φ := .f32)) s (constant (F := Ideal) S_ .f32 0xFF800000#32) reducesTo_S32x4x256x256_S32x4x256_d3 h_S_)
    (he : e = Host.exp (subf s (broadcastInDim S32x4x256x256 ![0, 1, 2, 3] bcast_S32x4x256x1_S32x4x256x256_0_1_2_3
        (broadcastInDim S32x4x256x1 ![0, 1, 2] bcast_S32x4x256_S32x4x256x1_0_1_2
          (maximumf (broadcastInDim S32x4x256 ![] bcast_S_S32x4x256 (constant (F := Ideal) S_ .f32 0xFF800000#32)) M)))))
    (b : Fin 32) (h : Fin 4) (r x : Fin 256) :
    Host.divf e (broadcastInDim S32x4x256x256 ![0, 1, 2, 3] bcast_S32x4x256x1_S32x4x256x256_0_1_2_3
        (broadcastInDim S32x4x256x1 ![0, 1, 2] bcast_S32x4x256_S32x4x256x1_0_1_2
          (Host.reduceAdd e (constant (F := Ideal) S_ .f32 0x00000000#32) reducesTo_S32x4x256x256_S32x4x256_d3 h_S_))) (ix4 b h r x)
      = (weight (t b h r) x : EReal) := by
  have hr : IsReal (M (ix3 b h r)) := by
    rw [hM]
    refine max_real _ _ _ _ _ (fun i => negInf) _ (row_key b h r) fun i => ?_
    obtain ⟨a, b, c, d, rfl⟩ : ∃ a b c d, i = ix4 a b c d := ⟨i 0, i 1, i 2, i 3, eq_ix4 i⟩
    exact ⟨_, hs a b c d⟩
  obtain ⟨μ, hμ⟩ := hr
  have e' : ∀ x, e (ix4 b h r x) = Ideal.exp ((t b h r x : EReal) - (μ : EReal)) := fun x => by
    rw [he, shifted_at, hs, hμ, negInf, max_eq_right bot_le]
  rw [quotients_at]
  simp only [e']
  exact softmax_coe (t b h r) μ x

/-- The first attention's head. -/
theorem v81_at (b : Fin 32) (h : Fin 4) (r : Fin 256) (d : Fin 64) : val_main_v81 (F := Ideal) x0 x1 x2 (ix4 b h r d)
    = ∑ x : Fin 256, val_main_v80 (F := Ideal) x0 x1 x2 (ix4 b h r x) * val_main_v20 (F := Ideal) x0 (ix4 b h x d) := by
  pointwise [val_main_v81]

/-- The differential attention's head. -/
theorem v155_at (b : Fin 32) (h : Fin 4) (r : Fin 256) (d : Fin 64) : val_main_v155 (F := Ideal) x0 x3 x4 x6 (ix4 b h r d)
    = ∑ x : Fin 256, (val_main_v140 (F := Ideal) x0 x3 x4 (ix4 b h r x) - val_main_v115 (F := Ideal) x6 ix0 * val_main_v151 (F := Ideal) x0 x3 x4 (ix4 b h r x))
        * val_main_v42 (F := Ideal) x0 (ix4 b h x d) := by
  pointwise [val_main_v152, val_main_v153, val_main_v154, val_main_v155]

/-- The first result, of its heads. -/
theorem v172_at (R : Fin 8192) (l : Fin 256) : val_main_v172 (F := Ideal) x0 x1 x2 (ix2 R l)
    = val_main_v81 (F := Ideal) x0 x1 x2 (ix4 ⟨R.val / 256, by omega⟩ ⟨l.val / 64, by omega⟩ ⟨R.val % 256, by omega⟩ ⟨l.val % 64, by omega⟩) := by
  pointwise [val_main_v171, val_main_v172]

/-- The second result, of its heads. -/
theorem v174_at (R : Fin 8192) (l : Fin 256) : val_main_v174 (F := Ideal) x0 x3 x4 x5 x6 (ix2 R l)
    = val_main_v155 (F := Ideal) x0 x3 x4 x6 (ix4 ⟨R.val / 256, by omega⟩ ⟨l.val / 64, by omega⟩ ⟨R.val % 256, by omega⟩ ⟨l.val % 64, by omega⟩)
          * Ideal.rsqrt (Ideal.div (∑ x : Fin 64, val_main_v155 (F := Ideal) x0 x3 x4 x6 (ix4 ⟨R.val / 256, by omega⟩ ⟨l.val / 64, by omega⟩ ⟨R.val % 256, by omega⟩ x)
              * val_main_v155 (F := Ideal) x0 x3 x4 x6 (ix4 ⟨R.val / 256, by omega⟩ ⟨l.val / 64, by omega⟩ ⟨R.val % 256, by omega⟩ x))
            (Ideal.ofBits FTy.f32 0x42800000#32) + Ideal.ofBits FTy.f32 0x358637BD#32)
        * x5 (ix1 ⟨l.val % 64, by omega⟩) * Ideal.ofBits FTy.f32 0x3F4CCCCD#32 := by
  pointwise [val_main_v156, val_main_v157, val_main_v158, val_main_v159, val_main_v160, val_main_v161, val_main_v162, val_main_v163, val_main_v164, val_main_v165, val_main_v166, val_main_v167, val_main_v168, val_main_v169, val_main_v170, val_main_cst_26, val_main_cst_27, val_main_cst_28, val_main_cst_29, val_main_v173, val_main_v174]

end Cert.CtxRefIdeal.Rows

end
-- ==== Proof.CtxRefResults.lean ====
/- The context attention's reference over real arguments. -/
module

public import proofs.«01_k».proof.Proof.CtxRefStages

@[expose] public section

set_option maxRecDepth 16384

noncomputable section

open Idealize.ShloMosaic Idealize.ShloMosaic.TcCoe Idealize.SL.Sem

namespace Cert.CtxRefIdeal.Rows

open Cert.CtxRefIdeal Cert.CtxRefIdeal.Gen Cert.CtxRefIdeal.Read Cert.CtxAttn Cert.DiffAttn
open Cert.DiffIdeal.Rows (coe_sum IsReal)

/-- A lane of a head's 64 real ones, normalised as the reference has it. -/
theorem norm64_of (q : Fin 256 → ℝ) (x : Fin 64 → EReal) (h : Fin 4) (hx : ∀ j, x j = (q ⟨64 * h.val + j.val, by omega⟩ : EReal)) (g : EReal) (d : Fin 64) :
    x d * Ideal.rsqrt (Ideal.div (∑ j : Fin 64, x j * x j) (Ideal.ofBits FTy.f32 0x42800000#32) + Ideal.ofBits FTy.f32 0x358637BD#32) * g = norm64 q ⟨64 * h.val + d.val, by omega⟩ g := by
  have e : ∀ j : Fin 64, (⟨(64 * h.val + d.val) / 64 * 64 + j.val, by omega⟩ : Fin 256) = ⟨64 * h.val + j.val, by omega⟩ := fun j => Fin.ext (by dsimp only; omega)
  simp only [hx]
  rw [sum_mul_coe, div_64]
  unfold norm64
  simp only [e]

/-- A lane of a half head's 32 real ones, normalised as the reference has it. -/
theorem norm32_of (q : Fin 256 → ℝ) (x : Fin 32 → EReal) (h : Fin 4) (s : Fin 2) (hx : ∀ j, x j = (q ⟨64 * h.val + (32 * s.val + j.val), by omega⟩ : EReal)) (g : EReal) (d : Fin 32) :
    x d * Ideal.rsqrt (Ideal.div (∑ j : Fin 32, x j * x j) (Ideal.ofBits FTy.f32 0x42000000#32) + Ideal.ofBits FTy.f32 0x358637BD#32) * g
      = norm32 q ⟨64 * h.val + (32 * s.val + d.val), by omega⟩ g := by
  have e : ∀ j : Fin 32, (⟨32 * ((64 * h.val + (32 * s.val + d.val)) / 32) + j.val, by omega⟩ : Fin 256) = ⟨64 * h.val + (32 * s.val + j.val), by omega⟩ := fun j => Fin.ext (by dsimp only; omega)
  simp only [hx]
  rw [sum_mul_coe, div_32]
  unfold norm32
  simp only [e]

variable (x0 : (⟨S16384x2560, .f32⟩ : BufTy).Contents (Elt Ideal)) (x1 x2 : (⟨S64, .f32⟩ : BufTy).Contents (Elt Ideal)) (x3 x4 : (⟨S32, .f32⟩ : BufTy).Contents (Elt Ideal))
  (x5 : (⟨S64, .f32⟩ : BufTy).Contents (Elt Ideal)) (x6 : (⟨S4x32, .f32⟩ : BufTy).Contents (Elt Ideal))

variable {q k q' k' v' Q K Q' K' : Fin 8192 → Fin 256 → ℝ} {lam : ℝ}
variable (H : RealCtx (fun r l => x0 (ix2 r l)) (fun d => x1 (ix1 d)) (fun d => x2 (ix1 d)) (fun d => x3 (ix1 d)) (fun d => x4 (ix1 d)) (fun s x => x6 (ix2 s x)) q k q' k' v' Q K Q' K' lam)

/-- A token of a sequence. -/
def token (b : Fin 32) (r : Fin 256) : Fin 8192 := ⟨b.val * 256 + r.val, by omega⟩

theorem mod_64 (h : Fin 4) (d : Fin 64) : (⟨(64 * h.val + d.val) % 64, by omega⟩ : Fin 64) = d := Fin.ext (by dsimp only; omega)

theorem mod_32 (h : Fin 4) (s : Fin 2) (d : Fin 32) : (⟨(64 * h.val + (32 * s.val + d.val)) % 32, by omega⟩ : Fin 32) = d := Fin.ext (by dsimp only; omega)

include H

/-- The first attention's normalised queries, -/
theorem v66_coe (b : Fin 32) (h : Fin 4) (r : Fin 256) (d : Fin 64) : val_main_v66 (F := Ideal) x0 x1 (ix4 b h r d) = (Q (token b r) ⟨64 * h.val + d.val, by omega⟩ : EReal) := by
  rw [normedq_at, ← H.hQ, mod_64]
  exact norm64_of (q (token b r)) (fun d => val_main_v53 (F := Ideal) x0 (ix4 b h r d)) h (fun j => (query_at x0 b h r j).trans (H.hq (token b r) ⟨64 * h.val + j.val, by omega⟩)) _ d

/-- and keys. -/
theorem v16_coe (b : Fin 32) (h : Fin 4) (r : Fin 256) (d : Fin 64) : val_main_v16 (F := Ideal) x0 x2 (ix4 b h r d) = (K (token b r) ⟨64 * h.val + d.val, by omega⟩ : EReal) := by
  rw [normed_at, ← H.hK, mod_64]
  exact norm64_of (k (token b r)) (fun d => val_main_v3 (F := Ideal) x0 (ix4 b h r d)) h (fun j => (key_at x0 b h r j).trans (H.hk (token b r) ⟨64 * h.val + j.val, by omega⟩)) _ d

/-- The differential attention's normalised queries, -/
theorem v99_coe (b : Fin 32) (h : Fin 4) (r : Fin 256) (s : Fin 2) (d : Fin 32) :
    val_main_v99 (F := Ideal) x0 x3 (ix5 b h r s d) = (Q' (token b r) ⟨64 * h.val + (32 * s.val + d.val), by omega⟩ : EReal) := by
  rw [normedq'_at, ← H.hQ', mod_32]
  exact norm32_of (q' (token b r)) (fun d => val_main_v86 (F := Ideal) x0 (ix5 b h r s d)) h s (fun j => (query'_at x0 b h r s j).trans (H.hq' (token b r) ⟨64 * h.val + (32 * s.val + j.val), by omega⟩)) _ d

/-- and keys. -/
theorem v38_coe (b : Fin 32) (h : Fin 4) (r : Fin 256) (s : Fin 2) (d : Fin 32) :
    val_main_v38 (F := Ideal) x0 x4 (ix5 b h r s d) = (K' (token b r) ⟨64 * h.val + (32 * s.val + d.val), by omega⟩ : EReal) := by
  rw [normed'_at, ← H.hK', mod_32]
  exact norm32_of (k' (token b r)) (fun d => val_main_v25 (F := Ideal) x0 (ix5 b h r s d)) h s (fun j => (key'_at x0 b h r s j).trans (H.hk' (token b r) ⟨64 * h.val + (32 * s.val + j.val), by omega⟩)) _ d

/-- The first attention's scores. -/
theorem v69_coe (b : Fin 32) (h : Fin 4) (r x : Fin 256) : val_main_v69 (F := Ideal) x0 x1 x2 (ix4 b h r x) = (score64 (Q (token b r)) (K (token b x)) h : EReal) := by
  rw [v69_at]
  simp only [v66_coe x0 x1 x2 x3 x4 x6 H, v16_coe x0 x1 x2 x3 x4 x6 H]
  rw [sum_mul_coe, eighth, ← EReal.coe_mul]
  unfold score64
  simp only [mul_comm h.val 64]

/-- A score of half a head, of the reference's word. -/
theorem half_coe (b : Fin 32) (h : Fin 4) (r x : Fin 256) (s : Fin 2) :
    (∑ j : Fin 32, val_main_v99 (F := Ideal) x0 x3 (ix5 b h r s j) * val_main_v38 (F := Ideal) x0 x4 (ix5 b h x s j)) * Ideal.ofBits FTy.f32 0x3E3504F3#32
      = (score32 (Q' (token b r)) (K' (token b x)) ⟨2 * h.val + s.val, by omega⟩ : EReal) := by
  have e : ∀ j : Fin 32, (⟨32 * (2 * h.val + s.val) + j.val, by omega⟩ : Fin 256) = ⟨64 * h.val + (32 * s.val + j.val), by omega⟩ := fun j => Fin.ext (by dsimp only; omega)
  simp only [v99_coe x0 x1 x2 x3 x4 x6 H, v38_coe x0 x1 x2 x3 x4 x6 H]
  rw [sum_mul_coe, ofBits_scale, ← EReal.coe_mul]
  unfold score32 dot32
  simp only [e]

/-- The first attention's weights. -/
theorem v80_coe (b : Fin 32) (h : Fin 4) (r x : Fin 256) :
    val_main_v80 (F := Ideal) x0 x1 x2 (ix4 b h r x) = (weight (fun y => score64 (Q (token b r)) (K (token b y)) h) x : EReal) :=
  weights_at (val_main_v69 (F := Ideal) x0 x1 x2) (val_main_v76 (F := Ideal) x0 x1 x2) (val_main_v70 (F := Ideal) x0 x1 x2)
    (fun b h r y => score64 (Q (token b r)) (K (token b y)) h) (v69_coe x0 x1 x2 x3 x4 x6 H) rfl rfl b h r x

/-- The first halves' weights, -/
theorem v140_coe (b : Fin 32) (h : Fin 4) (r x : Fin 256) :
    val_main_v140 (F := Ideal) x0 x3 x4 (ix4 b h r x) = (weight (fun y => score32 (Q' (token b r)) (K' (token b y)) ⟨2 * h.val, by omega⟩) x : EReal) :=
  weights_at (val_main_v122 (F := Ideal) x0 x3 x4) (val_main_v136 (F := Ideal) x0 x3 x4) (val_main_v130 (F := Ideal) x0 x3 x4)
    (fun b h r y => score32 (Q' (token b r)) (K' (token b y)) ⟨2 * h.val, by omega⟩) (fun b h r y => (v122_at x0 x3 x4 b h r y).trans (half_coe x0 x1 x2 x3 x4 x6 H b h r y 0)) rfl rfl b h r x

/-- and the second halves'. -/
theorem v151_coe (b : Fin 32) (h : Fin 4) (r x : Fin 256) :
    val_main_v151 (F := Ideal) x0 x3 x4 (ix4 b h r x) = (weight (fun y => score32 (Q' (token b r)) (K' (token b y)) ⟨2 * h.val + 1, by omega⟩) x : EReal) :=
  weights_at (val_main_v129 (F := Ideal) x0 x3 x4) (val_main_v147 (F := Ideal) x0 x3 x4) (val_main_v141 (F := Ideal) x0 x3 x4)
    (fun b h r y => score32 (Q' (token b r)) (K' (token b y)) ⟨2 * h.val + 1, by omega⟩) (fun b h r y => (v129_at x0 x3 x4 b h r y).trans (half_coe x0 x1 x2 x3 x4 x6 H b h r y 1)) rfl rfl b h r x

/-- The differential attention's head. -/
theorem v155_coe (b : Fin 32) (h : Fin 4) (r : Fin 256) (d : Fin 64) : val_main_v155 (F := Ideal) x0 x3 x4 x6 (ix4 b h r d)
    = (contrasted lam (Q' (token b r)) (fun x => K' (token b x)) (fun x => v' (token b x) ⟨64 * h.val + d.val, by omega⟩) h : EReal) := by
  have e : val_main_v115 (F := Ideal) x6 ix0 = (lam : EReal) := (v115_at x6).trans H.hlam
  have ev : ∀ x : Fin 256, val_main_v42 (F := Ideal) x0 (ix4 b h x d) = (v' (token b x) ⟨64 * h.val + d.val, by omega⟩ : EReal) := fun x => (value'_at x0 b h x d).trans (H.hv' (token b x) ⟨64 * h.val + d.val, by omega⟩)
  rw [v155_at]
  simp only [e, ev, v140_coe x0 x1 x2 x3 x4 x6 H, v151_coe x0 x1 x2 x3 x4 x6 H, ← EReal.coe_mul, ← EReal.coe_sub]
  rw [← coe_sum]
  rfl

/-- The first result at a token and a lane, of real arguments. -/
theorem ref172_at (R : Fin 8192) (l : Fin 256) : val_main_v172 (F := Ideal) x0 x1 x2 (ix2 R l)
    = result64 Q K (fun r l => x0 (ix2 ⟨r.val, by omega⟩ ⟨1024 + l.val, by omega⟩)) R l := by
  rw [v172_at, v81_at]
  simp only [v80_coe x0 x1 x2 x3 x4 x6 H, value_at]
  unfold result64 attended
  have el : (⟨1024 + (64 * (l.val / 64) + l.val % 64), by omega⟩ : Fin 2560) = ⟨1024 + l.val, by omega⟩ := Fin.ext (by dsimp only; omega)
  have er : token ⟨R.val / 256, by omega⟩ ⟨R.val % 256, by omega⟩ = R := Fin.ext (by show R.val / 256 * 256 + R.val % 256 = R.val; omega)
  simp only [el, er]
  rfl

/-- The second result at a token and a lane, of real arguments. -/
theorem ref174_at (R : Fin 8192) (l : Fin 256) : val_main_v174 (F := Ideal) x0 x3 x4 x5 x6 (ix2 R l)
    = result32 lam Q' K' v' R l (x5 (ix1 ⟨l.val % 64, by omega⟩)) := by
  rw [v174_at]
  have er : token ⟨R.val / 256, by omega⟩ ⟨R.val % 256, by omega⟩ = R := Fin.ext (by show R.val / 256 * 256 + R.val % 256 = R.val; omega)
  have el : (⟨64 * (l.val / 64) + l.val % 64, by omega⟩ : Fin 256) = l := Fin.ext (by dsimp only; omega)
  have o : ∀ d : Fin 64, val_main_v155 (F := Ideal) x0 x3 x4 x6 (ix4 ⟨R.val / 256, by omega⟩ ⟨l.val / 64, by omega⟩ ⟨R.val % 256, by omega⟩ d)
      = ((fun l : Fin 256 => contrasted lam (Q' R) (fun x => K' (mate R x)) (fun x => v' (mate R x) l) ⟨l.val / 64, by omega⟩) ⟨64 * (l.val / 64) + d.val, by omega⟩ : ℝ) := fun d => by
    have eh : (⟨(64 * (l.val / 64) + d.val) / 64, by omega⟩ : Fin 4) = ⟨l.val / 64, by omega⟩ := Fin.ext (by dsimp only; omega)
    rw [v155_coe x0 x1 x2 x3 x4 x6 H, er]
    dsimp only
    rw [eh]
    rfl
  refine congrArg (· * _) ((norm64_of (fun l : Fin 256 => contrasted lam (Q' R) (fun x => K' (mate R x)) (fun x => v' (mate R x) l) ⟨l.val / 64, by omega⟩)
    (fun d => val_main_v155 (F := Ideal) x0 x3 x4 x6 (ix4 ⟨R.val / 256, by omega⟩ ⟨l.val / 64, by omega⟩ ⟨R.val % 256, by omega⟩ d)) ⟨l.val / 64, by omega⟩ o _ ⟨l.val % 64, by omega⟩).trans ?_)
  dsimp only
  rw [el]

end Cert.CtxRefIdeal.Rows

end
-- ==== Proof.CtxClaim.lean ====
/- The context attention's value claim: over finite arguments the launch leaves the four results that the reference's terms are. -/
module

public import proofs.«01_k».proof.Defs
public import proofs.«01_k».proof.Proof.CtxFinite
public import proofs.«01_k».proof.Proof.CtxStates
public import proofs.«01_k».proof.Proof.CtxResults
public import proofs.«01_k».proof.Proof.CtxRefResults
public import proofs.«01_k».proof.Proof.Gen.CtxRefIdeal.Run

@[expose] public section

noncomputable section

open Idealize.ShloMosaic Idealize.SL.Sem

namespace Cert.CtxAttn

open Cert.CtxIdeal.Rows (RealArr)

/-- The real numbers that admitted arguments are, on one device. -/
theorem realArr_of (m : (ℓ : Loc Cert.CtxIdeal.nD Cert.CtxIdeal.τ Cert.CtxIdeal.sig) → Buf (Elt Ideal) ℓ) (hp : Cert.Pre_CtxIdeal_ctx_finite m) (c : Dev Cert.CtxIdeal.nD) :
    ∃ q k q' k' v' Q K Q' K' lam, RealArr m c q k q' k' v' Q K Q' K' lam :=
  Cert.Pre_ctx_finite.Rows.real_ctx _ _ _ _ _ _ _ (hp c)

/-- The context attention and its reference, from the same finite arguments, end with the same four results. -/
theorem ctx_claim : Cert.algebraic_CtxIdeal_CtxRefIdeal_pre_ctx_finite := by
  intro m g m' g' hp hm
  choose q k q' k' v' Q K Q' K' lam H using realArr_of m hp
  refine ⟨fun c => Cert.CtxIdeal.Rows.value12 m (Q c) (K c) c, fun c => Cert.CtxIdeal.Rows.value13 m (lam c) (Q' c) (K' c) (v' c) c,
    fun c => Cert.CtxIdeal.Rows.value14 m (k c) c, fun c => Cert.CtxIdeal.Rows.value15 m (k' c) c, ?_, ?_⟩
  · refine (θ_run _ _ _).mono (fun r h c => ?_) (Cert.CtxIdeal.Value.run_blocks m g)
    exact ⟨(h c).1.trans (Cert.CtxIdeal.Rows.array_eq12 m c (H c)), (h c).2.1.trans (Cert.CtxIdeal.Rows.array_eq13 m c (H c)),
      (h c).2.2.1.trans (Cert.CtxIdeal.Rows.array_eq14 m c (H c).toRealKeys), (h c).2.2.2.1.trans (Cert.CtxIdeal.Rows.array_eq15 m c (H c).toRealKeys), (h c).2.2.2.2⟩
  · refine (θ_run _ _ _).mono (fun r h c => ?_) (Cert.CtxRefIdeal.Value.run m' g')
    obtain ⟨h0, h1, h2, h3, h4, h5, h6⟩ := hm c
    refine ⟨(h c).1.trans ?_, (h c).2.1.trans ?_, (h c).2.2.1.trans ?_, (h c).2.2.2.1.trans ?_, (h c).2.2.2.2⟩
    · refine (Cert.CtxRefIdeal.Read.val_main_v172_eq (StableHlo.launchContents m' c)).trans ?_
      show Cert.CtxRefIdeal.Read.val_main_v172 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) = _
      rw [h0, h1, h2]
      funext i
      obtain ⟨a, b, rfl⟩ : ∃ a b, i = ix2 a b := ⟨i 0, i 1, eq_ix2 i⟩
      exact Cert.CtxRefIdeal.Rows.ref172_at _ _ _ _ _ _ (H c) a b
    · refine (Cert.CtxRefIdeal.Read.val_main_v174_eq (StableHlo.launchContents m' c)).trans ?_
      show Cert.CtxRefIdeal.Read.val_main_v174 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg5)) (m' ((c.tc : Thread Cert.CtxRefIdeal.nD Cert.CtxRefIdeal.τ).loc Cert.CtxRefIdeal.main_arg6)) = _
      rw [h0, h3, h4, h5, h6]
      funext i
      obtain ⟨a, b, rfl⟩ : ∃ a b, i = ix2 a b := ⟨i 0, i 1, eq_ix2 i⟩
      exact Cert.CtxRefIdeal.Rows.ref174_at _ _ _ _ _ _ _ (H c) a b
    · refine (Cert.CtxRefIdeal.Read.val_main_v45_eq (StableHlo.launchContents m' c)).trans ?_
      show Cert.CtxRefIdeal.Read.val_main_v45 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg2)) = _
      rw [h0, h2]
      funext i
      obtain ⟨a, b, d, e, f, rfl⟩ : ∃ a b d e f, i = ix5 a b d e f := ⟨i 0, i 1, i 2, i 3, i 4, eq_ix5 i⟩
      exact Cert.CtxRefIdeal.Rows.ref45_at _ _ (H c).toRealKeys a b d e f
    · refine (Cert.CtxRefIdeal.Read.val_main_v49_eq (StableHlo.launchContents m' c)).trans ?_
      show Cert.CtxRefIdeal.Read.val_main_v49 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg4)) = _
      rw [h0, h4]
      funext i
      obtain ⟨a, b, d, e, f, rfl⟩ : ∃ a b d e f, i = ix5 a b d e f := ⟨i 0, i 1, i 2, i 3, i 4, eq_ix5 i⟩
      exact Cert.CtxRefIdeal.Rows.ref49_at _ _ (H c).toRealKeys a b d e f

end Cert.CtxAttn

end
-- ==== Proof.lean ====
module

public import proofs.«01_k».proof.Defs
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Pre_diff_finite
public import proofs.«01_k».proof.Proof.Gen.InProjIdeal.Value
public import proofs.«01_k».proof.Proof.Gen.OutProjIdeal.Value
public import proofs.«01_k».proof.Proof.Gen.InProjRefIdeal.Run
public import proofs.«01_k».proof.Proof.Gen.InProjRefIdeal.Read
public import proofs.«01_k».proof.Proof.Gen.OutProjRefIdeal.Run
public import proofs.«01_k».proof.Proof.Gen.OutProjRefIdeal.Read
public import proofs.«01_k».proof.Proof.Gen.DiffRefIdeal.Run
public import proofs.«01_k».proof.Proof.Gen.DiffRefIdeal.Read
public import proofs.«01_k».proof.Proof.DiffFrame
public import proofs.«01_k».proof.Proof.DiffIdealFrame
public import proofs.«01_k».proof.Proof.ProjClaims
public import proofs.«01_k».proof.Proof.DiffClaim
public import proofs.«01_k».proof.Proof.CtxClaim
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.Pre_ctx_finite
public import Idealize.ShloMosaic.Adequacy
public import Idealize.ShloMosaic.Init

@[expose] public section

noncomputable section

namespace Cert.Proof

open Idealize.ShloMosaic Idealize.SL.Sem Cert.Diff

/-- The attention's reference runs and leaves its arguments and the counters. -/
theorem diff_reference_frame : Cert.quiescent_DiffRefIdeal := by
  intro m g _
  exact (θ_run _ _ _).mono (fun r h => ⟨fun c => (h c).2, sem_eq_zero_of_no_sems (by decide) r.2⟩) (Cert.DiffRefIdeal.Value.run m g)

/-- The same, stated from finite arguments. -/
theorem diff_reference_frame_pre : Cert.quiescent_DiffRefIdeal_pre_diff_finite := by
  intro m g _
  exact diff_reference_frame m g trivial

/-- The input projection's reference runs and leaves its arguments and the counters. -/
theorem in_reference_frame : Cert.quiescent_InProjRefIdeal := by
  intro m g _
  exact (θ_run _ _ _).mono (fun r h => ⟨fun c => (h c).2, sem_eq_zero_of_no_sems (by decide) r.2⟩) (Cert.InProjRefIdeal.Value.run m g)

/-- The output projection's reference runs and leaves its arguments and the counters. -/
theorem out_reference_frame : Cert.quiescent_OutProjRefIdeal := by
  intro m g _
  exact (θ_run _ _ _).mono (fun r h => ⟨fun c => (h c).2, sem_eq_zero_of_no_sems (by decide) r.2⟩) (Cert.OutProjRefIdeal.Value.run m g)

/-- The context attention's reference runs and leaves its arguments and the counters. -/
theorem ctx_reference_frame : Cert.quiescent_CtxRefIdeal := by
  intro m g _
  exact (θ_run _ _ _).mono (fun r h => ⟨fun c => (h c).2.2.2.2, sem_eq_zero_of_no_sems (by decide) r.2⟩) (Cert.CtxRefIdeal.Value.run m g)

/-- The same, stated from finite arguments. -/
theorem ctx_reference_frame_pre : Cert.quiescent_CtxRefIdeal_pre_ctx_finite := by
  intro m g _
  exact ctx_reference_frame m g trivial

/-- The attention's ideal program: its scale's word is near the named real, and a word shifted right twice by half its width is zero. -/
theorem diff_preserves : Cert.preserves_Diff_DiffIdeal :=
  ⟨IdealRules.named_const.statement Cert.DiffIdeal.κ "score_scale" .f32 0x3E8293EE#32 _ rfl, IdealRules.shift_out.by16TwiceStatement _⟩

/-- Every claim of the certificate. -/
theorem claim : Cert.Claim := ⟨Cert.Diff.Gen.facts, Cert.DiffIdeal.Gen.facts, Cert.DiffRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Ctx.Gen.facts, Cert.CtxIdeal.Gen.facts, Cert.CtxRefIdeal.Gen.facts, Cert.Pre_diff_finite.Gen.facts, Cert.Pre_ctx_finite.Gen.facts,
  fun m ρ _ => Cert.Diff.Body.frame m ρ,
  fun m ρ _ => Cert.DiffIdeal.Body.frame m ρ,
  fun m ρ _ => Cert.DiffIdeal.Body.frame m ρ,
  diff_reference_frame,
  diff_reference_frame_pre,
  fun m ρ _ => Cert.InProj.Gen.frame m ρ,
  fun m ρ _ => Cert.InProjIdeal.Gen.frame m ρ,
  in_reference_frame,
  fun m ρ _ => Cert.OutProj.Gen.frame m ρ,
  fun m ρ _ => Cert.OutProjIdeal.Gen.frame m ρ,
  out_reference_frame,
  fun m ρ _ => Cert.Ctx.Gen.frame m ρ,
  fun m ρ _ => Cert.CtxIdeal.Gen.frame m ρ,
  fun m ρ _ => Cert.CtxIdeal.Gen.frame m ρ,
  ctx_reference_frame,
  ctx_reference_frame_pre,
  diff_preserves,
  Cert.DiffAttn.diff_claim,
  trivial,
  Cert.Proj.in_claim,
  trivial,
  Cert.Proj.out_claim,
  trivial,
  Cert.CtxAttn.ctx_claim⟩

end Cert.Proof

end
